-- ==== Defs.lean ====
def Pre_Kernel [hPre_x_in_vocab : Cert.Pre_x_in_vocab.Facts] (m : (ℓ : Loc Cert.Kernel.nD Cert.Kernel.τ Cert.Kernel.sig) → Buf (Elt Bits) ℓ) : Prop :=
  ∀ c : Dev Cert.Kernel.nD,
    (Cert.Pre_x_in_vocab.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_x_in_vocab : Cert.Pre_x_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_x_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_x_in_vocab [hPre_x_in_vocab : Cert.Pre_x_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_x_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_x_in_vocab : Cert.Pre_x_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_x_in_vocab : Cert.Pre_x_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_x_in_vocab [hReferenceIdeal : Cert.ReferenceIdeal.Facts] [hPre_x_in_vocab : Cert.Pre_x_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_x_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_x_in_vocab : Cert.Pre_x_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_x_in_vocab : Cert.Pre_x_in_vocab.Facts),
    quiescent_Kernel (hKernel := hKernel) (hPre_x_in_vocab := hPre_x_in_vocab)
    ∧ quiescent_KernelIdeal (hKernelIdeal := hKernelIdeal) (hPre_x_in_vocab := hPre_x_in_vocab)
    ∧ quiescent_ReferenceIdeal (hReferenceIdeal := hReferenceIdeal)
    ∧ quiescent_ReferenceIdeal_pre_x_in_vocab (hReferenceIdeal := hReferenceIdeal) (hPre_x_in_vocab := hPre_x_in_vocab)
    ∧ preserves_Kernel_KernelIdeal
    ∧ algebraic_KernelIdeal_ReferenceIdeal (hKernelIdeal := hKernelIdeal) (hReferenceIdeal := hReferenceIdeal) (hPre_x_in_vocab := hPre_x_in_vocab)
-- ==== Pre_x_in_vocab.lean ====
abbrev S4096x200 : Shape := ⟨2, ![4096, 200]⟩
abbrev S7x64 : Shape := ⟨2, ![7, 64]⟩
abbrev S_ : Shape := ⟨0, ![]⟩

class Facts : Prop where
  bcast_S_S4096x200 : S_.BroadcastsInDim S4096x200 (![] : Fin 0 → Fin S4096x200.rank)

variable [Facts]

def fn {F : FTy → Type} [FloatOps F] (main_arg0 : IVec S4096x200 32) (main_arg1 : FVec F S7x64 .f32) : IVec S4096x200 1 :=
  let main_c : IVec S_ 32 := constantI S_ 32 0#32
  let main_v0 : IVec S4096x200 32 := broadcastInDim S4096x200 ![] bcast_S_S4096x200 main_c
  let main_v1 : IVec S4096x200 1 := cmpi .sge main_arg0 main_v0
  let main_c_0 : IVec S_ 32 := constantI S_ 32 7#32
  let main_v2 : IVec S4096x200 32 := broadcastInDim S4096x200 ![] bcast_S_S4096x200 main_c_0
  let main_v3 : IVec S4096x200 1 := cmpi .slt main_arg0 main_v2
  let main_v4 : IVec S4096x200 1 := andi main_v1 main_v3
  main_v4
-- ==== Kernel.lean ====
abbrev S4096x200 : Shape := ⟨2, ![4096, 200]⟩
abbrev S7x64 : Shape := ⟨2, ![7, 64]⟩
abbrev S32x200x128 : Shape := ⟨3, ![32, 200, 128]⟩
abbrev S448 : Shape := ⟨1, ![448]⟩
abbrev S409600x128 : Shape := ⟨2, ![409600, 128]⟩
abbrev S200x128 : Shape := ⟨2, ![200, 128]⟩
abbrev S256x128 : Shape := ⟨2, ![256, 128]⟩
abbrev S_ : Shape := ⟨0, ![]⟩
abbrev S1x200x128 : Shape := ⟨3, ![1, 200, 128]⟩
abbrev S1x16 : Shape := ⟨2, ![1, 16]⟩
abbrev S16 : Shape := ⟨1, ![16]⟩
abbrev S1 : Shape := ⟨1, ![1]⟩
abbrev S4096x12800 : Shape := ⟨2, ![4096, 12800]⟩

abbrev nBuf : Table → Nat
  | .hbm => 6
  | .local .scVector .vmem => 4
  | _ => 0

abbrev bufTy : (tb : Table) → Fin (nBuf tb) → BufTy
  | .hbm, ⟨0, _⟩ => ⟨S4096x200, .i32⟩
  | .hbm, ⟨1, _⟩ => ⟨S7x64, .f32⟩
  | .hbm, ⟨2, _⟩ => ⟨S32x200x128, .i32⟩
  | .hbm, ⟨3, _⟩ => ⟨S448, .f32⟩
  | .hbm, ⟨4, _⟩ => ⟨S409600x128, .f32⟩
  | .hbm, ⟨5, _⟩ => ⟨S4096x12800, .f32⟩
  | .local .scVector .vmem, ⟨0, _⟩ => ⟨S448, .f32⟩
  | .local .scVector .vmem, ⟨1, _⟩ => ⟨S200x128, .i32⟩
  | .local .scVector .vmem, ⟨2, _⟩ => ⟨S256x128, .f32⟩
  | .local .scVector .vmem, ⟨3, _⟩ => ⟨S256x128, .f32⟩
  | _, _ => ⟨S4096x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v1_scv : Ref sig .scVector := ⟨.hbm, 3, rfl⟩
abbrev main_v0_scv : Ref sig .scVector := ⟨.hbm, 2, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_20_r1 : BitVec 32 := 0#32
  let c0_i32_21_r1 : BitVec 32 := 0#32
  ![v1.toNat, 0, 0]
@[reducible] def k0_t1_loop : Scf.Loop 32 :=
  let c0_i32_0 : BitVec 32 := 0#32
  let c32_i32 : BitVec 32 := 32#32
  let v3 : BitVec 32 := Scalar.addi c0_i32_0 c32_i32
  let c1_i32 : BitVec 32 := 1#32
  ⟨c0_i32_0, v3, c1_i32⟩
def k0_off2 (k0_t1 : Fin k0_t1_loop.trips) : Fin 2 → Nat :=
  let c0_i32_20 : BitVec 32 := 0#32
  let c0_i32_0 : BitVec 32 := 0#32
  let c1_i32 : BitVec 32 := 1#32
  let arg11 : BitVec 32 := Scf.iv c0_i32_0 c1_i32 k0_t1
  let c3_i32 : BitVec 32 := 3#32
  let v16 : BitVec 32 := Scalar.shrui arg11 c3_i32
  let v17 : BitVec 32 := Scalar.addi c0_i32_20 v16
  let v20 : Index := Scalar.indexCast v17
  let c7_i32 : BitVec 32 := 7#32
  let v18 : BitVec 32 := Scalar.andi arg11 c7_i32
  let c4_i32 : BitVec 32 := 4#32
  let v19 : BitVec 32 := Scalar.shli v18 c4_i32
  let v21 : Index := Scalar.indexCast v19
  ![v20.toNat, v21.toNat]
def k0_off3 (v28 : BitVec 32) (c0_i32_21 : BitVec 32) : Fin 1 → Nat :=
  let v29 : BitVec 32 := Scalar.addi v28 c0_i32_21
  let v30 : Index := Scalar.indexCast v29
  ![v30.toNat]

def k0_chk1 (v28 : BitVec 32) : Prop :=
  (∀ (r : Fin 4), ∀ a, (k0_off3 v28 (BitVec.ofNat 32 (16 * r.val))) a + S16.size a ≤ S448.size a)
theorem k0_off3_inb : ∀ (v28 : BitVec 32) (k0_hw1 : k0_chk1 v28), ∀ (r : Fin 4), ∀ a, (k0_off3 v28 (BitVec.ofNat 32 (16 * r.val))) a + S16.size a ≤ S448.size a := fun v28 k0_hw1 r => k0_hw1 r

def k0_off4 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c8_i32 : BitVec 32 := 8#32
  let v26 : BitVec 32 := Scalar.muli arg11 c8_i32
  let c0_i32_22 : BitVec 32 := 0#32
  let v33 : BitVec 32 := Scalar.addi v26 c0_i32_22
  let v34 : Index := Scalar.indexCast v33
  let c0 : Index := 0#32
  ![v34.toNat, 0]
def k0_off5 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c8_i32 : BitVec 32 := 8#32
  let v26 : BitVec 32 := Scalar.muli arg11 c8_i32
  let c0_i32_23 : BitVec 32 := 0#32
  let v42 : BitVec 32 := Scalar.addi v26 c0_i32_23
  let v43 : Index := Scalar.indexCast v42
  let c16 : Index := 16#32
  ![v43.toNat, 16]
def k0_off6 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c8_i32 : BitVec 32 := 8#32
  let v26 : BitVec 32 := Scalar.muli arg11 c8_i32
  let c0_i32_25 : BitVec 32 := 0#32
  let v51 : BitVec 32 := Scalar.addi v26 c0_i32_25
  let v52 : Index := Scalar.indexCast v51
  let c32 : Index := 32#32
  ![v52.toNat, 32]
def k0_off7 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c8_i32 : BitVec 32 := 8#32
  let v26 : BitVec 32 := Scalar.muli arg11 c8_i32
  let c0_i32_26 : BitVec 32 := 0#32
  let v60 : BitVec 32 := Scalar.addi v26 c0_i32_26
  let v61 : Index := Scalar.indexCast v60
  let c48 : Index := 48#32
  ![v61.toNat, 48]
def k0_off8 (v66 : BitVec 32) (c0_i32_27 : BitVec 32) : Fin 1 → Nat :=
  let v67 : BitVec 32 := Scalar.addi v66 c0_i32_27
  let v68 : Index := Scalar.indexCast v67
  ![v68.toNat]

def k0_chk2 (v66 : BitVec 32) : Prop :=
  (∀ (r : Fin 4), ∀ a, (k0_off8 v66 (BitVec.ofNat 32 (16 * r.val))) a + S16.size a ≤ S448.size a)
theorem k0_off8_inb : ∀ (v66 : BitVec 32) (k0_hw2 : k0_chk2 v66), ∀ (r : Fin 4), ∀ a, (k0_off8 v66 (BitVec.ofNat 32 (16 * r.val))) a + S16.size a ≤ S448.size a := fun v66 k0_hw2 r => k0_hw2 r

def k0_off9 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c8_i32 : BitVec 32 := 8#32
  let v26 : BitVec 32 := Scalar.muli arg11 c8_i32
  let c0_i32_28 : BitVec 32 := 0#32
  let v71 : BitVec 32 := Scalar.addi v26 c0_i32_28
  let v72 : Index := Scalar.indexCast v71
  let c64 : Index := 64#32
  ![v72.toNat, 64]
def k0_off10 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c8_i32 : BitVec 32 := 8#32
  let v26 : BitVec 32 := Scalar.muli arg11 c8_i32
  let c0_i32_30 : BitVec 32 := 0#32
  let v80 : BitVec 32 := Scalar.addi v26 c0_i32_30
  let v81 : Index := Scalar.indexCast v80
  let c80 : Index := 80#32
  ![v81.toNat, 80]
def k0_off11 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c8_i32 : BitVec 32 := 8#32
  let v26 : BitVec 32 := Scalar.muli arg11 c8_i32
  let c0_i32_32 : BitVec 32 := 0#32
  let v89 : BitVec 32 := Scalar.addi v26 c0_i32_32
  let v90 : Index := Scalar.indexCast v89
  let c96 : Index := 96#32
  ![v90.toNat, 96]
def k0_off12 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c8_i32 : BitVec 32 := 8#32
  let v26 : BitVec 32 := Scalar.muli arg11 c8_i32
  let c0_i32_34 : BitVec 32 := 0#32
  let v98 : BitVec 32 := Scalar.addi v26 c0_i32_34
  let v99 : Index := Scalar.indexCast v98
  let c112 : Index := 112#32
  ![v99.toNat, 112]
def k0_off13 (v104 : BitVec 32) (c0_i32_35 : BitVec 32) : Fin 1 → Nat :=
  let v105 : BitVec 32 := Scalar.addi v104 c0_i32_35
  let v106 : Index := Scalar.indexCast v105
  ![v106.toNat]

def k0_chk3 (v104 : BitVec 32) : Prop :=
  (∀ (r : Fin 4), ∀ a, (k0_off13 v104 (BitVec.ofNat 32 (16 * r.val))) a + S16.size a ≤ S448.size a)
theorem k0_off13_inb : ∀ (v104 : BitVec 32) (k0_hw3 : k0_chk3 v104), ∀ (r : Fin 4), ∀ a, (k0_off13 v104 (BitVec.ofNat 32 (16 * r.val))) a + S16.size a ≤ S448.size a := fun v104 k0_hw3 r => k0_hw3 r

def k0_off14 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c8_i32 : BitVec 32 := 8#32
  let v26 : BitVec 32 := Scalar.muli arg11 c8_i32
  let c1_i32_36 : BitVec 32 := 1#32
  let v109 : BitVec 32 := Scalar.addi v26 c1_i32_36
  let v110 : Index := Scalar.indexCast v109
  let c0_37 : Index := 0#32
  ![v110.toNat, 0]
def k0_off15 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c8_i32 : BitVec 32 := 8#32
  let v26 : BitVec 32 := Scalar.muli arg11 c8_i32
  let c1_i32_39 : BitVec 32 := 1#32
  let v118 : BitVec 32 := Scalar.addi v26 c1_i32_39
  let v119 : Index := Scalar.indexCast v118
  let c16_40 : Index := 16#32
  ![v119.toNat, 16]
def k0_off16 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c8_i32 : BitVec 32 := 8#32
  let v26 : BitVec 32 := Scalar.muli arg11 c8_i32
  let c1_i32_42 : BitVec 32 := 1#32
  let v127 : BitVec 32 := Scalar.addi v26 c1_i32_42
  let v128 : Index := Scalar.indexCast v127
  let c32_43 : Index := 32#32
  ![v128.toNat, 32]
def k0_off17 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c8_i32 : BitVec 32 := 8#32
  let v26 : BitVec 32 := Scalar.muli arg11 c8_i32
  let c1_i32_45 : BitVec 32 := 1#32
  let v136 : BitVec 32 := Scalar.addi v26 c1_i32_45
  let v137 : Index := Scalar.indexCast v136
  let c48_46 : Index := 48#32
  ![v137.toNat, 48]
def k0_off18 (v142 : BitVec 32) (c0_i32_47 : BitVec 32) : Fin 1 → Nat :=
  let v143 : BitVec 32 := Scalar.addi v142 c0_i32_47
  let v144 : Index := Scalar.indexCast v143
  ![v144.toNat]

def k0_chk4 (v142 : BitVec 32) : Prop :=
  (∀ (r : Fin 4), ∀ a, (k0_off18 v142 (BitVec.ofNat 32 (16 * r.val))) a + S16.size a ≤ S448.size a)
theorem k0_off18_inb : ∀ (v142 : BitVec 32) (k0_hw4 : k0_chk4 v142), ∀ (r : Fin 4), ∀ a, (k0_off18 v142 (BitVec.ofNat 32 (16 * r.val))) a + S16.size a ≤ S448.size a := fun v142 k0_hw4 r => k0_hw4 r

def k0_off19 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c8_i32 : BitVec 32 := 8#32
  let v26 : BitVec 32 := Scalar.muli arg11 c8_i32
  let c1_i32_48 : BitVec 32 := 1#32
  let v147 : BitVec 32 := Scalar.addi v26 c1_i32_48
  let v148 : Index := Scalar.indexCast v147
  let c64_49 : Index := 64#32
  ![v148.toNat, 64]
def k0_off20 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c8_i32 : BitVec 32 := 8#32
  let v26 : BitVec 32 := Scalar.muli arg11 c8_i32
  let c1_i32_51 : BitVec 32 := 1#32
  let v156 : BitVec 32 := Scalar.addi v26 c1_i32_51
  let v157 : Index := Scalar.indexCast v156
  let c80_52 : Index := 80#32
  ![v157.toNat, 80]
def k0_off21 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c8_i32 : BitVec 32 := 8#32
  let v26 : BitVec 32 := Scalar.muli arg11 c8_i32
  let c1_i32_54 : BitVec 32 := 1#32
  let v165 : BitVec 32 := Scalar.addi v26 c1_i32_54
  let v166 : Index := Scalar.indexCast v165
  let c96_55 : Index := 96#32
  ![v166.toNat, 96]
def k0_off22 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c8_i32 : BitVec 32 := 8#32
  let v26 : BitVec 32 := Scalar.muli arg11 c8_i32
  let c1_i32_57 : BitVec 32 := 1#32
  let v174 : BitVec 32 := Scalar.addi v26 c1_i32_57
  let v175 : Index := Scalar.indexCast v174
  let c112_58 : Index := 112#32
  ![v175.toNat, 112]
def k0_off23 (v180 : BitVec 32) (c0_i32_59 : BitVec 32) : Fin 1 → Nat :=
  let v181 : BitVec 32 := Scalar.addi v180 c0_i32_59
  let v182 : Index := Scalar.indexCast v181
  ![v182.toNat]

def k0_chk5 (v180 : BitVec 32) : Prop :=
  (∀ (r : Fin 4), ∀ a, (k0_off23 v180 (BitVec.ofNat 32 (16 * r.val))) a + S16.size a ≤ S448.size a)
theorem k0_off23_inb : ∀ (v180 : BitVec 32) (k0_hw5 : k0_chk5 v180), ∀ (r : Fin 4), ∀ a, (k0_off23 v180 (BitVec.ofNat 32 (16 * r.val))) a + S16.size a ≤ S448.size a := fun v180 k0_hw5 r => k0_hw5 r

def k0_off24 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c8_i32 : BitVec 32 := 8#32
  let v26 : BitVec 32 := Scalar.muli arg11 c8_i32
  let c2_i32_60 : BitVec 32 := 2#32
  let v185 : BitVec 32 := Scalar.addi v26 c2_i32_60
  let v186 : Index := Scalar.indexCast v185
  let c0_61 : Index := 0#32
  ![v186.toNat, 0]
def k0_off25 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c8_i32 : BitVec 32 := 8#32
  let v26 : BitVec 32 := Scalar.muli arg11 c8_i32
  let c2_i32_63 : BitVec 32 := 2#32
  let v194 : BitVec 32 := Scalar.addi v26 c2_i32_63
  let v195 : Index := Scalar.indexCast v194
  let c16_64 : Index := 16#32
  ![v195.toNat, 16]
def k0_off26 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c8_i32 : BitVec 32 := 8#32
  let v26 : BitVec 32 := Scalar.muli arg11 c8_i32
  let c2_i32_66 : BitVec 32 := 2#32
  let v203 : BitVec 32 := Scalar.addi v26 c2_i32_66
  let v204 : Index := Scalar.indexCast v203
  let c32_67 : Index := 32#32
  ![v204.toNat, 32]
def k0_off27 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c8_i32 : BitVec 32 := 8#32
  let v26 : BitVec 32 := Scalar.muli arg11 c8_i32
  let c2_i32_69 : BitVec 32 := 2#32
  let v212 : BitVec 32 := Scalar.addi v26 c2_i32_69
  let v213 : Index := Scalar.indexCast v212
  let c48_70 : Index := 48#32
  ![v213.toNat, 48]
def k0_off28 (v218 : BitVec 32) (c0_i32_71 : BitVec 32) : Fin 1 → Nat :=
  let v219 : BitVec 32 := Scalar.addi v218 c0_i32_71
  let v220 : Index := Scalar.indexCast v219
  ![v220.toNat]

def k0_chk6 (v218 : BitVec 32) : Prop :=
  (∀ (r : Fin 4), ∀ a, (k0_off28 v218 (BitVec.ofNat 32 (16 * r.val))) a + S16.size a ≤ S448.size a)
theorem k0_off28_inb : ∀ (v218 : BitVec 32) (k0_hw6 : k0_chk6 v218), ∀ (r : Fin 4), ∀ a, (k0_off28 v218 (BitVec.ofNat 32 (16 * r.val))) a + S16.size a ≤ S448.size a := fun v218 k0_hw6 r => k0_hw6 r

def k0_off29 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c8_i32 : BitVec 32 := 8#32
  let v26 : BitVec 32 := Scalar.muli arg11 c8_i32
  let c2_i32_72 : BitVec 32 := 2#32
  let v223 : BitVec 32 := Scalar.addi v26 c2_i32_72
  let v224 : Index := Scalar.indexCast v223
  let c64_73 : Index := 64#32
  ![v224.toNat, 64]
def k0_off30 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c8_i32 : BitVec 32 := 8#32
  let v26 : BitVec 32 := Scalar.muli arg11 c8_i32
  let c2_i32_75 : BitVec 32 := 2#32
  let v232 : BitVec 32 := Scalar.addi v26 c2_i32_75
  let v233 : Index := Scalar.indexCast v232
  let c80_76 : Index := 80#32
  ![v233.toNat, 80]
def k0_off31 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c8_i32 : BitVec 32 := 8#32
  let v26 : BitVec 32 := Scalar.muli arg11 c8_i32
  let c2_i32_78 : BitVec 32 := 2#32
  let v241 : BitVec 32 := Scalar.addi v26 c2_i32_78
  let v242 : Index := Scalar.indexCast v241
  let c96_79 : Index := 96#32
  ![v242.toNat, 96]
def k0_off32 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c8_i32 : BitVec 32 := 8#32
  let v26 : BitVec 32 := Scalar.muli arg11 c8_i32
  let c2_i32_81 : BitVec 32 := 2#32
  let v250 : BitVec 32 := Scalar.addi v26 c2_i32_81
  let v251 : Index := Scalar.indexCast v250
  let c112_82 : Index := 112#32
  ![v251.toNat, 112]
def k0_off33 (v256 : BitVec 32) (c0_i32_83 : BitVec 32) : Fin 1 → Nat :=
  let v257 : BitVec 32 := Scalar.addi v256 c0_i32_83
  let v258 : Index := Scalar.indexCast v257
  ![v258.toNat]

def k0_chk7 (v256 : BitVec 32) : Prop :=
  (∀ (r : Fin 4), ∀ a, (k0_off33 v256 (BitVec.ofNat 32 (16 * r.val))) a + S16.size a ≤ S448.size a)
theorem k0_off33_inb : ∀ (v256 : BitVec 32) (k0_hw7 : k0_chk7 v256), ∀ (r : Fin 4), ∀ a, (k0_off33 v256 (BitVec.ofNat 32 (16 * r.val))) a + S16.size a ≤ S448.size a := fun v256 k0_hw7 r => k0_hw7 r

def k0_off34 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c8_i32 : BitVec 32 := 8#32
  let v26 : BitVec 32 := Scalar.muli arg11 c8_i32
  let c3_i32_84 : BitVec 32 := 3#32
  let v261 : BitVec 32 := Scalar.addi v26 c3_i32_84
  let v262 : Index := Scalar.indexCast v261
  let c0_85 : Index := 0#32
  ![v262.toNat, 0]
def k0_off35 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c8_i32 : BitVec 32 := 8#32
  let v26 : BitVec 32 := Scalar.muli arg11 c8_i32
  let c3_i32_87 : BitVec 32 := 3#32
  let v270 : BitVec 32 := Scalar.addi v26 c3_i32_87
  let v271 : Index := Scalar.indexCast v270
  let c16_88 : Index := 16#32
  ![v271.toNat, 16]
def k0_off36 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c8_i32 : BitVec 32 := 8#32
  let v26 : BitVec 32 := Scalar.muli arg11 c8_i32
  let c3_i32_90 : BitVec 32 := 3#32
  let v279 : BitVec 32 := Scalar.addi v26 c3_i32_90
  let v280 : Index := Scalar.indexCast v279
  let c32_91 : Index := 32#32
  ![v280.toNat, 32]
def k0_off37 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c8_i32 : BitVec 32 := 8#32
  let v26 : BitVec 32 := Scalar.muli arg11 c8_i32
  let c3_i32_93 : BitVec 32 := 3#32
  let v288 : BitVec 32 := Scalar.addi v26 c3_i32_93
  let v289 : Index := Scalar.indexCast v288
  let c48_94 : Index := 48#32
  ![v289.toNat, 48]
def k0_off38 (v294 : BitVec 32) (c0_i32_95 : BitVec 32) : Fin 1 → Nat :=
  let v295 : BitVec 32 := Scalar.addi v294 c0_i32_95
  let v296 : Index := Scalar.indexCast v295
  ![v296.toNat]

def k0_chk8 (v294 : BitVec 32) : Prop :=
  (∀ (r : Fin 4), ∀ a, (k0_off38 v294 (BitVec.ofNat 32 (16 * r.val))) a + S16.size a ≤ S448.size a)
theorem k0_off38_inb : ∀ (v294 : BitVec 32) (k0_hw8 : k0_chk8 v294), ∀ (r : Fin 4), ∀ a, (k0_off38 v294 (BitVec.ofNat 32 (16 * r.val))) a + S16.size a ≤ S448.size a := fun v294 k0_hw8 r => k0_hw8 r

def k0_off39 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c8_i32 : BitVec 32 := 8#32
  let v26 : BitVec 32 := Scalar.muli arg11 c8_i32
  let c3_i32_96 : BitVec 32 := 3#32
  let v299 : BitVec 32 := Scalar.addi v26 c3_i32_96
  let v300 : Index := Scalar.indexCast v299
  let c64_97 : Index := 64#32
  ![v300.toNat, 64]
def k0_off40 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c8_i32 : BitVec 32 := 8#32
  let v26 : BitVec 32 := Scalar.muli arg11 c8_i32
  let c3_i32_99 : BitVec 32 := 3#32
  let v308 : BitVec 32 := Scalar.addi v26 c3_i32_99
  let v309 : Index := Scalar.indexCast v308
  let c80_100 : Index := 80#32
  ![v309.toNat, 80]
def k0_off41 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c8_i32 : BitVec 32 := 8#32
  let v26 : BitVec 32 := Scalar.muli arg11 c8_i32
  let c3_i32_102 : BitVec 32 := 3#32
  let v317 : BitVec 32 := Scalar.addi v26 c3_i32_102
  let v318 : Index := Scalar.indexCast v317
  let c96_103 : Index := 96#32
  ![v318.toNat, 96]
def k0_off42 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c8_i32 : BitVec 32 := 8#32
  let v26 : BitVec 32 := Scalar.muli arg11 c8_i32
  let c3_i32_105 : BitVec 32 := 3#32
  let v326 : BitVec 32 := Scalar.addi v26 c3_i32_105
  let v327 : Index := Scalar.indexCast v326
  let c112_106 : Index := 112#32
  ![v327.toNat, 112]
def k0_off43 (v332 : BitVec 32) (c0_i32_107 : BitVec 32) : Fin 1 → Nat :=
  let v333 : BitVec 32 := Scalar.addi v332 c0_i32_107
  let v334 : Index := Scalar.indexCast v333
  ![v334.toNat]

def k0_chk9 (v332 : BitVec 32) : Prop :=
  (∀ (r : Fin 4), ∀ a, (k0_off43 v332 (BitVec.ofNat 32 (16 * r.val))) a + S16.size a ≤ S448.size a)
theorem k0_off43_inb : ∀ (v332 : BitVec 32) (k0_hw9 : k0_chk9 v332), ∀ (r : Fin 4), ∀ a, (k0_off43 v332 (BitVec.ofNat 32 (16 * r.val))) a + S16.size a ≤ S448.size a := fun v332 k0_hw9 r => k0_hw9 r

def k0_off44 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c8_i32 : BitVec 32 := 8#32
  let v26 : BitVec 32 := Scalar.muli arg11 c8_i32
  let c4_i32_108 : BitVec 32 := 4#32
  let v337 : BitVec 32 := Scalar.addi v26 c4_i32_108
  let v338 : Index := Scalar.indexCast v337
  let c0_109 : Index := 0#32
  ![v338.toNat, 0]
def k0_off45 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c8_i32 : BitVec 32 := 8#32
  let v26 : BitVec 32 := Scalar.muli arg11 c8_i32
  let c4_i32_111 : BitVec 32 := 4#32
  let v346 : BitVec 32 := Scalar.addi v26 c4_i32_111
  let v347 : Index := Scalar.indexCast v346
  let c16_112 : Index := 16#32
  ![v347.toNat, 16]
def k0_off46 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c8_i32 : BitVec 32 := 8#32
  let v26 : BitVec 32 := Scalar.muli arg11 c8_i32
  let c4_i32_114 : BitVec 32 := 4#32
  let v355 : BitVec 32 := Scalar.addi v26 c4_i32_114
  let v356 : Index := Scalar.indexCast v355
  let c32_115 : Index := 32#32
  ![v356.toNat, 32]
def k0_off47 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c8_i32 : BitVec 32 := 8#32
  let v26 : BitVec 32 := Scalar.muli arg11 c8_i32
  let c4_i32_117 : BitVec 32 := 4#32
  let v364 : BitVec 32 := Scalar.addi v26 c4_i32_117
  let v365 : Index := Scalar.indexCast v364
  let c48_118 : Index := 48#32
  ![v365.toNat, 48]
def k0_off48 (v370 : BitVec 32) (c0_i32_119 : BitVec 32) : Fin 1 → Nat :=
  let v371 : BitVec 32 := Scalar.addi v370 c0_i32_119
  let v372 : Index := Scalar.indexCast v371
  ![v372.toNat]

def k0_chk10 (v370 : BitVec 32) : Prop :=
  (∀ (r : Fin 4), ∀ a, (k0_off48 v370 (BitVec.ofNat 32 (16 * r.val))) a + S16.size a ≤ S448.size a)
theorem k0_off48_inb : ∀ (v370 : BitVec 32) (k0_hw10 : k0_chk10 v370), ∀ (r : Fin 4), ∀ a, (k0_off48 v370 (BitVec.ofNat 32 (16 * r.val))) a + S16.size a ≤ S448.size a := fun v370 k0_hw10 r => k0_hw10 r

def k0_off49 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c8_i32 : BitVec 32 := 8#32
  let v26 : BitVec 32 := Scalar.muli arg11 c8_i32
  let c4_i32_120 : BitVec 32 := 4#32
  let v375 : BitVec 32 := Scalar.addi v26 c4_i32_120
  let v376 : Index := Scalar.indexCast v375
  let c64_121 : Index := 64#32
  ![v376.toNat, 64]
def k0_off50 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c8_i32 : BitVec 32 := 8#32
  let v26 : BitVec 32 := Scalar.muli arg11 c8_i32
  let c4_i32_123 : BitVec 32 := 4#32
  let v384 : BitVec 32 := Scalar.addi v26 c4_i32_123
  let v385 : Index := Scalar.indexCast v384
  let c80_124 : Index := 80#32
  ![v385.toNat, 80]
def k0_off51 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c8_i32 : BitVec 32 := 8#32
  let v26 : BitVec 32 := Scalar.muli arg11 c8_i32
  let c4_i32_126 : BitVec 32 := 4#32
  let v393 : BitVec 32 := Scalar.addi v26 c4_i32_126
  let v394 : Index := Scalar.indexCast v393
  let c96_127 : Index := 96#32
  ![v394.toNat, 96]
def k0_off52 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c8_i32 : BitVec 32 := 8#32
  let v26 : BitVec 32 := Scalar.muli arg11 c8_i32
  let c4_i32_129 : BitVec 32 := 4#32
  let v402 : BitVec 32 := Scalar.addi v26 c4_i32_129
  let v403 : Index := Scalar.indexCast v402
  let c112_130 : Index := 112#32
  ![v403.toNat, 112]
def k0_off53 (v408 : BitVec 32) (c0_i32_131 : BitVec 32) : Fin 1 → Nat :=
  let v409 : BitVec 32 := Scalar.addi v408 c0_i32_131
  let v410 : Index := Scalar.indexCast v409
  ![v410.toNat]

def k0_chk11 (v408 : BitVec 32) : Prop :=
  (∀ (r : Fin 4), ∀ a, (k0_off53 v408 (BitVec.ofNat 32 (16 * r.val))) a + S16.size a ≤ S448.size a)
theorem k0_off53_inb : ∀ (v408 : BitVec 32) (k0_hw11 : k0_chk11 v408), ∀ (r : Fin 4), ∀ a, (k0_off53 v408 (BitVec.ofNat 32 (16 * r.val))) a + S16.size a ≤ S448.size a := fun v408 k0_hw11 r => k0_hw11 r

def k0_off54 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c8_i32 : BitVec 32 := 8#32
  let v26 : BitVec 32 := Scalar.muli arg11 c8_i32
  let c5_i32 : BitVec 32 := 5#32
  let v413 : BitVec 32 := Scalar.addi v26 c5_i32
  let v414 : Index := Scalar.indexCast v413
  let c0_132 : Index := 0#32
  ![v414.toNat, 0]
def k0_off55 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c8_i32 : BitVec 32 := 8#32
  let v26 : BitVec 32 := Scalar.muli arg11 c8_i32
  let c5_i32_134 : BitVec 32 := 5#32
  let v422 : BitVec 32 := Scalar.addi v26 c5_i32_134
  let v423 : Index := Scalar.indexCast v422
  let c16_135 : Index := 16#32
  ![v423.toNat, 16]
def k0_off56 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c8_i32 : BitVec 32 := 8#32
  let v26 : BitVec 32 := Scalar.muli arg11 c8_i32
  let c5_i32_137 : BitVec 32 := 5#32
  let v431 : BitVec 32 := Scalar.addi v26 c5_i32_137
  let v432 : Index := Scalar.indexCast v431
  let c32_138 : Index := 32#32
  ![v432.toNat, 32]
def k0_off57 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c8_i32 : BitVec 32 := 8#32
  let v26 : BitVec 32 := Scalar.muli arg11 c8_i32
  let c5_i32_140 : BitVec 32 := 5#32
  let v440 : BitVec 32 := Scalar.addi v26 c5_i32_140
  let v441 : Index := Scalar.indexCast v440
  let c48_141 : Index := 48#32
  ![v441.toNat, 48]
def k0_off58 (v446 : BitVec 32) (c0_i32_142 : BitVec 32) : Fin 1 → Nat :=
  let v447 : BitVec 32 := Scalar.addi v446 c0_i32_142
  let v448 : Index := Scalar.indexCast v447
  ![v448.toNat]

def k0_chk12 (v446 : BitVec 32) : Prop :=
  (∀ (r : Fin 4), ∀ a, (k0_off58 v446 (BitVec.ofNat 32 (16 * r.val))) a + S16.size a ≤ S448.size a)
theorem k0_off58_inb : ∀ (v446 : BitVec 32) (k0_hw12 : k0_chk12 v446), ∀ (r : Fin 4), ∀ a, (k0_off58 v446 (BitVec.ofNat 32 (16 * r.val))) a + S16.size a ≤ S448.size a := fun v446 k0_hw12 r => k0_hw12 r

def k0_off59 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c8_i32 : BitVec 32 := 8#32
  let v26 : BitVec 32 := Scalar.muli arg11 c8_i32
  let c5_i32_143 : BitVec 32 := 5#32
  let v451 : BitVec 32 := Scalar.addi v26 c5_i32_143
  let v452 : Index := Scalar.indexCast v451
  let c64_144 : Index := 64#32
  ![v452.toNat, 64]
def k0_off60 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c8_i32 : BitVec 32 := 8#32
  let v26 : BitVec 32 := Scalar.muli arg11 c8_i32
  let c5_i32_146 : BitVec 32 := 5#32
  let v460 : BitVec 32 := Scalar.addi v26 c5_i32_146
  let v461 : Index := Scalar.indexCast v460
  let c80_147 : Index := 80#32
  ![v461.toNat, 80]
def k0_off61 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c8_i32 : BitVec 32 := 8#32
  let v26 : BitVec 32 := Scalar.muli arg11 c8_i32
  let c5_i32_149 : BitVec 32 := 5#32
  let v469 : BitVec 32 := Scalar.addi v26 c5_i32_149
  let v470 : Index := Scalar.indexCast v469
  let c96_150 : Index := 96#32
  ![v470.toNat, 96]
def k0_off62 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c8_i32 : BitVec 32 := 8#32
  let v26 : BitVec 32 := Scalar.muli arg11 c8_i32
  let c5_i32_152 : BitVec 32 := 5#32
  let v478 : BitVec 32 := Scalar.addi v26 c5_i32_152
  let v479 : Index := Scalar.indexCast v478
  let c112_153 : Index := 112#32
  ![v479.toNat, 112]
def k0_off63 (v484 : BitVec 32) (c0_i32_154 : BitVec 32) : Fin 1 → Nat :=
  let v485 : BitVec 32 := Scalar.addi v484 c0_i32_154
  let v486 : Index := Scalar.indexCast v485
  ![v486.toNat]

def k0_chk13 (v484 : BitVec 32) : Prop :=
  (∀ (r : Fin 4), ∀ a, (k0_off63 v484 (BitVec.ofNat 32 (16 * r.val))) a + S16.size a ≤ S448.size a)
theorem k0_off63_inb : ∀ (v484 : BitVec 32) (k0_hw13 : k0_chk13 v484), ∀ (r : Fin 4), ∀ a, (k0_off63 v484 (BitVec.ofNat 32 (16 * r.val))) a + S16.size a ≤ S448.size a := fun v484 k0_hw13 r => k0_hw13 r

def k0_off64 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c8_i32 : BitVec 32 := 8#32
  let v26 : BitVec 32 := Scalar.muli arg11 c8_i32
  let c6_i32_155 : BitVec 32 := 6#32
  let v489 : BitVec 32 := Scalar.addi v26 c6_i32_155
  let v490 : Index := Scalar.indexCast v489
  let c0_156 : Index := 0#32
  ![v490.toNat, 0]
def k0_off65 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c8_i32 : BitVec 32 := 8#32
  let v26 : BitVec 32 := Scalar.muli arg11 c8_i32
  let c6_i32_158 : BitVec 32 := 6#32
  let v498 : BitVec 32 := Scalar.addi v26 c6_i32_158
  let v499 : Index := Scalar.indexCast v498
  let c16_159 : Index := 16#32
  ![v499.toNat, 16]
def k0_off66 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c8_i32 : BitVec 32 := 8#32
  let v26 : BitVec 32 := Scalar.muli arg11 c8_i32
  let c6_i32_161 : BitVec 32 := 6#32
  let v507 : BitVec 32 := Scalar.addi v26 c6_i32_161
  let v508 : Index := Scalar.indexCast v507
  let c32_162 : Index := 32#32
  ![v508.toNat, 32]
def k0_off67 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c8_i32 : BitVec 32 := 8#32
  let v26 : BitVec 32 := Scalar.muli arg11 c8_i32
  let c6_i32_164 : BitVec 32 := 6#32
  let v516 : BitVec 32 := Scalar.addi v26 c6_i32_164
  let v517 : Index := Scalar.indexCast v516
  let c48_165 : Index := 48#32
  ![v517.toNat, 48]
def k0_off68 (v522 : BitVec 32) (c0_i32_166 : BitVec 32) : Fin 1 → Nat :=
  let v523 : BitVec 32 := Scalar.addi v522 c0_i32_166
  let v524 : Index := Scalar.indexCast v523
  ![v524.toNat]

def k0_chk14 (v522 : BitVec 32) : Prop :=
  (∀ (r : Fin 4), ∀ a, (k0_off68 v522 (BitVec.ofNat 32 (16 * r.val))) a + S16.size a ≤ S448.size a)
theorem k0_off68_inb : ∀ (v522 : BitVec 32) (k0_hw14 : k0_chk14 v522), ∀ (r : Fin 4), ∀ a, (k0_off68 v522 (BitVec.ofNat 32 (16 * r.val))) a + S16.size a ≤ S448.size a := fun v522 k0_hw14 r => k0_hw14 r

def k0_off69 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c8_i32 : BitVec 32 := 8#32
  let v26 : BitVec 32 := Scalar.muli arg11 c8_i32
  let c6_i32_167 : BitVec 32 := 6#32
  let v527 : BitVec 32 := Scalar.addi v26 c6_i32_167
  let v528 : Index := Scalar.indexCast v527
  let c64_168 : Index := 64#32
  ![v528.toNat, 64]
def k0_off70 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c8_i32 : BitVec 32 := 8#32
  let v26 : BitVec 32 := Scalar.muli arg11 c8_i32
  let c6_i32_170 : BitVec 32 := 6#32
  let v536 : BitVec 32 := Scalar.addi v26 c6_i32_170
  let v537 : Index := Scalar.indexCast v536
  let c80_171 : Index := 80#32
  ![v537.toNat, 80]
def k0_off71 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c8_i32 : BitVec 32 := 8#32
  let v26 : BitVec 32 := Scalar.muli arg11 c8_i32
  let c6_i32_173 : BitVec 32 := 6#32
  let v545 : BitVec 32 := Scalar.addi v26 c6_i32_173
  let v546 : Index := Scalar.indexCast v545
  let c96_174 : Index := 96#32
  ![v546.toNat, 96]
def k0_off72 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c8_i32 : BitVec 32 := 8#32
  let v26 : BitVec 32 := Scalar.muli arg11 c8_i32
  let c6_i32_176 : BitVec 32 := 6#32
  let v554 : BitVec 32 := Scalar.addi v26 c6_i32_176
  let v555 : Index := Scalar.indexCast v554
  let c112_177 : Index := 112#32
  ![v555.toNat, 112]
def k0_off73 (v560 : BitVec 32) (c0_i32_178 : BitVec 32) : Fin 1 → Nat :=
  let v561 : BitVec 32 := Scalar.addi v560 c0_i32_178
  let v562 : Index := Scalar.indexCast v561
  ![v562.toNat]

def k0_chk15 (v560 : BitVec 32) : Prop :=
  (∀ (r : Fin 4), ∀ a, (k0_off73 v560 (BitVec.ofNat 32 (16 * r.val))) a + S16.size a ≤ S448.size a)
theorem k0_off73_inb : ∀ (v560 : BitVec 32) (k0_hw15 : k0_chk15 v560), ∀ (r : Fin 4), ∀ a, (k0_off73 v560 (BitVec.ofNat 32 (16 * r.val))) a + S16.size a ≤ S448.size a := fun v560 k0_hw15 r => k0_hw15 r

def k0_off74 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c8_i32 : BitVec 32 := 8#32
  let v26 : BitVec 32 := Scalar.muli arg11 c8_i32
  let c7_i32_179 : BitVec 32 := 7#32
  let v565 : BitVec 32 := Scalar.addi v26 c7_i32_179
  let v566 : Index := Scalar.indexCast v565
  let c0_180 : Index := 0#32
  ![v566.toNat, 0]
def k0_off75 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c8_i32 : BitVec 32 := 8#32
  let v26 : BitVec 32 := Scalar.muli arg11 c8_i32
  let c7_i32_182 : BitVec 32 := 7#32
  let v574 : BitVec 32 := Scalar.addi v26 c7_i32_182
  let v575 : Index := Scalar.indexCast v574
  let c16_183 : Index := 16#32
  ![v575.toNat, 16]
def k0_off76 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c8_i32 : BitVec 32 := 8#32
  let v26 : BitVec 32 := Scalar.muli arg11 c8_i32
  let c7_i32_185 : BitVec 32 := 7#32
  let v583 : BitVec 32 := Scalar.addi v26 c7_i32_185
  let v584 : Index := Scalar.indexCast v583
  let c32_186 : Index := 32#32
  ![v584.toNat, 32]
def k0_off77 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c8_i32 : BitVec 32 := 8#32
  let v26 : BitVec 32 := Scalar.muli arg11 c8_i32
  let c7_i32_188 : BitVec 32 := 7#32
  let v592 : BitVec 32 := Scalar.addi v26 c7_i32_188
  let v593 : Index := Scalar.indexCast v592
  let c48_189 : Index := 48#32
  ![v593.toNat, 48]
def k0_off78 (v598 : BitVec 32) (c0_i32_190 : BitVec 32) : Fin 1 → Nat :=
  let v599 : BitVec 32 := Scalar.addi v598 c0_i32_190
  let v600 : Index := Scalar.indexCast v599
  ![v600.toNat]

def k0_chk16 (v598 : BitVec 32) : Prop :=
  (∀ (r : Fin 4), ∀ a, (k0_off78 v598 (BitVec.ofNat 32 (16 * r.val))) a + S16.size a ≤ S448.size a)
theorem k0_off78_inb : ∀ (v598 : BitVec 32) (k0_hw16 : k0_chk16 v598), ∀ (r : Fin 4), ∀ a, (k0_off78 v598 (BitVec.ofNat 32 (16 * r.val))) a + S16.size a ≤ S448.size a := fun v598 k0_hw16 r => k0_hw16 r

def k0_off79 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c8_i32 : BitVec 32 := 8#32
  let v26 : BitVec 32 := Scalar.muli arg11 c8_i32
  let c7_i32_191 : BitVec 32 := 7#32
  let v603 : BitVec 32 := Scalar.addi v26 c7_i32_191
  let v604 : Index := Scalar.indexCast v603
  let c64_192 : Index := 64#32
  ![v604.toNat, 64]
def k0_off80 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c8_i32 : BitVec 32 := 8#32
  let v26 : BitVec 32 := Scalar.muli arg11 c8_i32
  let c7_i32_194 : BitVec 32 := 7#32
  let v612 : BitVec 32 := Scalar.addi v26 c7_i32_194
  let v613 : Index := Scalar.indexCast v612
  let c80_195 : Index := 80#32
  ![v613.toNat, 80]
def k0_off81 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c8_i32 : BitVec 32 := 8#32
  let v26 : BitVec 32 := Scalar.muli arg11 c8_i32
  let c7_i32_197 : BitVec 32 := 7#32
  let v621 : BitVec 32 := Scalar.addi v26 c7_i32_197
  let v622 : Index := Scalar.indexCast v621
  let c96_198 : Index := 96#32
  ![v622.toNat, 96]
def k0_off82 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c8_i32 : BitVec 32 := 8#32
  let v26 : BitVec 32 := Scalar.muli arg11 c8_i32
  let c7_i32_200 : BitVec 32 := 7#32
  let v630 : BitVec 32 := Scalar.addi v26 c7_i32_200
  let v631 : Index := Scalar.indexCast v630
  let c112_201 : Index := 112#32
  ![v631.toNat, 112]
def k0_off83 (i : grid0.Coords) (c0_i32_2 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12800_i32 : BitVec 32 := 12800#32
  let v2 : BitVec 32 := Scalar.muli v1 c12800_i32
  let v4 : BitVec 32 := Scalar.addi v2 c0_i32_2
  let c0_i32_3 : BitVec 32 := 0#32
  ![v4.toNat, 0]
@[reducible] def k0_t2_loop : Scf.Loop 32 :=
  let c0_i32_6 : BitVec 32 := 0#32
  let c32_i32_7 : BitVec 32 := 32#32
  let v7 : BitVec 32 := Scalar.addi c0_i32_6 c32_i32_7
  let c1_i32_8 : BitVec 32 := 1#32
  ⟨c0_i32_6, v7, c1_i32_8⟩
def k0_off84 (k0_t2 : Fin k0_t2_loop.trips) : Fin 2 → Nat :=
  let c4_i32 : BitVec 32 := 4#32
  let c0_i32_6 : BitVec 32 := 0#32
  let c1_i32_8 : BitVec 32 := 1#32
  let arg11 : BitVec 32 := Scf.iv c0_i32_6 c1_i32_8 k0_t2
  let c3_i32 : BitVec 32 := 3#32
  let v16 : BitVec 32 := Scalar.shrui arg11 c3_i32
  let v17 : BitVec 32 := Scalar.addi c4_i32 v16
  let v20 : Index := Scalar.indexCast v17
  let c7_i32 : BitVec 32 := 7#32
  let v18 : BitVec 32 := Scalar.andi arg11 c7_i32
  let c4_i32_20 : BitVec 32 := 4#32
  let v19 : BitVec 32 := Scalar.shli v18 c4_i32_20
  let v21 : Index := Scalar.indexCast v19
  ![v20.toNat, v21.toNat]
def k0_off85 (v28 : BitVec 32) (c0_i32_21 : BitVec 32) : Fin 1 → Nat :=
  let v29 : BitVec 32 := Scalar.addi v28 c0_i32_21
  let v30 : Index := Scalar.indexCast v29
  ![v30.toNat]

def k0_chk17 (v28 : BitVec 32) : Prop :=
  (∀ (r : Fin 4), ∀ a, (k0_off85 v28 (BitVec.ofNat 32 (16 * r.val))) a + S16.size a ≤ S448.size a)
theorem k0_off85_inb : ∀ (v28 : BitVec 32) (k0_hw17 : k0_chk17 v28), ∀ (r : Fin 4), ∀ a, (k0_off85 v28 (BitVec.ofNat 32 (16 * r.val))) a + S16.size a ≤ S448.size a := fun v28 k0_hw17 r => k0_hw17 r

def k0_off86 (k0_t2 : Fin k0_t2_loop.trips) : Fin 2 → Nat :=
  let c0_i32_6 : BitVec 32 := 0#32
  let c1_i32_8 : BitVec 32 := 1#32
  let arg11 : BitVec 32 := Scf.iv c0_i32_6 c1_i32_8 k0_t2
  let c8_i32 : BitVec 32 := 8#32
  let v26 : BitVec 32 := Scalar.muli arg11 c8_i32
  let c0_i32_22 : BitVec 32 := 0#32
  let v33 : BitVec 32 := Scalar.addi v26 c0_i32_22
  let v34 : Index := Scalar.indexCast v33
  let c0 : Index := 0#32
  ![v34.toNat, 0]
def k0_off87 (k0_t2 : Fin k0_t2_loop.trips) : Fin 2 → Nat :=
  let c0_i32_6 : BitVec 32 := 0#32
  let c1_i32_8 : BitVec 32 := 1#32
  let arg11 : BitVec 32 := Scf.iv c0_i32_6 c1_i32_8 k0_t2
  let c8_i32 : BitVec 32 := 8#32
  let v26 : BitVec 32 := Scalar.muli arg11 c8_i32
  let c0_i32_23 : BitVec 32 := 0#32
  let v42 : BitVec 32 := Scalar.addi v26 c0_i32_23
  let v43 : Index := Scalar.indexCast v42
  let c16 : Index := 16#32
  ![v43.toNat, 16]
def k0_off88 (k0_t2 : Fin k0_t2_loop.trips) : Fin 2 → Nat :=
  let c0_i32_6 : BitVec 32 := 0#32
  let c1_i32_8 : BitVec 32 := 1#32
  let arg11 : BitVec 32 := Scf.iv c0_i32_6 c1_i32_8 k0_t2
  let c8_i32 : BitVec 32 := 8#32
  let v26 : BitVec 32 := Scalar.muli arg11 c8_i32
  let c0_i32_25 : BitVec 32 := 0#32
  let v51 : BitVec 32 := Scalar.addi v26 c0_i32_25
  let v52 : Index := Scalar.indexCast v51
  let c32 : Index := 32#32
  ![v52.toNat, 32]
def k0_off89 (k0_t2 : Fin k0_t2_loop.trips) : Fin 2 → Nat :=
  let c0_i32_6 : BitVec 32 := 0#32
  let c1_i32_8 : BitVec 32 := 1#32
  let arg11 : BitVec 32 := Scf.iv c0_i32_6 c1_i32_8 k0_t2
  let c8_i32 : BitVec 32 := 8#32
  let v26 : BitVec 32 := Scalar.muli arg11 c8_i32
  let c0_i32_26 : BitVec 32 := 0#32
  let v60 : BitVec 32 := Scalar.addi v26 c0_i32_26
  let v61 : Index := Scalar.indexCast v60
  let c48 : Index := 48#32
  ![v61.toNat, 48]
def k0_off90 (v66 : BitVec 32) (c0_i32_27 : BitVec 32) : Fin 1 → Nat :=
  let v67 : BitVec 32 := Scalar.addi v66 c0_i32_27
  let v68 : Index := Scalar.indexCast v67
  ![v68.toNat]

def k0_chk18 (v66 : BitVec 32) : Prop :=
  (∀ (r : Fin 4), ∀ a, (k0_off90 v66 (BitVec.ofNat 32 (16 * r.val))) a + S16.size a ≤ S448.size a)
theorem k0_off90_inb : ∀ (v66 : BitVec 32) (k0_hw18 : k0_chk18 v66), ∀ (r : Fin 4), ∀ a, (k0_off90 v66 (BitVec.ofNat 32 (16 * r.val))) a + S16.size a ≤ S448.size a := fun v66 k0_hw18 r => k0_hw18 r

def k0_off91 (k0_t2 : Fin k0_t2_loop.trips) : Fin 2 → Nat :=
  let c0_i32_6 : BitVec 32 := 0#32
  let c1_i32_8 : BitVec 32 := 1#32
  let arg11 : BitVec 32 := Scf.iv c0_i32_6 c1_i32_8 k0_t2
  let c8_i32 : BitVec 32 := 8#32
  let v26 : BitVec 32 := Scalar.muli arg11 c8_i32
  let c0_i32_28 : BitVec 32 := 0#32
  let v71 : BitVec 32 := Scalar.addi v26 c0_i32_28
  let v72 : Index := Scalar.indexCast v71
  let c64 : Index := 64#32
  ![v72.toNat, 64]
def k0_off92 (k0_t2 : Fin k0_t2_loop.trips) : Fin 2 → Nat :=
  let c0_i32_6 : BitVec 32 := 0#32
  let c1_i32_8 : BitVec 32 := 1#32
  let arg11 : BitVec 32 := Scf.iv c0_i32_6 c1_i32_8 k0_t2
  let c8_i32 : BitVec 32 := 8#32
  let v26 : BitVec 32 := Scalar.muli arg11 c8_i32
  let c0_i32_30 : BitVec 32 := 0#32
  let v80 : BitVec 32 := Scalar.addi v26 c0_i32_30
  let v81 : Index := Scalar.indexCast v80
  let c80 : Index := 80#32
  ![v81.toNat, 80]
def k0_off93 (k0_t2 : Fin k0_t2_loop.trips) : Fin 2 → Nat :=
  let c0_i32_6 : BitVec 32 := 0#32
  let c1_i32_8 : BitVec 32 := 1#32
  let arg11 : BitVec 32 := Scf.iv c0_i32_6 c1_i32_8 k0_t2
  let c8_i32 : BitVec 32 := 8#32
  let v26 : BitVec 32 := Scalar.muli arg11 c8_i32
  let c0_i32_32 : BitVec 32 := 0#32
  let v89 : BitVec 32 := Scalar.addi v26 c0_i32_32
  let v90 : Index := Scalar.indexCast v89
  let c96 : Index := 96#32
  ![v90.toNat, 96]
def k0_off94 (k0_t2 : Fin k0_t2_loop.trips) : Fin 2 → Nat :=
  let c0_i32_6 : BitVec 32 := 0#32
  let c1_i32_8 : BitVec 32 := 1#32
  let arg11 : BitVec 32 := Scf.iv c0_i32_6 c1_i32_8 k0_t2
  let c8_i32 : BitVec 32 := 8#32
  let v26 : BitVec 32 := Scalar.muli arg11 c8_i32
  let c0_i32_34 : BitVec 32 := 0#32
  let v98 : BitVec 32 := Scalar.addi v26 c0_i32_34
  let v99 : Index := Scalar.indexCast v98
  let c112 : Index := 112#32
  ![v99.toNat, 112]
def k0_off95 (v104 : BitVec 32) (c0_i32_35 : BitVec 32) : Fin 1 → Nat :=
  let v105 : BitVec 32 := Scalar.addi v104 c0_i32_35
  let v106 : Index := Scalar.indexCast v105
  ![v106.toNat]

def k0_chk19 (v104 : BitVec 32) : Prop :=
  (∀ (r : Fin 4), ∀ a, (k0_off95 v104 (BitVec.ofNat 32 (16 * r.val))) a + S16.size a ≤ S448.size a)
theorem k0_off95_inb : ∀ (v104 : BitVec 32) (k0_hw19 : k0_chk19 v104), ∀ (r : Fin 4), ∀ a, (k0_off95 v104 (BitVec.ofNat 32 (16 * r.val))) a + S16.size a ≤ S448.size a := fun v104 k0_hw19 r => k0_hw19 r

def k0_off96 (k0_t2 : Fin k0_t2_loop.trips) : Fin 2 → Nat :=
  let c0_i32_6 : BitVec 32 := 0#32
  let c1_i32_8 : BitVec 32 := 1#32
  let arg11 : BitVec 32 := Scf.iv c0_i32_6 c1_i32_8 k0_t2
  let c8_i32 : BitVec 32 := 8#32
  let v26 : BitVec 32 := Scalar.muli arg11 c8_i32
  let c1_i32_36 : BitVec 32 := 1#32
  let v109 : BitVec 32 := Scalar.addi v26 c1_i32_36
  let v110 : Index := Scalar.indexCast v109
  let c0_37 : Index := 0#32
  ![v110.toNat, 0]
def k0_off97 (k0_t2 : Fin k0_t2_loop.trips) : Fin 2 → Nat :=
  let c0_i32_6 : BitVec 32 := 0#32
  let c1_i32_8 : BitVec 32 := 1#32
  let arg11 : BitVec 32 := Scf.iv c0_i32_6 c1_i32_8 k0_t2
  let c8_i32 : BitVec 32 := 8#32
  let v26 : BitVec 32 := Scalar.muli arg11 c8_i32
  let c1_i32_39 : BitVec 32 := 1#32
  let v118 : BitVec 32 := Scalar.addi v26 c1_i32_39
  let v119 : Index := Scalar.indexCast v118
  let c16_40 : Index := 16#32
  ![v119.toNat, 16]
def k0_off98 (k0_t2 : Fin k0_t2_loop.trips) : Fin 2 → Nat :=
  let c0_i32_6 : BitVec 32 := 0#32
  let c1_i32_8 : BitVec 32 := 1#32
  let arg11 : BitVec 32 := Scf.iv c0_i32_6 c1_i32_8 k0_t2
  let c8_i32 : BitVec 32 := 8#32
  let v26 : BitVec 32 := Scalar.muli arg11 c8_i32
  let c1_i32_42 : BitVec 32 := 1#32
  let v127 : BitVec 32 := Scalar.addi v26 c1_i32_42
  let v128 : Index := Scalar.indexCast v127
  let c32_43 : Index := 32#32
  ![v128.toNat, 32]
def k0_off99 (k0_t2 : Fin k0_t2_loop.trips) : Fin 2 → Nat :=
  let c0_i32_6 : BitVec 32 := 0#32
  let c1_i32_8 : BitVec 32 := 1#32
  let arg11 : BitVec 32 := Scf.iv c0_i32_6 c1_i32_8 k0_t2
  let c8_i32 : BitVec 32 := 8#32
  let v26 : BitVec 32 := Scalar.muli arg11 c8_i32
  let c1_i32_45 : BitVec 32 := 1#32
  let v136 : BitVec 32 := Scalar.addi v26 c1_i32_45
  let v137 : Index := Scalar.indexCast v136
  let c48_46 : Index := 48#32
  ![v137.toNat, 48]
def k0_off100 (v142 : BitVec 32) (c0_i32_47 : BitVec 32) : Fin 1 → Nat :=
  let v143 : BitVec 32 := Scalar.addi v142 c0_i32_47
  let v144 : Index := Scalar.indexCast v143
  ![v144.toNat]

def k0_chk20 (v142 : BitVec 32) : Prop :=
  (∀ (r : Fin 4), ∀ a, (k0_off100 v142 (BitVec.ofNat 32 (16 * r.val))) a + S16.size a ≤ S448.size a)
theorem k0_off100_inb : ∀ (v142 : BitVec 32) (k0_hw20 : k0_chk20 v142), ∀ (r : Fin 4), ∀ a, (k0_off100 v142 (BitVec.ofNat 32 (16 * r.val))) a + S16.size a ≤ S448.size a := fun v142 k0_hw20 r => k0_hw20 r

def k0_off101 (k0_t2 : Fin k0_t2_loop.trips) : Fin 2 → Nat :=
  let c0_i32_6 : BitVec 32 := 0#32
  let c1_i32_8 : BitVec 32 := 1#32
  let arg11 : BitVec 32 := Scf.iv c0_i32_6 c1_i32_8 k0_t2
  let c8_i32 : BitVec 32 := 8#32
  let v26 : BitVec 32 := Scalar.muli arg11 c8_i32
  let c1_i32_48 : BitVec 32 := 1#32
  let v147 : BitVec 32 := Scalar.addi v26 c1_i32_48
  let v148 : Index := Scalar.indexCast v147
  let c64_49 : Index := 64#32
  ![v148.toNat, 64]
def k0_off102 (k0_t2 : Fin k0_t2_loop.trips) : Fin 2 → Nat :=
  let c0_i32_6 : BitVec 32 := 0#32
  let c1_i32_8 : BitVec 32 := 1#32
  let arg11 : BitVec 32 := Scf.iv c0_i32_6 c1_i32_8 k0_t2
  let c8_i32 : BitVec 32 := 8#32
  let v26 : BitVec 32 := Scalar.muli arg11 c8_i32
  let c1_i32_51 : BitVec 32 := 1#32
  let v156 : BitVec 32 := Scalar.addi v26 c1_i32_51
  let v157 : Index := Scalar.indexCast v156
  let c80_52 : Index := 80#32
  ![v157.toNat, 80]
def k0_off103 (k0_t2 : Fin k0_t2_loop.trips) : Fin 2 → Nat :=
  let c0_i32_6 : BitVec 32 := 0#32
  let c1_i32_8 : BitVec 32 := 1#32
  let arg11 : BitVec 32 := Scf.iv c0_i32_6 c1_i32_8 k0_t2
  let c8_i32 : BitVec 32 := 8#32
  let v26 : BitVec 32 := Scalar.muli arg11 c8_i32
  let c1_i32_54 : BitVec 32 := 1#32
  let v165 : BitVec 32 := Scalar.addi v26 c1_i32_54
  let v166 : Index := Scalar.indexCast v165
  let c96_55 : Index := 96#32
  ![v166.toNat, 96]
def k0_off104 (k0_t2 : Fin k0_t2_loop.trips) : Fin 2 → Nat :=
  let c0_i32_6 : BitVec 32 := 0#32
  let c1_i32_8 : BitVec 32 := 1#32
  let arg11 : BitVec 32 := Scf.iv c0_i32_6 c1_i32_8 k0_t2
  let c8_i32 : BitVec 32 := 8#32
  let v26 : BitVec 32 := Scalar.muli arg11 c8_i32
  let c1_i32_57 : BitVec 32 := 1#32
  let v174 : BitVec 32 := Scalar.addi v26 c1_i32_57
  let v175 : Index := Scalar.indexCast v174
  let c112_58 : Index := 112#32
  ![v175.toNat, 112]
def k0_off105 (v180 : BitVec 32) (c0_i32_59 : BitVec 32) : Fin 1 → Nat :=
  let v181 : BitVec 32 := Scalar.addi v180 c0_i32_59
  let v182 : Index := Scalar.indexCast v181
  ![v182.toNat]

def k0_chk21 (v180 : BitVec 32) : Prop :=
  (∀ (r : Fin 4), ∀ a, (k0_off105 v180 (BitVec.ofNat 32 (16 * r.val))) a + S16.size a ≤ S448.size a)
theorem k0_off105_inb : ∀ (v180 : BitVec 32) (k0_hw21 : k0_chk21 v180), ∀ (r : Fin 4), ∀ a, (k0_off105 v180 (BitVec.ofNat 32 (16 * r.val))) a + S16.size a ≤ S448.size a := fun v180 k0_hw21 r => k0_hw21 r

def k0_off106 (k0_t2 : Fin k0_t2_loop.trips) : Fin 2 → Nat :=
  let c0_i32_6 : BitVec 32 := 0#32
  let c1_i32_8 : BitVec 32 := 1#32
  let arg11 : BitVec 32 := Scf.iv c0_i32_6 c1_i32_8 k0_t2
  let c8_i32 : BitVec 32 := 8#32
  let v26 : BitVec 32 := Scalar.muli arg11 c8_i32
  let c2_i32_60 : BitVec 32 := 2#32
  let v185 : BitVec 32 := Scalar.addi v26 c2_i32_60
  let v186 : Index := Scalar.indexCast v185
  let c0_61 : Index := 0#32
  ![v186.toNat, 0]
def k0_off107 (k0_t2 : Fin k0_t2_loop.trips) : Fin 2 → Nat :=
  let c0_i32_6 : BitVec 32 := 0#32
  let c1_i32_8 : BitVec 32 := 1#32
  let arg11 : BitVec 32 := Scf.iv c0_i32_6 c1_i32_8 k0_t2
  let c8_i32 : BitVec 32 := 8#32
  let v26 : BitVec 32 := Scalar.muli arg11 c8_i32
  let c2_i32_63 : BitVec 32 := 2#32
  let v194 : BitVec 32 := Scalar.addi v26 c2_i32_63
  let v195 : Index := Scalar.indexCast v194
  let c16_64 : Index := 16#32
  ![v195.toNat, 16]
def k0_off108 (k0_t2 : Fin k0_t2_loop.trips) : Fin 2 → Nat :=
  let c0_i32_6 : BitVec 32 := 0#32
  let c1_i32_8 : BitVec 32 := 1#32
  let arg11 : BitVec 32 := Scf.iv c0_i32_6 c1_i32_8 k0_t2
  let c8_i32 : BitVec 32 := 8#32
  let v26 : BitVec 32 := Scalar.muli arg11 c8_i32
  let c2_i32_66 : BitVec 32 := 2#32
  let v203 : BitVec 32 := Scalar.addi v26 c2_i32_66
  let v204 : Index := Scalar.indexCast v203
  let c32_67 : Index := 32#32
  ![v204.toNat, 32]
def k0_off109 (k0_t2 : Fin k0_t2_loop.trips) : Fin 2 → Nat :=
  let c0_i32_6 : BitVec 32 := 0#32
  let c1_i32_8 : BitVec 32 := 1#32
  let arg11 : BitVec 32 := Scf.iv c0_i32_6 c1_i32_8 k0_t2
  let c8_i32 : BitVec 32 := 8#32
  let v26 : BitVec 32 := Scalar.muli arg11 c8_i32
  let c2_i32_69 : BitVec 32 := 2#32
  let v212 : BitVec 32 := Scalar.addi v26 c2_i32_69
  let v213 : Index := Scalar.indexCast v212
  let c48_70 : Index := 48#32
  ![v213.toNat, 48]
def k0_off110 (v218 : BitVec 32) (c0_i32_71 : BitVec 32) : Fin 1 → Nat :=
  let v219 : BitVec 32 := Scalar.addi v218 c0_i32_71
  let v220 : Index := Scalar.indexCast v219
  ![v220.toNat]

def k0_chk22 (v218 : BitVec 32) : Prop :=
  (∀ (r : Fin 4), ∀ a, (k0_off110 v218 (BitVec.ofNat 32 (16 * r.val))) a + S16.size a ≤ S448.size a)
theorem k0_off110_inb : ∀ (v218 : BitVec 32) (k0_hw22 : k0_chk22 v218), ∀ (r : Fin 4), ∀ a, (k0_off110 v218 (BitVec.ofNat 32 (16 * r.val))) a + S16.size a ≤ S448.size a := fun v218 k0_hw22 r => k0_hw22 r

def k0_off111 (k0_t2 : Fin k0_t2_loop.trips) : Fin 2 → Nat :=
  let c0_i32_6 : BitVec 32 := 0#32
  let c1_i32_8 : BitVec 32 := 1#32
  let arg11 : BitVec 32 := Scf.iv c0_i32_6 c1_i32_8 k0_t2
  let c8_i32 : BitVec 32 := 8#32
  let v26 : BitVec 32 := Scalar.muli arg11 c8_i32
  let c2_i32_72 : BitVec 32 := 2#32
  let v223 : BitVec 32 := Scalar.addi v26 c2_i32_72
  let v224 : Index := Scalar.indexCast v223
  let c64_73 : Index := 64#32
  ![v224.toNat, 64]
def k0_off112 (k0_t2 : Fin k0_t2_loop.trips) : Fin 2 → Nat :=
  let c0_i32_6 : BitVec 32 := 0#32
  let c1_i32_8 : BitVec 32 := 1#32
  let arg11 : BitVec 32 := Scf.iv c0_i32_6 c1_i32_8 k0_t2
  let c8_i32 : BitVec 32 := 8#32
  let v26 : BitVec 32 := Scalar.muli arg11 c8_i32
  let c2_i32_75 : BitVec 32 := 2#32
  let v232 : BitVec 32 := Scalar.addi v26 c2_i32_75
  let v233 : Index := Scalar.indexCast v232
  let c80_76 : Index := 80#32
  ![v233.toNat, 80]
def k0_off113 (k0_t2 : Fin k0_t2_loop.trips) : Fin 2 → Nat :=
  let c0_i32_6 : BitVec 32 := 0#32
  let c1_i32_8 : BitVec 32 := 1#32
  let arg11 : BitVec 32 := Scf.iv c0_i32_6 c1_i32_8 k0_t2
  let c8_i32 : BitVec 32 := 8#32
  let v26 : BitVec 32 := Scalar.muli arg11 c8_i32
  let c2_i32_78 : BitVec 32 := 2#32
  let v241 : BitVec 32 := Scalar.addi v26 c2_i32_78
  let v242 : Index := Scalar.indexCast v241
  let c96_79 : Index := 96#32
  ![v242.toNat, 96]
def k0_off114 (k0_t2 : Fin k0_t2_loop.trips) : Fin 2 → Nat :=
  let c0_i32_6 : BitVec 32 := 0#32
  let c1_i32_8 : BitVec 32 := 1#32
  let arg11 : BitVec 32 := Scf.iv c0_i32_6 c1_i32_8 k0_t2
  let c8_i32 : BitVec 32 := 8#32
  let v26 : BitVec 32 := Scalar.muli arg11 c8_i32
  let c2_i32_81 : BitVec 32 := 2#32
  let v250 : BitVec 32 := Scalar.addi v26 c2_i32_81
  let v251 : Index := Scalar.indexCast v250
  let c112_82 : Index := 112#32
  ![v251.toNat, 112]
def k0_off115 (v256 : BitVec 32) (c0_i32_83 : BitVec 32) : Fin 1 → Nat :=
  let v257 : BitVec 32 := Scalar.addi v256 c0_i32_83
  let v258 : Index := Scalar.indexCast v257
  ![v258.toNat]

def k0_chk23 (v256 : BitVec 32) : Prop :=
  (∀ (r : Fin 4), ∀ a, (k0_off115 v256 (BitVec.ofNat 32 (16 * r.val))) a + S16.size a ≤ S448.size a)
theorem k0_off115_inb : ∀ (v256 : BitVec 32) (k0_hw23 : k0_chk23 v256), ∀ (r : Fin 4), ∀ a, (k0_off115 v256 (BitVec.ofNat 32 (16 * r.val))) a + S16.size a ≤ S448.size a := fun v256 k0_hw23 r => k0_hw23 r

def k0_off116 (k0_t2 : Fin k0_t2_loop.trips) : Fin 2 → Nat :=
  let c0_i32_6 : BitVec 32 := 0#32
  let c1_i32_8 : BitVec 32 := 1#32
  let arg11 : BitVec 32 := Scf.iv c0_i32_6 c1_i32_8 k0_t2
  let c8_i32 : BitVec 32 := 8#32
  let v26 : BitVec 32 := Scalar.muli arg11 c8_i32
  let c3_i32_84 : BitVec 32 := 3#32
  let v261 : BitVec 32 := Scalar.addi v26 c3_i32_84
  let v262 : Index := Scalar.indexCast v261
  let c0_85 : Index := 0#32
  ![v262.toNat, 0]
def k0_off117 (k0_t2 : Fin k0_t2_loop.trips) : Fin 2 → Nat :=
  let c0_i32_6 : BitVec 32 := 0#32
  let c1_i32_8 : BitVec 32 := 1#32
  let arg11 : BitVec 32 := Scf.iv c0_i32_6 c1_i32_8 k0_t2
  let c8_i32 : BitVec 32 := 8#32
  let v26 : BitVec 32 := Scalar.muli arg11 c8_i32
  let c3_i32_87 : BitVec 32 := 3#32
  let v270 : BitVec 32 := Scalar.addi v26 c3_i32_87
  let v271 : Index := Scalar.indexCast v270
  let c16_88 : Index := 16#32
  ![v271.toNat, 16]
def k0_off118 (k0_t2 : Fin k0_t2_loop.trips) : Fin 2 → Nat :=
  let c0_i32_6 : BitVec 32 := 0#32
  let c1_i32_8 : BitVec 32 := 1#32
  let arg11 : BitVec 32 := Scf.iv c0_i32_6 c1_i32_8 k0_t2
  let c8_i32 : BitVec 32 := 8#32
  let v26 : BitVec 32 := Scalar.muli arg11 c8_i32
  let c3_i32_90 : BitVec 32 := 3#32
  let v279 : BitVec 32 := Scalar.addi v26 c3_i32_90
  let v280 : Index := Scalar.indexCast v279
  let c32_91 : Index := 32#32
  ![v280.toNat, 32]
def k0_off119 (k0_t2 : Fin k0_t2_loop.trips) : Fin 2 → Nat :=
  let c0_i32_6 : BitVec 32 := 0#32
  let c1_i32_8 : BitVec 32 := 1#32
  let arg11 : BitVec 32 := Scf.iv c0_i32_6 c1_i32_8 k0_t2
  let c8_i32 : BitVec 32 := 8#32
  let v26 : BitVec 32 := Scalar.muli arg11 c8_i32
  let c3_i32_93 : BitVec 32 := 3#32
  let v288 : BitVec 32 := Scalar.addi v26 c3_i32_93
  let v289 : Index := Scalar.indexCast v288
  let c48_94 : Index := 48#32
  ![v289.toNat, 48]
def k0_off120 (v294 : BitVec 32) (c0_i32_95 : BitVec 32) : Fin 1 → Nat :=
  let v295 : BitVec 32 := Scalar.addi v294 c0_i32_95
  let v296 : Index := Scalar.indexCast v295
  ![v296.toNat]

def k0_chk24 (v294 : BitVec 32) : Prop :=
  (∀ (r : Fin 4), ∀ a, (k0_off120 v294 (BitVec.ofNat 32 (16 * r.val))) a + S16.size a ≤ S448.size a)
theorem k0_off120_inb : ∀ (v294 : BitVec 32) (k0_hw24 : k0_chk24 v294), ∀ (r : Fin 4), ∀ a, (k0_off120 v294 (BitVec.ofNat 32 (16 * r.val))) a + S16.size a ≤ S448.size a := fun v294 k0_hw24 r => k0_hw24 r

def k0_off121 (k0_t2 : Fin k0_t2_loop.trips) : Fin 2 → Nat :=
  let c0_i32_6 : BitVec 32 := 0#32
  let c1_i32_8 : BitVec 32 := 1#32
  let arg11 : BitVec 32 := Scf.iv c0_i32_6 c1_i32_8 k0_t2
  let c8_i32 : BitVec 32 := 8#32
  let v26 : BitVec 32 := Scalar.muli arg11 c8_i32
  let c3_i32_96 : BitVec 32 := 3#32
  let v299 : BitVec 32 := Scalar.addi v26 c3_i32_96
  let v300 : Index := Scalar.indexCast v299
  let c64_97 : Index := 64#32
  ![v300.toNat, 64]
def k0_off122 (k0_t2 : Fin k0_t2_loop.trips) : Fin 2 → Nat :=
  let c0_i32_6 : BitVec 32 := 0#32
  let c1_i32_8 : BitVec 32 := 1#32
  let arg11 : BitVec 32 := Scf.iv c0_i32_6 c1_i32_8 k0_t2
  let c8_i32 : BitVec 32 := 8#32
  let v26 : BitVec 32 := Scalar.muli arg11 c8_i32
  let c3_i32_99 : BitVec 32 := 3#32
  let v308 : BitVec 32 := Scalar.addi v26 c3_i32_99
  let v309 : Index := Scalar.indexCast v308
  let c80_100 : Index := 80#32
  ![v309.toNat, 80]
def k0_off123 (k0_t2 : Fin k0_t2_loop.trips) : Fin 2 → Nat :=
  let c0_i32_6 : BitVec 32 := 0#32
  let c1_i32_8 : BitVec 32 := 1#32
  let arg11 : BitVec 32 := Scf.iv c0_i32_6 c1_i32_8 k0_t2
  let c8_i32 : BitVec 32 := 8#32
  let v26 : BitVec 32 := Scalar.muli arg11 c8_i32
  let c3_i32_102 : BitVec 32 := 3#32
  let v317 : BitVec 32 := Scalar.addi v26 c3_i32_102
  let v318 : Index := Scalar.indexCast v317
  let c96_103 : Index := 96#32
  ![v318.toNat, 96]
def k0_off124 (k0_t2 : Fin k0_t2_loop.trips) : Fin 2 → Nat :=
  let c0_i32_6 : BitVec 32 := 0#32
  let c1_i32_8 : BitVec 32 := 1#32
  let arg11 : BitVec 32 := Scf.iv c0_i32_6 c1_i32_8 k0_t2
  let c8_i32 : BitVec 32 := 8#32
  let v26 : BitVec 32 := Scalar.muli arg11 c8_i32
  let c3_i32_105 : BitVec 32 := 3#32
  let v326 : BitVec 32 := Scalar.addi v26 c3_i32_105
  let v327 : Index := Scalar.indexCast v326
  let c112_106 : Index := 112#32
  ![v327.toNat, 112]
def k0_off125 (v332 : BitVec 32) (c0_i32_107 : BitVec 32) : Fin 1 → Nat :=
  let v333 : BitVec 32 := Scalar.addi v332 c0_i32_107
  let v334 : Index := Scalar.indexCast v333
  ![v334.toNat]

def k0_chk25 (v332 : BitVec 32) : Prop :=
  (∀ (r : Fin 4), ∀ a, (k0_off125 v332 (BitVec.ofNat 32 (16 * r.val))) a + S16.size a ≤ S448.size a)
theorem k0_off125_inb : ∀ (v332 : BitVec 32) (k0_hw25 : k0_chk25 v332), ∀ (r : Fin 4), ∀ a, (k0_off125 v332 (BitVec.ofNat 32 (16 * r.val))) a + S16.size a ≤ S448.size a := fun v332 k0_hw25 r => k0_hw25 r

def k0_off126 (k0_t2 : Fin k0_t2_loop.trips) : Fin 2 → Nat :=
  let c0_i32_6 : BitVec 32 := 0#32
  let c1_i32_8 : BitVec 32 := 1#32
  let arg11 : BitVec 32 := Scf.iv c0_i32_6 c1_i32_8 k0_t2
  let c8_i32 : BitVec 32 := 8#32
  let v26 : BitVec 32 := Scalar.muli arg11 c8_i32
  let c4_i32_108 : BitVec 32 := 4#32
  let v337 : BitVec 32 := Scalar.addi v26 c4_i32_108
  let v338 : Index := Scalar.indexCast v337
  let c0_109 : Index := 0#32
  ![v338.toNat, 0]
def k0_off127 (k0_t2 : Fin k0_t2_loop.trips) : Fin 2 → Nat :=
  let c0_i32_6 : BitVec 32 := 0#32
  let c1_i32_8 : BitVec 32 := 1#32
  let arg11 : BitVec 32 := Scf.iv c0_i32_6 c1_i32_8 k0_t2
  let c8_i32 : BitVec 32 := 8#32
  let v26 : BitVec 32 := Scalar.muli arg11 c8_i32
  let c4_i32_111 : BitVec 32 := 4#32
  let v346 : BitVec 32 := Scalar.addi v26 c4_i32_111
  let v347 : Index := Scalar.indexCast v346
  let c16_112 : Index := 16#32
  ![v347.toNat, 16]
def k0_off128 (k0_t2 : Fin k0_t2_loop.trips) : Fin 2 → Nat :=
  let c0_i32_6 : BitVec 32 := 0#32
  let c1_i32_8 : BitVec 32 := 1#32
  let arg11 : BitVec 32 := Scf.iv c0_i32_6 c1_i32_8 k0_t2
  let c8_i32 : BitVec 32 := 8#32
  let v26 : BitVec 32 := Scalar.muli arg11 c8_i32
  let c4_i32_114 : BitVec 32 := 4#32
  let v355 : BitVec 32 := Scalar.addi v26 c4_i32_114
  let v356 : Index := Scalar.indexCast v355
  let c32_115 : Index := 32#32
  ![v356.toNat, 32]
def k0_off129 (k0_t2 : Fin k0_t2_loop.trips) : Fin 2 → Nat :=
  let c0_i32_6 : BitVec 32 := 0#32
  let c1_i32_8 : BitVec 32 := 1#32
  let arg11 : BitVec 32 := Scf.iv c0_i32_6 c1_i32_8 k0_t2
  let c8_i32 : BitVec 32 := 8#32
  let v26 : BitVec 32 := Scalar.muli arg11 c8_i32
  let c4_i32_117 : BitVec 32 := 4#32
  let v364 : BitVec 32 := Scalar.addi v26 c4_i32_117
  let v365 : Index := Scalar.indexCast v364
  let c48_118 : Index := 48#32
  ![v365.toNat, 48]
def k0_off130 (v370 : BitVec 32) (c0_i32_119 : BitVec 32) : Fin 1 → Nat :=
  let v371 : BitVec 32 := Scalar.addi v370 c0_i32_119
  let v372 : Index := Scalar.indexCast v371
  ![v372.toNat]

def k0_chk26 (v370 : BitVec 32) : Prop :=
  (∀ (r : Fin 4), ∀ a, (k0_off130 v370 (BitVec.ofNat 32 (16 * r.val))) a + S16.size a ≤ S448.size a)
theorem k0_off130_inb : ∀ (v370 : BitVec 32) (k0_hw26 : k0_chk26 v370), ∀ (r : Fin 4), ∀ a, (k0_off130 v370 (BitVec.ofNat 32 (16 * r.val))) a + S16.size a ≤ S448.size a := fun v370 k0_hw26 r => k0_hw26 r

def k0_off131 (k0_t2 : Fin k0_t2_loop.trips) : Fin 2 → Nat :=
  let c0_i32_6 : BitVec 32 := 0#32
  let c1_i32_8 : BitVec 32 := 1#32
  let arg11 : BitVec 32 := Scf.iv c0_i32_6 c1_i32_8 k0_t2
  let c8_i32 : BitVec 32 := 8#32
  let v26 : BitVec 32 := Scalar.muli arg11 c8_i32
  let c4_i32_120 : BitVec 32 := 4#32
  let v375 : BitVec 32 := Scalar.addi v26 c4_i32_120
  let v376 : Index := Scalar.indexCast v375
  let c64_121 : Index := 64#32
  ![v376.toNat, 64]
def k0_off132 (k0_t2 : Fin k0_t2_loop.trips) : Fin 2 → Nat :=
  let c0_i32_6 : BitVec 32 := 0#32
  let c1_i32_8 : BitVec 32 := 1#32
  let arg11 : BitVec 32 := Scf.iv c0_i32_6 c1_i32_8 k0_t2
  let c8_i32 : BitVec 32 := 8#32
  let v26 : BitVec 32 := Scalar.muli arg11 c8_i32
  let c4_i32_123 : BitVec 32 := 4#32
  let v384 : BitVec 32 := Scalar.addi v26 c4_i32_123
  let v385 : Index := Scalar.indexCast v384
  let c80_124 : Index := 80#32
  ![v385.toNat, 80]
def k0_off133 (k0_t2 : Fin k0_t2_loop.trips) : Fin 2 → Nat :=
  let c0_i32_6 : BitVec 32 := 0#32
  let c1_i32_8 : BitVec 32 := 1#32
  let arg11 : BitVec 32 := Scf.iv c0_i32_6 c1_i32_8 k0_t2
  let c8_i32 : BitVec 32 := 8#32
  let v26 : BitVec 32 := Scalar.muli arg11 c8_i32
  let c4_i32_126 : BitVec 32 := 4#32
  let v393 : BitVec 32 := Scalar.addi v26 c4_i32_126
  let v394 : Index := Scalar.indexCast v393
  let c96_127 : Index := 96#32
  ![v394.toNat, 96]
def k0_off134 (k0_t2 : Fin k0_t2_loop.trips) : Fin 2 → Nat :=
  let c0_i32_6 : BitVec 32 := 0#32
  let c1_i32_8 : BitVec 32 := 1#32
  let arg11 : BitVec 32 := Scf.iv c0_i32_6 c1_i32_8 k0_t2
  let c8_i32 : BitVec 32 := 8#32
  let v26 : BitVec 32 := Scalar.muli arg11 c8_i32
  let c4_i32_129 : BitVec 32 := 4#32
  let v402 : BitVec 32 := Scalar.addi v26 c4_i32_129
  let v403 : Index := Scalar.indexCast v402
  let c112_130 : Index := 112#32
  ![v403.toNat, 112]
def k0_off135 (v408 : BitVec 32) (c0_i32_131 : BitVec 32) : Fin 1 → Nat :=
  let v409 : BitVec 32 := Scalar.addi v408 c0_i32_131
  let v410 : Index := Scalar.indexCast v409
  ![v410.toNat]

def k0_chk27 (v408 : BitVec 32) : Prop :=
  (∀ (r : Fin 4), ∀ a, (k0_off135 v408 (BitVec.ofNat 32 (16 * r.val))) a + S16.size a ≤ S448.size a)
theorem k0_off135_inb : ∀ (v408 : BitVec 32) (k0_hw27 : k0_chk27 v408), ∀ (r : Fin 4), ∀ a, (k0_off135 v408 (BitVec.ofNat 32 (16 * r.val))) a + S16.size a ≤ S448.size a := fun v408 k0_hw27 r => k0_hw27 r

def k0_off136 (k0_t2 : Fin k0_t2_loop.trips) : Fin 2 → Nat :=
  let c0_i32_6 : BitVec 32 := 0#32
  let c1_i32_8 : BitVec 32 := 1#32
  let arg11 : BitVec 32 := Scf.iv c0_i32_6 c1_i32_8 k0_t2
  let c8_i32 : BitVec 32 := 8#32
  let v26 : BitVec 32 := Scalar.muli arg11 c8_i32
  let c5_i32 : BitVec 32 := 5#32
  let v413 : BitVec 32 := Scalar.addi v26 c5_i32
  let v414 : Index := Scalar.indexCast v413
  let c0_132 : Index := 0#32
  ![v414.toNat, 0]
def k0_off137 (k0_t2 : Fin k0_t2_loop.trips) : Fin 2 → Nat :=
  let c0_i32_6 : BitVec 32 := 0#32
  let c1_i32_8 : BitVec 32 := 1#32
  let arg11 : BitVec 32 := Scf.iv c0_i32_6 c1_i32_8 k0_t2
  let c8_i32 : BitVec 32 := 8#32
  let v26 : BitVec 32 := Scalar.muli arg11 c8_i32
  let c5_i32_134 : BitVec 32 := 5#32
  let v422 : BitVec 32 := Scalar.addi v26 c5_i32_134
  let v423 : Index := Scalar.indexCast v422
  let c16_135 : Index := 16#32
  ![v423.toNat, 16]
def k0_off138 (k0_t2 : Fin k0_t2_loop.trips) : Fin 2 → Nat :=
  let c0_i32_6 : BitVec 32 := 0#32
  let c1_i32_8 : BitVec 32 := 1#32
  let arg11 : BitVec 32 := Scf.iv c0_i32_6 c1_i32_8 k0_t2
  let c8_i32 : BitVec 32 := 8#32
  let v26 : BitVec 32 := Scalar.muli arg11 c8_i32
  let c5_i32_137 : BitVec 32 := 5#32
  let v431 : BitVec 32 := Scalar.addi v26 c5_i32_137
  let v432 : Index := Scalar.indexCast v431
  let c32_138 : Index := 32#32
  ![v432.toNat, 32]
def k0_off139 (k0_t2 : Fin k0_t2_loop.trips) : Fin 2 → Nat :=
  let c0_i32_6 : BitVec 32 := 0#32
  let c1_i32_8 : BitVec 32 := 1#32
  let arg11 : BitVec 32 := Scf.iv c0_i32_6 c1_i32_8 k0_t2
  let c8_i32 : BitVec 32 := 8#32
  let v26 : BitVec 32 := Scalar.muli arg11 c8_i32
  let c5_i32_140 : BitVec 32 := 5#32
  let v440 : BitVec 32 := Scalar.addi v26 c5_i32_140
  let v441 : Index := Scalar.indexCast v440
  let c48_141 : Index := 48#32
  ![v441.toNat, 48]
def k0_off140 (v446 : BitVec 32) (c0_i32_142 : BitVec 32) : Fin 1 → Nat :=
  let v447 : BitVec 32 := Scalar.addi v446 c0_i32_142
  let v448 : Index := Scalar.indexCast v447
  ![v448.toNat]

def k0_chk28 (v446 : BitVec 32) : Prop :=
  (∀ (r : Fin 4), ∀ a, (k0_off140 v446 (BitVec.ofNat 32 (16 * r.val))) a + S16.size a ≤ S448.size a)
theorem k0_off140_inb : ∀ (v446 : BitVec 32) (k0_hw28 : k0_chk28 v446), ∀ (r : Fin 4), ∀ a, (k0_off140 v446 (BitVec.ofNat 32 (16 * r.val))) a + S16.size a ≤ S448.size a := fun v446 k0_hw28 r => k0_hw28 r

def k0_off141 (k0_t2 : Fin k0_t2_loop.trips) : Fin 2 → Nat :=
  let c0_i32_6 : BitVec 32 := 0#32
  let c1_i32_8 : BitVec 32 := 1#32
  let arg11 : BitVec 32 := Scf.iv c0_i32_6 c1_i32_8 k0_t2
  let c8_i32 : BitVec 32 := 8#32
  let v26 : BitVec 32 := Scalar.muli arg11 c8_i32
  let c5_i32_143 : BitVec 32 := 5#32
  let v451 : BitVec 32 := Scalar.addi v26 c5_i32_143
  let v452 : Index := Scalar.indexCast v451
  let c64_144 : Index := 64#32
  ![v452.toNat, 64]
def k0_off142 (k0_t2 : Fin k0_t2_loop.trips) : Fin 2 → Nat :=
  let c0_i32_6 : BitVec 32 := 0#32
  let c1_i32_8 : BitVec 32 := 1#32
  let arg11 : BitVec 32 := Scf.iv c0_i32_6 c1_i32_8 k0_t2
  let c8_i32 : BitVec 32 := 8#32
  let v26 : BitVec 32 := Scalar.muli arg11 c8_i32
  let c5_i32_146 : BitVec 32 := 5#32
  let v460 : BitVec 32 := Scalar.addi v26 c5_i32_146
  let v461 : Index := Scalar.indexCast v460
  let c80_147 : Index := 80#32
  ![v461.toNat, 80]
def k0_off143 (k0_t2 : Fin k0_t2_loop.trips) : Fin 2 → Nat :=
  let c0_i32_6 : BitVec 32 := 0#32
  let c1_i32_8 : BitVec 32 := 1#32
  let arg11 : BitVec 32 := Scf.iv c0_i32_6 c1_i32_8 k0_t2
  let c8_i32 : BitVec 32 := 8#32
  let v26 : BitVec 32 := Scalar.muli arg11 c8_i32
  let c5_i32_149 : BitVec 32 := 5#32
  let v469 : BitVec 32 := Scalar.addi v26 c5_i32_149
  let v470 : Index := Scalar.indexCast v469
  let c96_150 : Index := 96#32
  ![v470.toNat, 96]
def k0_off144 (k0_t2 : Fin k0_t2_loop.trips) : Fin 2 → Nat :=
  let c0_i32_6 : BitVec 32 := 0#32
  let c1_i32_8 : BitVec 32 := 1#32
  let arg11 : BitVec 32 := Scf.iv c0_i32_6 c1_i32_8 k0_t2
  let c8_i32 : BitVec 32 := 8#32
  let v26 : BitVec 32 := Scalar.muli arg11 c8_i32
  let c5_i32_152 : BitVec 32 := 5#32
  let v478 : BitVec 32 := Scalar.addi v26 c5_i32_152
  let v479 : Index := Scalar.indexCast v478
  let c112_153 : Index := 112#32
  ![v479.toNat, 112]
def k0_off145 (v484 : BitVec 32) (c0_i32_154 : BitVec 32) : Fin 1 → Nat :=
  let v485 : BitVec 32 := Scalar.addi v484 c0_i32_154
  let v486 : Index := Scalar.indexCast v485
  ![v486.toNat]

def k0_chk29 (v484 : BitVec 32) : Prop :=
  (∀ (r : Fin 4), ∀ a, (k0_off145 v484 (BitVec.ofNat 32 (16 * r.val))) a + S16.size a ≤ S448.size a)
theorem k0_off145_inb : ∀ (v484 : BitVec 32) (k0_hw29 : k0_chk29 v484), ∀ (r : Fin 4), ∀ a, (k0_off145 v484 (BitVec.ofNat 32 (16 * r.val))) a + S16.size a ≤ S448.size a := fun v484 k0_hw29 r => k0_hw29 r

def k0_off146 (k0_t2 : Fin k0_t2_loop.trips) : Fin 2 → Nat :=
  let c0_i32_6 : BitVec 32 := 0#32
  let c1_i32_8 : BitVec 32 := 1#32
  let arg11 : BitVec 32 := Scf.iv c0_i32_6 c1_i32_8 k0_t2
  let c8_i32 : BitVec 32 := 8#32
  let v26 : BitVec 32 := Scalar.muli arg11 c8_i32
  let c6_i32_155 : BitVec 32 := 6#32
  let v489 : BitVec 32 := Scalar.addi v26 c6_i32_155
  let v490 : Index := Scalar.indexCast v489
  let c0_156 : Index := 0#32
  ![v490.toNat, 0]
def k0_off147 (k0_t2 : Fin k0_t2_loop.trips) : Fin 2 → Nat :=
  let c0_i32_6 : BitVec 32 := 0#32
  let c1_i32_8 : BitVec 32 := 1#32
  let arg11 : BitVec 32 := Scf.iv c0_i32_6 c1_i32_8 k0_t2
  let c8_i32 : BitVec 32 := 8#32
  let v26 : BitVec 32 := Scalar.muli arg11 c8_i32
  let c6_i32_158 : BitVec 32 := 6#32
  let v498 : BitVec 32 := Scalar.addi v26 c6_i32_158
  let v499 : Index := Scalar.indexCast v498
  let c16_159 : Index := 16#32
  ![v499.toNat, 16]
def k0_off148 (k0_t2 : Fin k0_t2_loop.trips) : Fin 2 → Nat :=
  let c0_i32_6 : BitVec 32 := 0#32
  let c1_i32_8 : BitVec 32 := 1#32
  let arg11 : BitVec 32 := Scf.iv c0_i32_6 c1_i32_8 k0_t2
  let c8_i32 : BitVec 32 := 8#32
  let v26 : BitVec 32 := Scalar.muli arg11 c8_i32
  let c6_i32_161 : BitVec 32 := 6#32
  let v507 : BitVec 32 := Scalar.addi v26 c6_i32_161
  let v508 : Index := Scalar.indexCast v507
  let c32_162 : Index := 32#32
  ![v508.toNat, 32]
def k0_off149 (k0_t2 : Fin k0_t2_loop.trips) : Fin 2 → Nat :=
  let c0_i32_6 : BitVec 32 := 0#32
  let c1_i32_8 : BitVec 32 := 1#32
  let arg11 : BitVec 32 := Scf.iv c0_i32_6 c1_i32_8 k0_t2
  let c8_i32 : BitVec 32 := 8#32
  let v26 : BitVec 32 := Scalar.muli arg11 c8_i32
  let c6_i32_164 : BitVec 32 := 6#32
  let v516 : BitVec 32 := Scalar.addi v26 c6_i32_164
  let v517 : Index := Scalar.indexCast v516
  let c48_165 : Index := 48#32
  ![v517.toNat, 48]
def k0_off150 (v522 : BitVec 32) (c0_i32_166 : BitVec 32) : Fin 1 → Nat :=
  let v523 : BitVec 32 := Scalar.addi v522 c0_i32_166
  let v524 : Index := Scalar.indexCast v523
  ![v524.toNat]

def k0_chk30 (v522 : BitVec 32) : Prop :=
  (∀ (r : Fin 4), ∀ a, (k0_off150 v522 (BitVec.ofNat 32 (16 * r.val))) a + S16.size a ≤ S448.size a)
theorem k0_off150_inb : ∀ (v522 : BitVec 32) (k0_hw30 : k0_chk30 v522), ∀ (r : Fin 4), ∀ a, (k0_off150 v522 (BitVec.ofNat 32 (16 * r.val))) a + S16.size a ≤ S448.size a := fun v522 k0_hw30 r => k0_hw30 r

def k0_off151 (k0_t2 : Fin k0_t2_loop.trips) : Fin 2 → Nat :=
  let c0_i32_6 : BitVec 32 := 0#32
  let c1_i32_8 : BitVec 32 := 1#32
  let arg11 : BitVec 32 := Scf.iv c0_i32_6 c1_i32_8 k0_t2
  let c8_i32 : BitVec 32 := 8#32
  let v26 : BitVec 32 := Scalar.muli arg11 c8_i32
  let c6_i32_167 : BitVec 32 := 6#32
  let v527 : BitVec 32 := Scalar.addi v26 c6_i32_167
  let v528 : Index := Scalar.indexCast v527
  let c64_168 : Index := 64#32
  ![v528.toNat, 64]
def k0_off152 (k0_t2 : Fin k0_t2_loop.trips) : Fin 2 → Nat :=
  let c0_i32_6 : BitVec 32 := 0#32
  let c1_i32_8 : BitVec 32 := 1#32
  let arg11 : BitVec 32 := Scf.iv c0_i32_6 c1_i32_8 k0_t2
  let c8_i32 : BitVec 32 := 8#32
  let v26 : BitVec 32 := Scalar.muli arg11 c8_i32
  let c6_i32_170 : BitVec 32 := 6#32
  let v536 : BitVec 32 := Scalar.addi v26 c6_i32_170
  let v537 : Index := Scalar.indexCast v536
  let c80_171 : Index := 80#32
  ![v537.toNat, 80]
def k0_off153 (k0_t2 : Fin k0_t2_loop.trips) : Fin 2 → Nat :=
  let c0_i32_6 : BitVec 32 := 0#32
  let c1_i32_8 : BitVec 32 := 1#32
  let arg11 : BitVec 32 := Scf.iv c0_i32_6 c1_i32_8 k0_t2
  let c8_i32 : BitVec 32 := 8#32
  let v26 : BitVec 32 := Scalar.muli arg11 c8_i32
  let c6_i32_173 : BitVec 32 := 6#32
  let v545 : BitVec 32 := Scalar.addi v26 c6_i32_173
  let v546 : Index := Scalar.indexCast v545
  let c96_174 : Index := 96#32
  ![v546.toNat, 96]
def k0_off154 (k0_t2 : Fin k0_t2_loop.trips) : Fin 2 → Nat :=
  let c0_i32_6 : BitVec 32 := 0#32
  let c1_i32_8 : BitVec 32 := 1#32
  let arg11 : BitVec 32 := Scf.iv c0_i32_6 c1_i32_8 k0_t2
  let c8_i32 : BitVec 32 := 8#32
  let v26 : BitVec 32 := Scalar.muli arg11 c8_i32
  let c6_i32_176 : BitVec 32 := 6#32
  let v554 : BitVec 32 := Scalar.addi v26 c6_i32_176
  let v555 : Index := Scalar.indexCast v554
  let c112_177 : Index := 112#32
  ![v555.toNat, 112]
def k0_off155 (v560 : BitVec 32) (c0_i32_178 : BitVec 32) : Fin 1 → Nat :=
  let v561 : BitVec 32 := Scalar.addi v560 c0_i32_178
  let v562 : Index := Scalar.indexCast v561
  ![v562.toNat]

def k0_chk31 (v560 : BitVec 32) : Prop :=
  (∀ (r : Fin 4), ∀ a, (k0_off155 v560 (BitVec.ofNat 32 (16 * r.val))) a + S16.size a ≤ S448.size a)
theorem k0_off155_inb : ∀ (v560 : BitVec 32) (k0_hw31 : k0_chk31 v560), ∀ (r : Fin 4), ∀ a, (k0_off155 v560 (BitVec.ofNat 32 (16 * r.val))) a + S16.size a ≤ S448.size a := fun v560 k0_hw31 r => k0_hw31 r

def k0_off156 (k0_t2 : Fin k0_t2_loop.trips) : Fin 2 → Nat :=
  let c0_i32_6 : BitVec 32 := 0#32
  let c1_i32_8 : BitVec 32 := 1#32
  let arg11 : BitVec 32 := Scf.iv c0_i32_6 c1_i32_8 k0_t2
  let c8_i32 : BitVec 32 := 8#32
  let v26 : BitVec 32 := Scalar.muli arg11 c8_i32
  let c7_i32_179 : BitVec 32 := 7#32
  let v565 : BitVec 32 := Scalar.addi v26 c7_i32_179
  let v566 : Index := Scalar.indexCast v565
  let c0_180 : Index := 0#32
  ![v566.toNat, 0]
def k0_off157 (k0_t2 : Fin k0_t2_loop.trips) : Fin 2 → Nat :=
  let c0_i32_6 : BitVec 32 := 0#32
  let c1_i32_8 : BitVec 32 := 1#32
  let arg11 : BitVec 32 := Scf.iv c0_i32_6 c1_i32_8 k0_t2
  let c8_i32 : BitVec 32 := 8#32
  let v26 : BitVec 32 := Scalar.muli arg11 c8_i32
  let c7_i32_182 : BitVec 32 := 7#32
  let v574 : BitVec 32 := Scalar.addi v26 c7_i32_182
  let v575 : Index := Scalar.indexCast v574
  let c16_183 : Index := 16#32
  ![v575.toNat, 16]
def k0_off158 (k0_t2 : Fin k0_t2_loop.trips) : Fin 2 → Nat :=
  let c0_i32_6 : BitVec 32 := 0#32
  let c1_i32_8 : BitVec 32 := 1#32
  let arg11 : BitVec 32 := Scf.iv c0_i32_6 c1_i32_8 k0_t2
  let c8_i32 : BitVec 32 := 8#32
  let v26 : BitVec 32 := Scalar.muli arg11 c8_i32
  let c7_i32_185 : BitVec 32 := 7#32
  let v583 : BitVec 32 := Scalar.addi v26 c7_i32_185
  let v584 : Index := Scalar.indexCast v583
  let c32_186 : Index := 32#32
  ![v584.toNat, 32]
def k0_off159 (k0_t2 : Fin k0_t2_loop.trips) : Fin 2 → Nat :=
  let c0_i32_6 : BitVec 32 := 0#32
  let c1_i32_8 : BitVec 32 := 1#32
  let arg11 : BitVec 32 := Scf.iv c0_i32_6 c1_i32_8 k0_t2
  let c8_i32 : BitVec 32 := 8#32
  let v26 : BitVec 32 := Scalar.muli arg11 c8_i32
  let c7_i32_188 : BitVec 32 := 7#32
  let v592 : BitVec 32 := Scalar.addi v26 c7_i32_188
  let v593 : Index := Scalar.indexCast v592
  let c48_189 : Index := 48#32
  ![v593.toNat, 48]
def k0_off160 (v598 : BitVec 32) (c0_i32_190 : BitVec 32) : Fin 1 → Nat :=
  let v599 : BitVec 32 := Scalar.addi v598 c0_i32_190
  let v600 : Index := Scalar.indexCast v599
  ![v600.toNat]

def k0_chk32 (v598 : BitVec 32) : Prop :=
  (∀ (r : Fin 4), ∀ a, (k0_off160 v598 (BitVec.ofNat 32 (16 * r.val))) a + S16.size a ≤ S448.size a)
theorem k0_off160_inb : ∀ (v598 : BitVec 32) (k0_hw32 : k0_chk32 v598), ∀ (r : Fin 4), ∀ a, (k0_off160 v598 (BitVec.ofNat 32 (16 * r.val))) a + S16.size a ≤ S448.size a := fun v598 k0_hw32 r => k0_hw32 r

def k0_off161 (k0_t2 : Fin k0_t2_loop.trips) : Fin 2 → Nat :=
  let c0_i32_6 : BitVec 32 := 0#32
  let c1_i32_8 : BitVec 32 := 1#32
  let arg11 : BitVec 32 := Scf.iv c0_i32_6 c1_i32_8 k0_t2
  let c8_i32 : BitVec 32 := 8#32
  let v26 : BitVec 32 := Scalar.muli arg11 c8_i32
  let c7_i32_191 : BitVec 32 := 7#32
  let v603 : BitVec 32 := Scalar.addi v26 c7_i32_191
  let v604 : Index := Scalar.indexCast v603
  let c64_192 : Index := 64#32
  ![v604.toNat, 64]
def k0_off162 (k0_t2 : Fin k0_t2_loop.trips) : Fin 2 → Nat :=
  let c0_i32_6 : BitVec 32 := 0#32
  let c1_i32_8 : BitVec 32 := 1#32
  let arg11 : BitVec 32 := Scf.iv c0_i32_6 c1_i32_8 k0_t2
  let c8_i32 : BitVec 32 := 8#32
  let v26 : BitVec 32 := Scalar.muli arg11 c8_i32
  let c7_i32_194 : BitVec 32 := 7#32
  let v612 : BitVec 32 := Scalar.addi v26 c7_i32_194
  let v613 : Index := Scalar.indexCast v612
  let c80_195 : Index := 80#32
  ![v613.toNat, 80]
def k0_off163 (k0_t2 : Fin k0_t2_loop.trips) : Fin 2 → Nat :=
  let c0_i32_6 : BitVec 32 := 0#32
  let c1_i32_8 : BitVec 32 := 1#32
  let arg11 : BitVec 32 := Scf.iv c0_i32_6 c1_i32_8 k0_t2
  let c8_i32 : BitVec 32 := 8#32
  let v26 : BitVec 32 := Scalar.muli arg11 c8_i32
  let c7_i32_197 : BitVec 32 := 7#32
  let v621 : BitVec 32 := Scalar.addi v26 c7_i32_197
  let v622 : Index := Scalar.indexCast v621
  let c96_198 : Index := 96#32
  ![v622.toNat, 96]
def k0_off164 (k0_t2 : Fin k0_t2_loop.trips) : Fin 2 → Nat :=
  let c0_i32_6 : BitVec 32 := 0#32
  let c1_i32_8 : BitVec 32 := 1#32
  let arg11 : BitVec 32 := Scf.iv c0_i32_6 c1_i32_8 k0_t2
  let c8_i32 : BitVec 32 := 8#32
  let v26 : BitVec 32 := Scalar.muli arg11 c8_i32
  let c7_i32_200 : BitVec 32 := 7#32
  let v630 : BitVec 32 := Scalar.addi v26 c7_i32_200
  let v631 : Index := Scalar.indexCast v630
  let c112_201 : Index := 112#32
  ![v631.toNat, 112]
@[reducible] def k0_t3_loop : Scf.Loop 32 :=
  let c1_i32_13 : BitVec 32 := 1#32
  let c24_i32 : BitVec 32 := 24#32
  let v11 : BitVec 32 := Scalar.addi c1_i32_13 c24_i32
  let c1_i32_14 : BitVec 32 := 1#32
  ⟨c1_i32_13, v11, c1_i32_14⟩
def k0_off165 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12800_i32 : BitVec 32 := 12800#32
  let v2 : BitVec 32 := Scalar.muli v1 c12800_i32
  let c0_i32_21 : BitVec 32 := 0#32
  ![v2.toNat, 0]
@[reducible] def k0_t4_loop : Scf.Loop 32 :=
  let c0_i32_24 : BitVec 32 := 0#32
  let c32_i32_25 : BitVec 32 := 32#32
  let v19 : BitVec 32 := Scalar.addi c0_i32_24 c32_i32_25
  let c1_i32_26 : BitVec 32 := 1#32
  ⟨c0_i32_24, v19, c1_i32_26⟩
def k0_off166 (k0_t3 : Fin k0_t3_loop.trips) (k0_t4 : Fin k0_t4_loop.trips) : Fin 2 → Nat :=
  let c2_i32_20 : BitVec 32 := 2#32
  let c1_i32_13 : BitVec 32 := 1#32
  let c1_i32_14 : BitVec 32 := 1#32
  let arg11 : BitVec 32 := Scf.iv c1_i32_13 c1_i32_14 k0_t3
  let v16 : BitVec 32 := Scalar.muli c2_i32_20 arg11
  let c4_i32 : BitVec 32 := 4#32
  let v32 : BitVec 32 := Scalar.muli v16 c4_i32
  let c0_i32_24 : BitVec 32 := 0#32
  let c1_i32_26 : BitVec 32 := 1#32
  let arg12 : BitVec 32 := Scf.iv c0_i32_24 c1_i32_26 k0_t4
  let c3_i32 : BitVec 32 := 3#32
  let v33 : BitVec 32 := Scalar.shrui arg12 c3_i32
  let v34 : BitVec 32 := Scalar.addi v32 v33
  let v37 : Index := Scalar.indexCast v34
  let c7_i32 : BitVec 32 := 7#32
  let v35 : BitVec 32 := Scalar.andi arg12 c7_i32
  let c4_i32_42 : BitVec 32 := 4#32
  let v36 : BitVec 32 := Scalar.shli v35 c4_i32_42
  let v38 : Index := Scalar.indexCast v36
  ![v37.toNat, v38.toNat]
def k0_off167 (v45 : BitVec 32) (c0_i32_43 : BitVec 32) : Fin 1 → Nat :=
  let v46 : BitVec 32 := Scalar.addi v45 c0_i32_43
  let v47 : Index := Scalar.indexCast v46
  ![v47.toNat]

def k0_chk33 (v45 : BitVec 32) : Prop :=
  (∀ (r : Fin 4), ∀ a, (k0_off167 v45 (BitVec.ofNat 32 (16 * r.val))) a + S16.size a ≤ S448.size a)
theorem k0_off167_inb : ∀ (v45 : BitVec 32) (k0_hw33 : k0_chk33 v45), ∀ (r : Fin 4), ∀ a, (k0_off167 v45 (BitVec.ofNat 32 (16 * r.val))) a + S16.size a ≤ S448.size a := fun v45 k0_hw33 r => k0_hw33 r

def k0_off168 (k0_t4 : Fin k0_t4_loop.trips) : Fin 2 → Nat :=
  let c0_i32_24 : BitVec 32 := 0#32
  let c1_i32_26 : BitVec 32 := 1#32
  let arg12 : BitVec 32 := Scf.iv c0_i32_24 c1_i32_26 k0_t4
  let c8_i32 : BitVec 32 := 8#32
  let v43 : BitVec 32 := Scalar.muli arg12 c8_i32
  let c0_i32_44 : BitVec 32 := 0#32
  let v50 : BitVec 32 := Scalar.addi v43 c0_i32_44
  let v51 : Index := Scalar.indexCast v50
  let c0 : Index := 0#32
  ![v51.toNat, 0]
def k0_off169 (k0_t4 : Fin k0_t4_loop.trips) : Fin 2 → Nat :=
  let c0_i32_24 : BitVec 32 := 0#32
  let c1_i32_26 : BitVec 32 := 1#32
  let arg12 : BitVec 32 := Scf.iv c0_i32_24 c1_i32_26 k0_t4
  let c8_i32 : BitVec 32 := 8#32
  let v43 : BitVec 32 := Scalar.muli arg12 c8_i32
  let c0_i32_45 : BitVec 32 := 0#32
  let v59 : BitVec 32 := Scalar.addi v43 c0_i32_45
  let v60 : Index := Scalar.indexCast v59
  let c16 : Index := 16#32
  ![v60.toNat, 16]
def k0_off170 (k0_t4 : Fin k0_t4_loop.trips) : Fin 2 → Nat :=
  let c0_i32_24 : BitVec 32 := 0#32
  let c1_i32_26 : BitVec 32 := 1#32
  let arg12 : BitVec 32 := Scf.iv c0_i32_24 c1_i32_26 k0_t4
  let c8_i32 : BitVec 32 := 8#32
  let v43 : BitVec 32 := Scalar.muli arg12 c8_i32
  let c0_i32_47 : BitVec 32 := 0#32
  let v68 : BitVec 32 := Scalar.addi v43 c0_i32_47
  let v69 : Index := Scalar.indexCast v68
  let c32 : Index := 32#32
  ![v69.toNat, 32]
def k0_off171 (k0_t4 : Fin k0_t4_loop.trips) : Fin 2 → Nat :=
  let c0_i32_24 : BitVec 32 := 0#32
  let c1_i32_26 : BitVec 32 := 1#32
  let arg12 : BitVec 32 := Scf.iv c0_i32_24 c1_i32_26 k0_t4
  let c8_i32 : BitVec 32 := 8#32
  let v43 : BitVec 32 := Scalar.muli arg12 c8_i32
  let c0_i32_48 : BitVec 32 := 0#32
  let v77 : BitVec 32 := Scalar.addi v43 c0_i32_48
  let v78 : Index := Scalar.indexCast v77
  let c48 : Index := 48#32
  ![v78.toNat, 48]
def k0_off172 (v83 : BitVec 32) (c0_i32_49 : BitVec 32) : Fin 1 → Nat :=
  let v84 : BitVec 32 := Scalar.addi v83 c0_i32_49
  let v85 : Index := Scalar.indexCast v84
  ![v85.toNat]

def k0_chk34 (v83 : BitVec 32) : Prop :=
  (∀ (r : Fin 4), ∀ a, (k0_off172 v83 (BitVec.ofNat 32 (16 * r.val))) a + S16.size a ≤ S448.size a)
theorem k0_off172_inb : ∀ (v83 : BitVec 32) (k0_hw34 : k0_chk34 v83), ∀ (r : Fin 4), ∀ a, (k0_off172 v83 (BitVec.ofNat 32 (16 * r.val))) a + S16.size a ≤ S448.size a := fun v83 k0_hw34 r => k0_hw34 r

def k0_off173 (k0_t4 : Fin k0_t4_loop.trips) : Fin 2 → Nat :=
  let c0_i32_24 : BitVec 32 := 0#32
  let c1_i32_26 : BitVec 32 := 1#32
  let arg12 : BitVec 32 := Scf.iv c0_i32_24 c1_i32_26 k0_t4
  let c8_i32 : BitVec 32 := 8#32
  let v43 : BitVec 32 := Scalar.muli arg12 c8_i32
  let c0_i32_50 : BitVec 32 := 0#32
  let v88 : BitVec 32 := Scalar.addi v43 c0_i32_50
  let v89 : Index := Scalar.indexCast v88
  let c64 : Index := 64#32
  ![v89.toNat, 64]
def k0_off174 (k0_t4 : Fin k0_t4_loop.trips) : Fin 2 → Nat :=
  let c0_i32_24 : BitVec 32 := 0#32
  let c1_i32_26 : BitVec 32 := 1#32
  let arg12 : BitVec 32 := Scf.iv c0_i32_24 c1_i32_26 k0_t4
  let c8_i32 : BitVec 32 := 8#32
  let v43 : BitVec 32 := Scalar.muli arg12 c8_i32
  let c0_i32_52 : BitVec 32 := 0#32
  let v97 : BitVec 32 := Scalar.addi v43 c0_i32_52
  let v98 : Index := Scalar.indexCast v97
  let c80 : Index := 80#32
  ![v98.toNat, 80]
def k0_off175 (k0_t4 : Fin k0_t4_loop.trips) : Fin 2 → Nat :=
  let c0_i32_24 : BitVec 32 := 0#32
  let c1_i32_26 : BitVec 32 := 1#32
  let arg12 : BitVec 32 := Scf.iv c0_i32_24 c1_i32_26 k0_t4
  let c8_i32 : BitVec 32 := 8#32
  let v43 : BitVec 32 := Scalar.muli arg12 c8_i32
  let c0_i32_54 : BitVec 32 := 0#32
  let v106 : BitVec 32 := Scalar.addi v43 c0_i32_54
  let v107 : Index := Scalar.indexCast v106
  let c96 : Index := 96#32
  ![v107.toNat, 96]
def k0_off176 (k0_t4 : Fin k0_t4_loop.trips) : Fin 2 → Nat :=
  let c0_i32_24 : BitVec 32 := 0#32
  let c1_i32_26 : BitVec 32 := 1#32
  let arg12 : BitVec 32 := Scf.iv c0_i32_24 c1_i32_26 k0_t4
  let c8_i32 : BitVec 32 := 8#32
  let v43 : BitVec 32 := Scalar.muli arg12 c8_i32
  let c0_i32_56 : BitVec 32 := 0#32
  let v115 : BitVec 32 := Scalar.addi v43 c0_i32_56
  let v116 : Index := Scalar.indexCast v115
  let c112 : Index := 112#32
  ![v116.toNat, 112]
def k0_off177 (v121 : BitVec 32) (c0_i32_57 : BitVec 32) : Fin 1 → Nat :=
  let v122 : BitVec 32 := Scalar.addi v121 c0_i32_57
  let v123 : Index := Scalar.indexCast v122
  ![v123.toNat]

def k0_chk35 (v121 : BitVec 32) : Prop :=
  (∀ (r : Fin 4), ∀ a, (k0_off177 v121 (BitVec.ofNat 32 (16 * r.val))) a + S16.size a ≤ S448.size a)
theorem k0_off177_inb : ∀ (v121 : BitVec 32) (k0_hw35 : k0_chk35 v121), ∀ (r : Fin 4), ∀ a, (k0_off177 v121 (BitVec.ofNat 32 (16 * r.val))) a + S16.size a ≤ S448.size a := fun v121 k0_hw35 r => k0_hw35 r

def k0_off178 (k0_t4 : Fin k0_t4_loop.trips) : Fin 2 → Nat :=
  let c0_i32_24 : BitVec 32 := 0#32
  let c1_i32_26 : BitVec 32 := 1#32
  let arg12 : BitVec 32 := Scf.iv c0_i32_24 c1_i32_26 k0_t4
  let c8_i32 : BitVec 32 := 8#32
  let v43 : BitVec 32 := Scalar.muli arg12 c8_i32
  let c1_i32_58 : BitVec 32 := 1#32
  let v126 : BitVec 32 := Scalar.addi v43 c1_i32_58
  let v127 : Index := Scalar.indexCast v126
  let c0_59 : Index := 0#32
  ![v127.toNat, 0]
def k0_off179 (k0_t4 : Fin k0_t4_loop.trips) : Fin 2 → Nat :=
  let c0_i32_24 : BitVec 32 := 0#32
  let c1_i32_26 : BitVec 32 := 1#32
  let arg12 : BitVec 32 := Scf.iv c0_i32_24 c1_i32_26 k0_t4
  let c8_i32 : BitVec 32 := 8#32
  let v43 : BitVec 32 := Scalar.muli arg12 c8_i32
  let c1_i32_61 : BitVec 32 := 1#32
  let v135 : BitVec 32 := Scalar.addi v43 c1_i32_61
  let v136 : Index := Scalar.indexCast v135
  let c16_62 : Index := 16#32
  ![v136.toNat, 16]
def k0_off180 (k0_t4 : Fin k0_t4_loop.trips) : Fin 2 → Nat :=
  let c0_i32_24 : BitVec 32 := 0#32
  let c1_i32_26 : BitVec 32 := 1#32
  let arg12 : BitVec 32 := Scf.iv c0_i32_24 c1_i32_26 k0_t4
  let c8_i32 : BitVec 32 := 8#32
  let v43 : BitVec 32 := Scalar.muli arg12 c8_i32
  let c1_i32_64 : BitVec 32 := 1#32
  let v144 : BitVec 32 := Scalar.addi v43 c1_i32_64
  let v145 : Index := Scalar.indexCast v144
  let c32_65 : Index := 32#32
  ![v145.toNat, 32]
def k0_off181 (k0_t4 : Fin k0_t4_loop.trips) : Fin 2 → Nat :=
  let c0_i32_24 : BitVec 32 := 0#32
  let c1_i32_26 : BitVec 32 := 1#32
  let arg12 : BitVec 32 := Scf.iv c0_i32_24 c1_i32_26 k0_t4
  let c8_i32 : BitVec 32 := 8#32
  let v43 : BitVec 32 := Scalar.muli arg12 c8_i32
  let c1_i32_67 : BitVec 32 := 1#32
  let v153 : BitVec 32 := Scalar.addi v43 c1_i32_67
  let v154 : Index := Scalar.indexCast v153
  let c48_68 : Index := 48#32
  ![v154.toNat, 48]
def k0_off182 (v159 : BitVec 32) (c0_i32_69 : BitVec 32) : Fin 1 → Nat :=
  let v160 : BitVec 32 := Scalar.addi v159 c0_i32_69
  let v161 : Index := Scalar.indexCast v160
  ![v161.toNat]

def k0_chk36 (v159 : BitVec 32) : Prop :=
  (∀ (r : Fin 4), ∀ a, (k0_off182 v159 (BitVec.ofNat 32 (16 * r.val))) a + S16.size a ≤ S448.size a)
theorem k0_off182_inb : ∀ (v159 : BitVec 32) (k0_hw36 : k0_chk36 v159), ∀ (r : Fin 4), ∀ a, (k0_off182 v159 (BitVec.ofNat 32 (16 * r.val))) a + S16.size a ≤ S448.size a := fun v159 k0_hw36 r => k0_hw36 r

def k0_off183 (k0_t4 : Fin k0_t4_loop.trips) : Fin 2 → Nat :=
  let c0_i32_24 : BitVec 32 := 0#32
  let c1_i32_26 : BitVec 32 := 1#32
  let arg12 : BitVec 32 := Scf.iv c0_i32_24 c1_i32_26 k0_t4
  let c8_i32 : BitVec 32 := 8#32
  let v43 : BitVec 32 := Scalar.muli arg12 c8_i32
  let c1_i32_70 : BitVec 32 := 1#32
  let v164 : BitVec 32 := Scalar.addi v43 c1_i32_70
  let v165 : Index := Scalar.indexCast v164
  let c64_71 : Index := 64#32
  ![v165.toNat, 64]
def k0_off184 (k0_t4 : Fin k0_t4_loop.trips) : Fin 2 → Nat :=
  let c0_i32_24 : BitVec 32 := 0#32
  let c1_i32_26 : BitVec 32 := 1#32
  let arg12 : BitVec 32 := Scf.iv c0_i32_24 c1_i32_26 k0_t4
  let c8_i32 : BitVec 32 := 8#32
  let v43 : BitVec 32 := Scalar.muli arg12 c8_i32
  let c1_i32_73 : BitVec 32 := 1#32
  let v173 : BitVec 32 := Scalar.addi v43 c1_i32_73
  let v174 : Index := Scalar.indexCast v173
  let c80_74 : Index := 80#32
  ![v174.toNat, 80]
def k0_off185 (k0_t4 : Fin k0_t4_loop.trips) : Fin 2 → Nat :=
  let c0_i32_24 : BitVec 32 := 0#32
  let c1_i32_26 : BitVec 32 := 1#32
  let arg12 : BitVec 32 := Scf.iv c0_i32_24 c1_i32_26 k0_t4
  let c8_i32 : BitVec 32 := 8#32
  let v43 : BitVec 32 := Scalar.muli arg12 c8_i32
  let c1_i32_76 : BitVec 32 := 1#32
  let v182 : BitVec 32 := Scalar.addi v43 c1_i32_76
  let v183 : Index := Scalar.indexCast v182
  let c96_77 : Index := 96#32
  ![v183.toNat, 96]
def k0_off186 (k0_t4 : Fin k0_t4_loop.trips) : Fin 2 → Nat :=
  let c0_i32_24 : BitVec 32 := 0#32
  let c1_i32_26 : BitVec 32 := 1#32
  let arg12 : BitVec 32 := Scf.iv c0_i32_24 c1_i32_26 k0_t4
  let c8_i32 : BitVec 32 := 8#32
  let v43 : BitVec 32 := Scalar.muli arg12 c8_i32
  let c1_i32_79 : BitVec 32 := 1#32
  let v191 : BitVec 32 := Scalar.addi v43 c1_i32_79
  let v192 : Index := Scalar.indexCast v191
  let c112_80 : Index := 112#32
  ![v192.toNat, 112]
def k0_off187 (v197 : BitVec 32) (c0_i32_81 : BitVec 32) : Fin 1 → Nat :=
  let v198 : BitVec 32 := Scalar.addi v197 c0_i32_81
  let v199 : Index := Scalar.indexCast v198
  ![v199.toNat]

def k0_chk37 (v197 : BitVec 32) : Prop :=
  (∀ (r : Fin 4), ∀ a, (k0_off187 v197 (BitVec.ofNat 32 (16 * r.val))) a + S16.size a ≤ S448.size a)
theorem k0_off187_inb : ∀ (v197 : BitVec 32) (k0_hw37 : k0_chk37 v197), ∀ (r : Fin 4), ∀ a, (k0_off187 v197 (BitVec.ofNat 32 (16 * r.val))) a + S16.size a ≤ S448.size a := fun v197 k0_hw37 r => k0_hw37 r

def k0_off188 (k0_t4 : Fin k0_t4_loop.trips) : Fin 2 → Nat :=
  let c0_i32_24 : BitVec 32 := 0#32
  let c1_i32_26 : BitVec 32 := 1#32
  let arg12 : BitVec 32 := Scf.iv c0_i32_24 c1_i32_26 k0_t4
  let c8_i32 : BitVec 32 := 8#32
  let v43 : BitVec 32 := Scalar.muli arg12 c8_i32
  let c2_i32_82 : BitVec 32 := 2#32
  let v202 : BitVec 32 := Scalar.addi v43 c2_i32_82
  let v203 : Index := Scalar.indexCast v202
  let c0_83 : Index := 0#32
  ![v203.toNat, 0]
def k0_off189 (k0_t4 : Fin k0_t4_loop.trips) : Fin 2 → Nat :=
  let c0_i32_24 : BitVec 32 := 0#32
  let c1_i32_26 : BitVec 32 := 1#32
  let arg12 : BitVec 32 := Scf.iv c0_i32_24 c1_i32_26 k0_t4
  let c8_i32 : BitVec 32 := 8#32
  let v43 : BitVec 32 := Scalar.muli arg12 c8_i32
  let c2_i32_85 : BitVec 32 := 2#32
  let v211 : BitVec 32 := Scalar.addi v43 c2_i32_85
  let v212 : Index := Scalar.indexCast v211
  let c16_86 : Index := 16#32
  ![v212.toNat, 16]
def k0_off190 (k0_t4 : Fin k0_t4_loop.trips) : Fin 2 → Nat :=
  let c0_i32_24 : BitVec 32 := 0#32
  let c1_i32_26 : BitVec 32 := 1#32
  let arg12 : BitVec 32 := Scf.iv c0_i32_24 c1_i32_26 k0_t4
  let c8_i32 : BitVec 32 := 8#32
  let v43 : BitVec 32 := Scalar.muli arg12 c8_i32
  let c2_i32_88 : BitVec 32 := 2#32
  let v220 : BitVec 32 := Scalar.addi v43 c2_i32_88
  let v221 : Index := Scalar.indexCast v220
  let c32_89 : Index := 32#32
  ![v221.toNat, 32]
def k0_off191 (k0_t4 : Fin k0_t4_loop.trips) : Fin 2 → Nat :=
  let c0_i32_24 : BitVec 32 := 0#32
  let c1_i32_26 : BitVec 32 := 1#32
  let arg12 : BitVec 32 := Scf.iv c0_i32_24 c1_i32_26 k0_t4
  let c8_i32 : BitVec 32 := 8#32
  let v43 : BitVec 32 := Scalar.muli arg12 c8_i32
  let c2_i32_91 : BitVec 32 := 2#32
  let v229 : BitVec 32 := Scalar.addi v43 c2_i32_91
  let v230 : Index := Scalar.indexCast v229
  let c48_92 : Index := 48#32
  ![v230.toNat, 48]
def k0_off192 (v235 : BitVec 32) (c0_i32_93 : BitVec 32) : Fin 1 → Nat :=
  let v236 : BitVec 32 := Scalar.addi v235 c0_i32_93
  let v237 : Index := Scalar.indexCast v236
  ![v237.toNat]

def k0_chk38 (v235 : BitVec 32) : Prop :=
  (∀ (r : Fin 4), ∀ a, (k0_off192 v235 (BitVec.ofNat 32 (16 * r.val))) a + S16.size a ≤ S448.size a)
theorem k0_off192_inb : ∀ (v235 : BitVec 32) (k0_hw38 : k0_chk38 v235), ∀ (r : Fin 4), ∀ a, (k0_off192 v235 (BitVec.ofNat 32 (16 * r.val))) a + S16.size a ≤ S448.size a := fun v235 k0_hw38 r => k0_hw38 r

def k0_off193 (k0_t4 : Fin k0_t4_loop.trips) : Fin 2 → Nat :=
  let c0_i32_24 : BitVec 32 := 0#32
  let c1_i32_26 : BitVec 32 := 1#32
  let arg12 : BitVec 32 := Scf.iv c0_i32_24 c1_i32_26 k0_t4
  let c8_i32 : BitVec 32 := 8#32
  let v43 : BitVec 32 := Scalar.muli arg12 c8_i32
  let c2_i32_94 : BitVec 32 := 2#32
  let v240 : BitVec 32 := Scalar.addi v43 c2_i32_94
  let v241 : Index := Scalar.indexCast v240
  let c64_95 : Index := 64#32
  ![v241.toNat, 64]
def k0_off194 (k0_t4 : Fin k0_t4_loop.trips) : Fin 2 → Nat :=
  let c0_i32_24 : BitVec 32 := 0#32
  let c1_i32_26 : BitVec 32 := 1#32
  let arg12 : BitVec 32 := Scf.iv c0_i32_24 c1_i32_26 k0_t4
  let c8_i32 : BitVec 32 := 8#32
  let v43 : BitVec 32 := Scalar.muli arg12 c8_i32
  let c2_i32_97 : BitVec 32 := 2#32
  let v249 : BitVec 32 := Scalar.addi v43 c2_i32_97
  let v250 : Index := Scalar.indexCast v249
  let c80_98 : Index := 80#32
  ![v250.toNat, 80]
def k0_off195 (k0_t4 : Fin k0_t4_loop.trips) : Fin 2 → Nat :=
  let c0_i32_24 : BitVec 32 := 0#32
  let c1_i32_26 : BitVec 32 := 1#32
  let arg12 : BitVec 32 := Scf.iv c0_i32_24 c1_i32_26 k0_t4
  let c8_i32 : BitVec 32 := 8#32
  let v43 : BitVec 32 := Scalar.muli arg12 c8_i32
  let c2_i32_100 : BitVec 32 := 2#32
  let v258 : BitVec 32 := Scalar.addi v43 c2_i32_100
  let v259 : Index := Scalar.indexCast v258
  let c96_101 : Index := 96#32
  ![v259.toNat, 96]
def k0_off196 (k0_t4 : Fin k0_t4_loop.trips) : Fin 2 → Nat :=
  let c0_i32_24 : BitVec 32 := 0#32
  let c1_i32_26 : BitVec 32 := 1#32
  let arg12 : BitVec 32 := Scf.iv c0_i32_24 c1_i32_26 k0_t4
  let c8_i32 : BitVec 32 := 8#32
  let v43 : BitVec 32 := Scalar.muli arg12 c8_i32
  let c2_i32_103 : BitVec 32 := 2#32
  let v267 : BitVec 32 := Scalar.addi v43 c2_i32_103
  let v268 : Index := Scalar.indexCast v267
  let c112_104 : Index := 112#32
  ![v268.toNat, 112]
def k0_off197 (v273 : BitVec 32) (c0_i32_105 : BitVec 32) : Fin 1 → Nat :=
  let v274 : BitVec 32 := Scalar.addi v273 c0_i32_105
  let v275 : Index := Scalar.indexCast v274
  ![v275.toNat]

def k0_chk39 (v273 : BitVec 32) : Prop :=
  (∀ (r : Fin 4), ∀ a, (k0_off197 v273 (BitVec.ofNat 32 (16 * r.val))) a + S16.size a ≤ S448.size a)
theorem k0_off197_inb : ∀ (v273 : BitVec 32) (k0_hw39 : k0_chk39 v273), ∀ (r : Fin 4), ∀ a, (k0_off197 v273 (BitVec.ofNat 32 (16 * r.val))) a + S16.size a ≤ S448.size a := fun v273 k0_hw39 r => k0_hw39 r

def k0_off198 (k0_t4 : Fin k0_t4_loop.trips) : Fin 2 → Nat :=
  let c0_i32_24 : BitVec 32 := 0#32
  let c1_i32_26 : BitVec 32 := 1#32
  let arg12 : BitVec 32 := Scf.iv c0_i32_24 c1_i32_26 k0_t4
  let c8_i32 : BitVec 32 := 8#32
  let v43 : BitVec 32 := Scalar.muli arg12 c8_i32
  let c3_i32_106 : BitVec 32 := 3#32
  let v278 : BitVec 32 := Scalar.addi v43 c3_i32_106
  let v279 : Index := Scalar.indexCast v278
  let c0_107 : Index := 0#32
  ![v279.toNat, 0]
def k0_off199 (k0_t4 : Fin k0_t4_loop.trips) : Fin 2 → Nat :=
  let c0_i32_24 : BitVec 32 := 0#32
  let c1_i32_26 : BitVec 32 := 1#32
  let arg12 : BitVec 32 := Scf.iv c0_i32_24 c1_i32_26 k0_t4
  let c8_i32 : BitVec 32 := 8#32
  let v43 : BitVec 32 := Scalar.muli arg12 c8_i32
  let c3_i32_109 : BitVec 32 := 3#32
  let v287 : BitVec 32 := Scalar.addi v43 c3_i32_109
  let v288 : Index := Scalar.indexCast v287
  let c16_110 : Index := 16#32
  ![v288.toNat, 16]
def k0_off200 (k0_t4 : Fin k0_t4_loop.trips) : Fin 2 → Nat :=
  let c0_i32_24 : BitVec 32 := 0#32
  let c1_i32_26 : BitVec 32 := 1#32
  let arg12 : BitVec 32 := Scf.iv c0_i32_24 c1_i32_26 k0_t4
  let c8_i32 : BitVec 32 := 8#32
  let v43 : BitVec 32 := Scalar.muli arg12 c8_i32
  let c3_i32_112 : BitVec 32 := 3#32
  let v296 : BitVec 32 := Scalar.addi v43 c3_i32_112
  let v297 : Index := Scalar.indexCast v296
  let c32_113 : Index := 32#32
  ![v297.toNat, 32]
def k0_off201 (k0_t4 : Fin k0_t4_loop.trips) : Fin 2 → Nat :=
  let c0_i32_24 : BitVec 32 := 0#32
  let c1_i32_26 : BitVec 32 := 1#32
  let arg12 : BitVec 32 := Scf.iv c0_i32_24 c1_i32_26 k0_t4
  let c8_i32 : BitVec 32 := 8#32
  let v43 : BitVec 32 := Scalar.muli arg12 c8_i32
  let c3_i32_115 : BitVec 32 := 3#32
  let v305 : BitVec 32 := Scalar.addi v43 c3_i32_115
  let v306 : Index := Scalar.indexCast v305
  let c48_116 : Index := 48#32
  ![v306.toNat, 48]
def k0_off202 (v311 : BitVec 32) (c0_i32_117 : BitVec 32) : Fin 1 → Nat :=
  let v312 : BitVec 32 := Scalar.addi v311 c0_i32_117
  let v313 : Index := Scalar.indexCast v312
  ![v313.toNat]

def k0_chk40 (v311 : BitVec 32) : Prop :=
  (∀ (r : Fin 4), ∀ a, (k0_off202 v311 (BitVec.ofNat 32 (16 * r.val))) a + S16.size a ≤ S448.size a)
theorem k0_off202_inb : ∀ (v311 : BitVec 32) (k0_hw40 : k0_chk40 v311), ∀ (r : Fin 4), ∀ a, (k0_off202 v311 (BitVec.ofNat 32 (16 * r.val))) a + S16.size a ≤ S448.size a := fun v311 k0_hw40 r => k0_hw40 r

def k0_off203 (k0_t4 : Fin k0_t4_loop.trips) : Fin 2 → Nat :=
  let c0_i32_24 : BitVec 32 := 0#32
  let c1_i32_26 : BitVec 32 := 1#32
  let arg12 : BitVec 32 := Scf.iv c0_i32_24 c1_i32_26 k0_t4
  let c8_i32 : BitVec 32 := 8#32
  let v43 : BitVec 32 := Scalar.muli arg12 c8_i32
  let c3_i32_118 : BitVec 32 := 3#32
  let v316 : BitVec 32 := Scalar.addi v43 c3_i32_118
  let v317 : Index := Scalar.indexCast v316
  let c64_119 : Index := 64#32
  ![v317.toNat, 64]
def k0_off204 (k0_t4 : Fin k0_t4_loop.trips) : Fin 2 → Nat :=
  let c0_i32_24 : BitVec 32 := 0#32
  let c1_i32_26 : BitVec 32 := 1#32
  let arg12 : BitVec 32 := Scf.iv c0_i32_24 c1_i32_26 k0_t4
  let c8_i32 : BitVec 32 := 8#32
  let v43 : BitVec 32 := Scalar.muli arg12 c8_i32
  let c3_i32_121 : BitVec 32 := 3#32
  let v325 : BitVec 32 := Scalar.addi v43 c3_i32_121
  let v326 : Index := Scalar.indexCast v325
  let c80_122 : Index := 80#32
  ![v326.toNat, 80]
def k0_off205 (k0_t4 : Fin k0_t4_loop.trips) : Fin 2 → Nat :=
  let c0_i32_24 : BitVec 32 := 0#32
  let c1_i32_26 : BitVec 32 := 1#32
  let arg12 : BitVec 32 := Scf.iv c0_i32_24 c1_i32_26 k0_t4
  let c8_i32 : BitVec 32 := 8#32
  let v43 : BitVec 32 := Scalar.muli arg12 c8_i32
  let c3_i32_124 : BitVec 32 := 3#32
  let v334 : BitVec 32 := Scalar.addi v43 c3_i32_124
  let v335 : Index := Scalar.indexCast v334
  let c96_125 : Index := 96#32
  ![v335.toNat, 96]
def k0_off206 (k0_t4 : Fin k0_t4_loop.trips) : Fin 2 → Nat :=
  let c0_i32_24 : BitVec 32 := 0#32
  let c1_i32_26 : BitVec 32 := 1#32
  let arg12 : BitVec 32 := Scf.iv c0_i32_24 c1_i32_26 k0_t4
  let c8_i32 : BitVec 32 := 8#32
  let v43 : BitVec 32 := Scalar.muli arg12 c8_i32
  let c3_i32_127 : BitVec 32 := 3#32
  let v343 : BitVec 32 := Scalar.addi v43 c3_i32_127
  let v344 : Index := Scalar.indexCast v343
  let c112_128 : Index := 112#32
  ![v344.toNat, 112]
def k0_off207 (v349 : BitVec 32) (c0_i32_129 : BitVec 32) : Fin 1 → Nat :=
  let v350 : BitVec 32 := Scalar.addi v349 c0_i32_129
  let v351 : Index := Scalar.indexCast v350
  ![v351.toNat]

def k0_chk41 (v349 : BitVec 32) : Prop :=
  (∀ (r : Fin 4), ∀ a, (k0_off207 v349 (BitVec.ofNat 32 (16 * r.val))) a + S16.size a ≤ S448.size a)
theorem k0_off207_inb : ∀ (v349 : BitVec 32) (k0_hw41 : k0_chk41 v349), ∀ (r : Fin 4), ∀ a, (k0_off207 v349 (BitVec.ofNat 32 (16 * r.val))) a + S16.size a ≤ S448.size a := fun v349 k0_hw41 r => k0_hw41 r

def k0_off208 (k0_t4 : Fin k0_t4_loop.trips) : Fin 2 → Nat :=
  let c0_i32_24 : BitVec 32 := 0#32
  let c1_i32_26 : BitVec 32 := 1#32
  let arg12 : BitVec 32 := Scf.iv c0_i32_24 c1_i32_26 k0_t4
  let c8_i32 : BitVec 32 := 8#32
  let v43 : BitVec 32 := Scalar.muli arg12 c8_i32
  let c4_i32_130 : BitVec 32 := 4#32
  let v354 : BitVec 32 := Scalar.addi v43 c4_i32_130
  let v355 : Index := Scalar.indexCast v354
  let c0_131 : Index := 0#32
  ![v355.toNat, 0]
def k0_off209 (k0_t4 : Fin k0_t4_loop.trips) : Fin 2 → Nat :=
  let c0_i32_24 : BitVec 32 := 0#32
  let c1_i32_26 : BitVec 32 := 1#32
  let arg12 : BitVec 32 := Scf.iv c0_i32_24 c1_i32_26 k0_t4
  let c8_i32 : BitVec 32 := 8#32
  let v43 : BitVec 32 := Scalar.muli arg12 c8_i32
  let c4_i32_133 : BitVec 32 := 4#32
  let v363 : BitVec 32 := Scalar.addi v43 c4_i32_133
  let v364 : Index := Scalar.indexCast v363
  let c16_134 : Index := 16#32
  ![v364.toNat, 16]
def k0_off210 (k0_t4 : Fin k0_t4_loop.trips) : Fin 2 → Nat :=
  let c0_i32_24 : BitVec 32 := 0#32
  let c1_i32_26 : BitVec 32 := 1#32
  let arg12 : BitVec 32 := Scf.iv c0_i32_24 c1_i32_26 k0_t4
  let c8_i32 : BitVec 32 := 8#32
  let v43 : BitVec 32 := Scalar.muli arg12 c8_i32
  let c4_i32_136 : BitVec 32 := 4#32
  let v372 : BitVec 32 := Scalar.addi v43 c4_i32_136
  let v373 : Index := Scalar.indexCast v372
  let c32_137 : Index := 32#32
  ![v373.toNat, 32]
def k0_off211 (k0_t4 : Fin k0_t4_loop.trips) : Fin 2 → Nat :=
  let c0_i32_24 : BitVec 32 := 0#32
  let c1_i32_26 : BitVec 32 := 1#32
  let arg12 : BitVec 32 := Scf.iv c0_i32_24 c1_i32_26 k0_t4
  let c8_i32 : BitVec 32 := 8#32
  let v43 : BitVec 32 := Scalar.muli arg12 c8_i32
  let c4_i32_139 : BitVec 32 := 4#32
  let v381 : BitVec 32 := Scalar.addi v43 c4_i32_139
  let v382 : Index := Scalar.indexCast v381
  let c48_140 : Index := 48#32
  ![v382.toNat, 48]
def k0_off212 (v387 : BitVec 32) (c0_i32_141 : BitVec 32) : Fin 1 → Nat :=
  let v388 : BitVec 32 := Scalar.addi v387 c0_i32_141
  let v389 : Index := Scalar.indexCast v388
  ![v389.toNat]

def k0_chk42 (v387 : BitVec 32) : Prop :=
  (∀ (r : Fin 4), ∀ a, (k0_off212 v387 (BitVec.ofNat 32 (16 * r.val))) a + S16.size a ≤ S448.size a)
theorem k0_off212_inb : ∀ (v387 : BitVec 32) (k0_hw42 : k0_chk42 v387), ∀ (r : Fin 4), ∀ a, (k0_off212 v387 (BitVec.ofNat 32 (16 * r.val))) a + S16.size a ≤ S448.size a := fun v387 k0_hw42 r => k0_hw42 r

def k0_off213 (k0_t4 : Fin k0_t4_loop.trips) : Fin 2 → Nat :=
  let c0_i32_24 : BitVec 32 := 0#32
  let c1_i32_26 : BitVec 32 := 1#32
  let arg12 : BitVec 32 := Scf.iv c0_i32_24 c1_i32_26 k0_t4
  let c8_i32 : BitVec 32 := 8#32
  let v43 : BitVec 32 := Scalar.muli arg12 c8_i32
  let c4_i32_142 : BitVec 32 := 4#32
  let v392 : BitVec 32 := Scalar.addi v43 c4_i32_142
  let v393 : Index := Scalar.indexCast v392
  let c64_143 : Index := 64#32
  ![v393.toNat, 64]
def k0_off214 (k0_t4 : Fin k0_t4_loop.trips) : Fin 2 → Nat :=
  let c0_i32_24 : BitVec 32 := 0#32
  let c1_i32_26 : BitVec 32 := 1#32
  let arg12 : BitVec 32 := Scf.iv c0_i32_24 c1_i32_26 k0_t4
  let c8_i32 : BitVec 32 := 8#32
  let v43 : BitVec 32 := Scalar.muli arg12 c8_i32
  let c4_i32_145 : BitVec 32 := 4#32
  let v401 : BitVec 32 := Scalar.addi v43 c4_i32_145
  let v402 : Index := Scalar.indexCast v401
  let c80_146 : Index := 80#32
  ![v402.toNat, 80]
def k0_off215 (k0_t4 : Fin k0_t4_loop.trips) : Fin 2 → Nat :=
  let c0_i32_24 : BitVec 32 := 0#32
  let c1_i32_26 : BitVec 32 := 1#32
  let arg12 : BitVec 32 := Scf.iv c0_i32_24 c1_i32_26 k0_t4
  let c8_i32 : BitVec 32 := 8#32
  let v43 : BitVec 32 := Scalar.muli arg12 c8_i32
  let c4_i32_148 : BitVec 32 := 4#32
  let v410 : BitVec 32 := Scalar.addi v43 c4_i32_148
  let v411 : Index := Scalar.indexCast v410
  let c96_149 : Index := 96#32
  ![v411.toNat, 96]
def k0_off216 (k0_t4 : Fin k0_t4_loop.trips) : Fin 2 → Nat :=
  let c0_i32_24 : BitVec 32 := 0#32
  let c1_i32_26 : BitVec 32 := 1#32
  let arg12 : BitVec 32 := Scf.iv c0_i32_24 c1_i32_26 k0_t4
  let c8_i32 : BitVec 32 := 8#32
  let v43 : BitVec 32 := Scalar.muli arg12 c8_i32
  let c4_i32_151 : BitVec 32 := 4#32
  let v419 : BitVec 32 := Scalar.addi v43 c4_i32_151
  let v420 : Index := Scalar.indexCast v419
  let c112_152 : Index := 112#32
  ![v420.toNat, 112]
def k0_off217 (v425 : BitVec 32) (c0_i32_153 : BitVec 32) : Fin 1 → Nat :=
  let v426 : BitVec 32 := Scalar.addi v425 c0_i32_153
  let v427 : Index := Scalar.indexCast v426
  ![v427.toNat]

def k0_chk43 (v425 : BitVec 32) : Prop :=
  (∀ (r : Fin 4), ∀ a, (k0_off217 v425 (BitVec.ofNat 32 (16 * r.val))) a + S16.size a ≤ S448.size a)
theorem k0_off217_inb : ∀ (v425 : BitVec 32) (k0_hw43 : k0_chk43 v425), ∀ (r : Fin 4), ∀ a, (k0_off217 v425 (BitVec.ofNat 32 (16 * r.val))) a + S16.size a ≤ S448.size a := fun v425 k0_hw43 r => k0_hw43 r

def k0_off218 (k0_t4 : Fin k0_t4_loop.trips) : Fin 2 → Nat :=
  let c0_i32_24 : BitVec 32 := 0#32
  let c1_i32_26 : BitVec 32 := 1#32
  let arg12 : BitVec 32 := Scf.iv c0_i32_24 c1_i32_26 k0_t4
  let c8_i32 : BitVec 32 := 8#32
  let v43 : BitVec 32 := Scalar.muli arg12 c8_i32
  let c5_i32 : BitVec 32 := 5#32
  let v430 : BitVec 32 := Scalar.addi v43 c5_i32
  let v431 : Index := Scalar.indexCast v430
  let c0_154 : Index := 0#32
  ![v431.toNat, 0]
def k0_off219 (k0_t4 : Fin k0_t4_loop.trips) : Fin 2 → Nat :=
  let c0_i32_24 : BitVec 32 := 0#32
  let c1_i32_26 : BitVec 32 := 1#32
  let arg12 : BitVec 32 := Scf.iv c0_i32_24 c1_i32_26 k0_t4
  let c8_i32 : BitVec 32 := 8#32
  let v43 : BitVec 32 := Scalar.muli arg12 c8_i32
  let c5_i32_156 : BitVec 32 := 5#32
  let v439 : BitVec 32 := Scalar.addi v43 c5_i32_156
  let v440 : Index := Scalar.indexCast v439
  let c16_157 : Index := 16#32
  ![v440.toNat, 16]
def k0_off220 (k0_t4 : Fin k0_t4_loop.trips) : Fin 2 → Nat :=
  let c0_i32_24 : BitVec 32 := 0#32
  let c1_i32_26 : BitVec 32 := 1#32
  let arg12 : BitVec 32 := Scf.iv c0_i32_24 c1_i32_26 k0_t4
  let c8_i32 : BitVec 32 := 8#32
  let v43 : BitVec 32 := Scalar.muli arg12 c8_i32
  let c5_i32_159 : BitVec 32 := 5#32
  let v448 : BitVec 32 := Scalar.addi v43 c5_i32_159
  let v449 : Index := Scalar.indexCast v448
  let c32_160 : Index := 32#32
  ![v449.toNat, 32]
def k0_off221 (k0_t4 : Fin k0_t4_loop.trips) : Fin 2 → Nat :=
  let c0_i32_24 : BitVec 32 := 0#32
  let c1_i32_26 : BitVec 32 := 1#32
  let arg12 : BitVec 32 := Scf.iv c0_i32_24 c1_i32_26 k0_t4
  let c8_i32 : BitVec 32 := 8#32
  let v43 : BitVec 32 := Scalar.muli arg12 c8_i32
  let c5_i32_162 : BitVec 32 := 5#32
  let v457 : BitVec 32 := Scalar.addi v43 c5_i32_162
  let v458 : Index := Scalar.indexCast v457
  let c48_163 : Index := 48#32
  ![v458.toNat, 48]
def k0_off222 (v463 : BitVec 32) (c0_i32_164 : BitVec 32) : Fin 1 → Nat :=
  let v464 : BitVec 32 := Scalar.addi v463 c0_i32_164
  let v465 : Index := Scalar.indexCast v464
  ![v465.toNat]

def k0_chk44 (v463 : BitVec 32) : Prop :=
  (∀ (r : Fin 4), ∀ a, (k0_off222 v463 (BitVec.ofNat 32 (16 * r.val))) a + S16.size a ≤ S448.size a)
theorem k0_off222_inb : ∀ (v463 : BitVec 32) (k0_hw44 : k0_chk44 v463), ∀ (r : Fin 4), ∀ a, (k0_off222 v463 (BitVec.ofNat 32 (16 * r.val))) a + S16.size a ≤ S448.size a := fun v463 k0_hw44 r => k0_hw44 r

def k0_off223 (k0_t4 : Fin k0_t4_loop.trips) : Fin 2 → Nat :=
  let c0_i32_24 : BitVec 32 := 0#32
  let c1_i32_26 : BitVec 32 := 1#32
  let arg12 : BitVec 32 := Scf.iv c0_i32_24 c1_i32_26 k0_t4
  let c8_i32 : BitVec 32 := 8#32
  let v43 : BitVec 32 := Scalar.muli arg12 c8_i32
  let c5_i32_165 : BitVec 32 := 5#32
  let v468 : BitVec 32 := Scalar.addi v43 c5_i32_165
  let v469 : Index := Scalar.indexCast v468
  let c64_166 : Index := 64#32
  ![v469.toNat, 64]
def k0_off224 (k0_t4 : Fin k0_t4_loop.trips) : Fin 2 → Nat :=
  let c0_i32_24 : BitVec 32 := 0#32
  let c1_i32_26 : BitVec 32 := 1#32
  let arg12 : BitVec 32 := Scf.iv c0_i32_24 c1_i32_26 k0_t4
  let c8_i32 : BitVec 32 := 8#32
  let v43 : BitVec 32 := Scalar.muli arg12 c8_i32
  let c5_i32_168 : BitVec 32 := 5#32
  let v477 : BitVec 32 := Scalar.addi v43 c5_i32_168
  let v478 : Index := Scalar.indexCast v477
  let c80_169 : Index := 80#32
  ![v478.toNat, 80]
def k0_off225 (k0_t4 : Fin k0_t4_loop.trips) : Fin 2 → Nat :=
  let c0_i32_24 : BitVec 32 := 0#32
  let c1_i32_26 : BitVec 32 := 1#32
  let arg12 : BitVec 32 := Scf.iv c0_i32_24 c1_i32_26 k0_t4
  let c8_i32 : BitVec 32 := 8#32
  let v43 : BitVec 32 := Scalar.muli arg12 c8_i32
  let c5_i32_171 : BitVec 32 := 5#32
  let v486 : BitVec 32 := Scalar.addi v43 c5_i32_171
  let v487 : Index := Scalar.indexCast v486
  let c96_172 : Index := 96#32
  ![v487.toNat, 96]
def k0_off226 (k0_t4 : Fin k0_t4_loop.trips) : Fin 2 → Nat :=
  let c0_i32_24 : BitVec 32 := 0#32
  let c1_i32_26 : BitVec 32 := 1#32
  let arg12 : BitVec 32 := Scf.iv c0_i32_24 c1_i32_26 k0_t4
  let c8_i32 : BitVec 32 := 8#32
  let v43 : BitVec 32 := Scalar.muli arg12 c8_i32
  let c5_i32_174 : BitVec 32 := 5#32
  let v495 : BitVec 32 := Scalar.addi v43 c5_i32_174
  let v496 : Index := Scalar.indexCast v495
  let c112_175 : Index := 112#32
  ![v496.toNat, 112]
def k0_off227 (v501 : BitVec 32) (c0_i32_176 : BitVec 32) : Fin 1 → Nat :=
  let v502 : BitVec 32 := Scalar.addi v501 c0_i32_176
  let v503 : Index := Scalar.indexCast v502
  ![v503.toNat]

def k0_chk45 (v501 : BitVec 32) : Prop :=
  (∀ (r : Fin 4), ∀ a, (k0_off227 v501 (BitVec.ofNat 32 (16 * r.val))) a + S16.size a ≤ S448.size a)
theorem k0_off227_inb : ∀ (v501 : BitVec 32) (k0_hw45 : k0_chk45 v501), ∀ (r : Fin 4), ∀ a, (k0_off227 v501 (BitVec.ofNat 32 (16 * r.val))) a + S16.size a ≤ S448.size a := fun v501 k0_hw45 r => k0_hw45 r

def k0_off228 (k0_t4 : Fin k0_t4_loop.trips) : Fin 2 → Nat :=
  let c0_i32_24 : BitVec 32 := 0#32
  let c1_i32_26 : BitVec 32 := 1#32
  let arg12 : BitVec 32 := Scf.iv c0_i32_24 c1_i32_26 k0_t4
  let c8_i32 : BitVec 32 := 8#32
  let v43 : BitVec 32 := Scalar.muli arg12 c8_i32
  let c6_i32_177 : BitVec 32 := 6#32
  let v506 : BitVec 32 := Scalar.addi v43 c6_i32_177
  let v507 : Index := Scalar.indexCast v506
  let c0_178 : Index := 0#32
  ![v507.toNat, 0]
def k0_off229 (k0_t4 : Fin k0_t4_loop.trips) : Fin 2 → Nat :=
  let c0_i32_24 : BitVec 32 := 0#32
  let c1_i32_26 : BitVec 32 := 1#32
  let arg12 : BitVec 32 := Scf.iv c0_i32_24 c1_i32_26 k0_t4
  let c8_i32 : BitVec 32 := 8#32
  let v43 : BitVec 32 := Scalar.muli arg12 c8_i32
  let c6_i32_180 : BitVec 32 := 6#32
  let v515 : BitVec 32 := Scalar.addi v43 c6_i32_180
  let v516 : Index := Scalar.indexCast v515
  let c16_181 : Index := 16#32
  ![v516.toNat, 16]
def k0_off230 (k0_t4 : Fin k0_t4_loop.trips) : Fin 2 → Nat :=
  let c0_i32_24 : BitVec 32 := 0#32
  let c1_i32_26 : BitVec 32 := 1#32
  let arg12 : BitVec 32 := Scf.iv c0_i32_24 c1_i32_26 k0_t4
  let c8_i32 : BitVec 32 := 8#32
  let v43 : BitVec 32 := Scalar.muli arg12 c8_i32
  let c6_i32_183 : BitVec 32 := 6#32
  let v524 : BitVec 32 := Scalar.addi v43 c6_i32_183
  let v525 : Index := Scalar.indexCast v524
  let c32_184 : Index := 32#32
  ![v525.toNat, 32]
def k0_off231 (k0_t4 : Fin k0_t4_loop.trips) : Fin 2 → Nat :=
  let c0_i32_24 : BitVec 32 := 0#32
  let c1_i32_26 : BitVec 32 := 1#32
  let arg12 : BitVec 32 := Scf.iv c0_i32_24 c1_i32_26 k0_t4
  let c8_i32 : BitVec 32 := 8#32
  let v43 : BitVec 32 := Scalar.muli arg12 c8_i32
  let c6_i32_186 : BitVec 32 := 6#32
  let v533 : BitVec 32 := Scalar.addi v43 c6_i32_186
  let v534 : Index := Scalar.indexCast v533
  let c48_187 : Index := 48#32
  ![v534.toNat, 48]
def k0_off232 (v539 : BitVec 32) (c0_i32_188 : BitVec 32) : Fin 1 → Nat :=
  let v540 : BitVec 32 := Scalar.addi v539 c0_i32_188
  let v541 : Index := Scalar.indexCast v540
  ![v541.toNat]

def k0_chk46 (v539 : BitVec 32) : Prop :=
  (∀ (r : Fin 4), ∀ a, (k0_off232 v539 (BitVec.ofNat 32 (16 * r.val))) a + S16.size a ≤ S448.size a)
theorem k0_off232_inb : ∀ (v539 : BitVec 32) (k0_hw46 : k0_chk46 v539), ∀ (r : Fin 4), ∀ a, (k0_off232 v539 (BitVec.ofNat 32 (16 * r.val))) a + S16.size a ≤ S448.size a := fun v539 k0_hw46 r => k0_hw46 r

def k0_off233 (k0_t4 : Fin k0_t4_loop.trips) : Fin 2 → Nat :=
  let c0_i32_24 : BitVec 32 := 0#32
  let c1_i32_26 : BitVec 32 := 1#32
  let arg12 : BitVec 32 := Scf.iv c0_i32_24 c1_i32_26 k0_t4
  let c8_i32 : BitVec 32 := 8#32
  let v43 : BitVec 32 := Scalar.muli arg12 c8_i32
  let c6_i32_189 : BitVec 32 := 6#32
  let v544 : BitVec 32 := Scalar.addi v43 c6_i32_189
  let v545 : Index := Scalar.indexCast v544
  let c64_190 : Index := 64#32
  ![v545.toNat, 64]
def k0_off234 (k0_t4 : Fin k0_t4_loop.trips) : Fin 2 → Nat :=
  let c0_i32_24 : BitVec 32 := 0#32
  let c1_i32_26 : BitVec 32 := 1#32
  let arg12 : BitVec 32 := Scf.iv c0_i32_24 c1_i32_26 k0_t4
  let c8_i32 : BitVec 32 := 8#32
  let v43 : BitVec 32 := Scalar.muli arg12 c8_i32
  let c6_i32_192 : BitVec 32 := 6#32
  let v553 : BitVec 32 := Scalar.addi v43 c6_i32_192
  let v554 : Index := Scalar.indexCast v553
  let c80_193 : Index := 80#32
  ![v554.toNat, 80]
def k0_off235 (k0_t4 : Fin k0_t4_loop.trips) : Fin 2 → Nat :=
  let c0_i32_24 : BitVec 32 := 0#32
  let c1_i32_26 : BitVec 32 := 1#32
  let arg12 : BitVec 32 := Scf.iv c0_i32_24 c1_i32_26 k0_t4
  let c8_i32 : BitVec 32 := 8#32
  let v43 : BitVec 32 := Scalar.muli arg12 c8_i32
  let c6_i32_195 : BitVec 32 := 6#32
  let v562 : BitVec 32 := Scalar.addi v43 c6_i32_195
  let v563 : Index := Scalar.indexCast v562
  let c96_196 : Index := 96#32
  ![v563.toNat, 96]
def k0_off236 (k0_t4 : Fin k0_t4_loop.trips) : Fin 2 → Nat :=
  let c0_i32_24 : BitVec 32 := 0#32
  let c1_i32_26 : BitVec 32 := 1#32
  let arg12 : BitVec 32 := Scf.iv c0_i32_24 c1_i32_26 k0_t4
  let c8_i32 : BitVec 32 := 8#32
  let v43 : BitVec 32 := Scalar.muli arg12 c8_i32
  let c6_i32_198 : BitVec 32 := 6#32
  let v571 : BitVec 32 := Scalar.addi v43 c6_i32_198
  let v572 : Index := Scalar.indexCast v571
  let c112_199 : Index := 112#32
  ![v572.toNat, 112]
def k0_off237 (v577 : BitVec 32) (c0_i32_200 : BitVec 32) : Fin 1 → Nat :=
  let v578 : BitVec 32 := Scalar.addi v577 c0_i32_200
  let v579 : Index := Scalar.indexCast v578
  ![v579.toNat]

def k0_chk47 (v577 : BitVec 32) : Prop :=
  (∀ (r : Fin 4), ∀ a, (k0_off237 v577 (BitVec.ofNat 32 (16 * r.val))) a + S16.size a ≤ S448.size a)
theorem k0_off237_inb : ∀ (v577 : BitVec 32) (k0_hw47 : k0_chk47 v577), ∀ (r : Fin 4), ∀ a, (k0_off237 v577 (BitVec.ofNat 32 (16 * r.val))) a + S16.size a ≤ S448.size a := fun v577 k0_hw47 r => k0_hw47 r

def k0_off238 (k0_t4 : Fin k0_t4_loop.trips) : Fin 2 → Nat :=
  let c0_i32_24 : BitVec 32 := 0#32
  let c1_i32_26 : BitVec 32 := 1#32
  let arg12 : BitVec 32 := Scf.iv c0_i32_24 c1_i32_26 k0_t4
  let c8_i32 : BitVec 32 := 8#32
  let v43 : BitVec 32 := Scalar.muli arg12 c8_i32
  let c7_i32_201 : BitVec 32 := 7#32
  let v582 : BitVec 32 := Scalar.addi v43 c7_i32_201
  let v583 : Index := Scalar.indexCast v582
  let c0_202 : Index := 0#32
  ![v583.toNat, 0]
def k0_off239 (k0_t4 : Fin k0_t4_loop.trips) : Fin 2 → Nat :=
  let c0_i32_24 : BitVec 32 := 0#32
  let c1_i32_26 : BitVec 32 := 1#32
  let arg12 : BitVec 32 := Scf.iv c0_i32_24 c1_i32_26 k0_t4
  let c8_i32 : BitVec 32 := 8#32
  let v43 : BitVec 32 := Scalar.muli arg12 c8_i32
  let c7_i32_204 : BitVec 32 := 7#32
  let v591 : BitVec 32 := Scalar.addi v43 c7_i32_204
  let v592 : Index := Scalar.indexCast v591
  let c16_205 : Index := 16#32
  ![v592.toNat, 16]
def k0_off240 (k0_t4 : Fin k0_t4_loop.trips) : Fin 2 → Nat :=
  let c0_i32_24 : BitVec 32 := 0#32
  let c1_i32_26 : BitVec 32 := 1#32
  let arg12 : BitVec 32 := Scf.iv c0_i32_24 c1_i32_26 k0_t4
  let c8_i32 : BitVec 32 := 8#32
  let v43 : BitVec 32 := Scalar.muli arg12 c8_i32
  let c7_i32_207 : BitVec 32 := 7#32
  let v600 : BitVec 32 := Scalar.addi v43 c7_i32_207
  let v601 : Index := Scalar.indexCast v600
  let c32_208 : Index := 32#32
  ![v601.toNat, 32]
def k0_off241 (k0_t4 : Fin k0_t4_loop.trips) : Fin 2 → Nat :=
  let c0_i32_24 : BitVec 32 := 0#32
  let c1_i32_26 : BitVec 32 := 1#32
  let arg12 : BitVec 32 := Scf.iv c0_i32_24 c1_i32_26 k0_t4
  let c8_i32 : BitVec 32 := 8#32
  let v43 : BitVec 32 := Scalar.muli arg12 c8_i32
  let c7_i32_210 : BitVec 32 := 7#32
  let v609 : BitVec 32 := Scalar.addi v43 c7_i32_210
  let v610 : Index := Scalar.indexCast v609
  let c48_211 : Index := 48#32
  ![v610.toNat, 48]
def k0_off242 (v615 : BitVec 32) (c0_i32_212 : BitVec 32) : Fin 1 → Nat :=
  let v616 : BitVec 32 := Scalar.addi v615 c0_i32_212
  let v617 : Index := Scalar.indexCast v616
  ![v617.toNat]

def k0_chk48 (v615 : BitVec 32) : Prop :=
  (∀ (r : Fin 4), ∀ a, (k0_off242 v615 (BitVec.ofNat 32 (16 * r.val))) a + S16.size a ≤ S448.size a)
theorem k0_off242_inb : ∀ (v615 : BitVec 32) (k0_hw48 : k0_chk48 v615), ∀ (r : Fin 4), ∀ a, (k0_off242 v615 (BitVec.ofNat 32 (16 * r.val))) a + S16.size a ≤ S448.size a := fun v615 k0_hw48 r => k0_hw48 r

def k0_off243 (k0_t4 : Fin k0_t4_loop.trips) : Fin 2 → Nat :=
  let c0_i32_24 : BitVec 32 := 0#32
  let c1_i32_26 : BitVec 32 := 1#32
  let arg12 : BitVec 32 := Scf.iv c0_i32_24 c1_i32_26 k0_t4
  let c8_i32 : BitVec 32 := 8#32
  let v43 : BitVec 32 := Scalar.muli arg12 c8_i32
  let c7_i32_213 : BitVec 32 := 7#32
  let v620 : BitVec 32 := Scalar.addi v43 c7_i32_213
  let v621 : Index := Scalar.indexCast v620
  let c64_214 : Index := 64#32
  ![v621.toNat, 64]
def k0_off244 (k0_t4 : Fin k0_t4_loop.trips) : Fin 2 → Nat :=
  let c0_i32_24 : BitVec 32 := 0#32
  let c1_i32_26 : BitVec 32 := 1#32
  let arg12 : BitVec 32 := Scf.iv c0_i32_24 c1_i32_26 k0_t4
  let c8_i32 : BitVec 32 := 8#32
  let v43 : BitVec 32 := Scalar.muli arg12 c8_i32
  let c7_i32_216 : BitVec 32 := 7#32
  let v629 : BitVec 32 := Scalar.addi v43 c7_i32_216
  let v630 : Index := Scalar.indexCast v629
  let c80_217 : Index := 80#32
  ![v630.toNat, 80]
def k0_off245 (k0_t4 : Fin k0_t4_loop.trips) : Fin 2 → Nat :=
  let c0_i32_24 : BitVec 32 := 0#32
  let c1_i32_26 : BitVec 32 := 1#32
  let arg12 : BitVec 32 := Scf.iv c0_i32_24 c1_i32_26 k0_t4
  let c8_i32 : BitVec 32 := 8#32
  let v43 : BitVec 32 := Scalar.muli arg12 c8_i32
  let c7_i32_219 : BitVec 32 := 7#32
  let v638 : BitVec 32 := Scalar.addi v43 c7_i32_219
  let v639 : Index := Scalar.indexCast v638
  let c96_220 : Index := 96#32
  ![v639.toNat, 96]
def k0_off246 (k0_t4 : Fin k0_t4_loop.trips) : Fin 2 → Nat :=
  let c0_i32_24 : BitVec 32 := 0#32
  let c1_i32_26 : BitVec 32 := 1#32
  let arg12 : BitVec 32 := Scf.iv c0_i32_24 c1_i32_26 k0_t4
  let c8_i32 : BitVec 32 := 8#32
  let v43 : BitVec 32 := Scalar.muli arg12 c8_i32
  let c7_i32_222 : BitVec 32 := 7#32
  let v647 : BitVec 32 := Scalar.addi v43 c7_i32_222
  let v648 : Index := Scalar.indexCast v647
  let c112_223 : Index := 112#32
  ![v648.toNat, 112]
def k0_off247 (i : grid0.Coords) (k0_t3 : Fin k0_t3_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12800_i32 : BitVec 32 := 12800#32
  let v2 : BitVec 32 := Scalar.muli v1 c12800_i32
  let c2_i32_20 : BitVec 32 := 2#32
  let c1_i32_13 : BitVec 32 := 1#32
  let c1_i32_14 : BitVec 32 := 1#32
  let arg11 : BitVec 32 := Scf.iv c1_i32_13 c1_i32_14 k0_t3
  let v16 : BitVec 32 := Scalar.muli c2_i32_20 arg11
  let c256_i32_28 : BitVec 32 := 256#32
  let v20 : BitVec 32 := Scalar.muli v16 c256_i32_28
  let v21 : BitVec 32 := Scalar.addi v2 v20
  let c0_i32_29 : BitVec 32 := 0#32
  ![v21.toNat, 0]
@[reducible] def k0_t5_loop : Scf.Loop 32 :=
  let c0_i32_35 : BitVec 32 := 0#32
  let c32_i32_36 : BitVec 32 := 32#32
  let v27 : BitVec 32 := Scalar.addi c0_i32_35 c32_i32_36
  let c1_i32_37 : BitVec 32 := 1#32
  ⟨c0_i32_35, v27, c1_i32_37⟩
def k0_off248 (k0_t3 : Fin k0_t3_loop.trips) (k0_t5 : Fin k0_t5_loop.trips) : Fin 2 → Nat :=
  let c2_i32_20 : BitVec 32 := 2#32
  let c1_i32_13 : BitVec 32 := 1#32
  let c1_i32_14 : BitVec 32 := 1#32
  let arg11 : BitVec 32 := Scf.iv c1_i32_13 c1_i32_14 k0_t3
  let v16 : BitVec 32 := Scalar.muli c2_i32_20 arg11
  let c1_i32_33 : BitVec 32 := 1#32
  let v26 : BitVec 32 := Scalar.addi v16 c1_i32_33
  let c4_i32 : BitVec 32 := 4#32
  let v32 : BitVec 32 := Scalar.muli v26 c4_i32
  let c0_i32_35 : BitVec 32 := 0#32
  let c1_i32_37 : BitVec 32 := 1#32
  let arg12 : BitVec 32 := Scf.iv c0_i32_35 c1_i32_37 k0_t5
  let c3_i32 : BitVec 32 := 3#32
  let v33 : BitVec 32 := Scalar.shrui arg12 c3_i32
  let v34 : BitVec 32 := Scalar.addi v32 v33
  let v37 : Index := Scalar.indexCast v34
  let c7_i32 : BitVec 32 := 7#32
  let v35 : BitVec 32 := Scalar.andi arg12 c7_i32
  let c4_i32_42 : BitVec 32 := 4#32
  let v36 : BitVec 32 := Scalar.shli v35 c4_i32_42
  let v38 : Index := Scalar.indexCast v36
  ![v37.toNat, v38.toNat]
def k0_off249 (v45 : BitVec 32) (c0_i32_43 : BitVec 32) : Fin 1 → Nat :=
  let v46 : BitVec 32 := Scalar.addi v45 c0_i32_43
  let v47 : Index := Scalar.indexCast v46
  ![v47.toNat]

def k0_chk49 (v45 : BitVec 32) : Prop :=
  (∀ (r : Fin 4), ∀ a, (k0_off249 v45 (BitVec.ofNat 32 (16 * r.val))) a + S16.size a ≤ S448.size a)
theorem k0_off249_inb : ∀ (v45 : BitVec 32) (k0_hw49 : k0_chk49 v45), ∀ (r : Fin 4), ∀ a, (k0_off249 v45 (BitVec.ofNat 32 (16 * r.val))) a + S16.size a ≤ S448.size a := fun v45 k0_hw49 r => k0_hw49 r

def k0_off250 (k0_t5 : Fin k0_t5_loop.trips) : Fin 2 → Nat :=
  let c0_i32_35 : BitVec 32 := 0#32
  let c1_i32_37 : BitVec 32 := 1#32
  let arg12 : BitVec 32 := Scf.iv c0_i32_35 c1_i32_37 k0_t5
  let c8_i32 : BitVec 32 := 8#32
  let v43 : BitVec 32 := Scalar.muli arg12 c8_i32
  let c0_i32_44 : BitVec 32 := 0#32
  let v50 : BitVec 32 := Scalar.addi v43 c0_i32_44
  let v51 : Index := Scalar.indexCast v50
  let c0 : Index := 0#32
  ![v51.toNat, 0]
def k0_off251 (k0_t5 : Fin k0_t5_loop.trips) : Fin 2 → Nat :=
  let c0_i32_35 : BitVec 32 := 0#32
  let c1_i32_37 : BitVec 32 := 1#32
  let arg12 : BitVec 32 := Scf.iv c0_i32_35 c1_i32_37 k0_t5
  let c8_i32 : BitVec 32 := 8#32
  let v43 : BitVec 32 := Scalar.muli arg12 c8_i32
  let c0_i32_45 : BitVec 32 := 0#32
  let v59 : BitVec 32 := Scalar.addi v43 c0_i32_45
  let v60 : Index := Scalar.indexCast v59
  let c16 : Index := 16#32
  ![v60.toNat, 16]
def k0_off252 (k0_t5 : Fin k0_t5_loop.trips) : Fin 2 → Nat :=
  let c0_i32_35 : BitVec 32 := 0#32
  let c1_i32_37 : BitVec 32 := 1#32
  let arg12 : BitVec 32 := Scf.iv c0_i32_35 c1_i32_37 k0_t5
  let c8_i32 : BitVec 32 := 8#32
  let v43 : BitVec 32 := Scalar.muli arg12 c8_i32
  let c0_i32_47 : BitVec 32 := 0#32
  let v68 : BitVec 32 := Scalar.addi v43 c0_i32_47
  let v69 : Index := Scalar.indexCast v68
  let c32 : Index := 32#32
  ![v69.toNat, 32]
def k0_off253 (k0_t5 : Fin k0_t5_loop.trips) : Fin 2 → Nat :=
  let c0_i32_35 : BitVec 32 := 0#32
  let c1_i32_37 : BitVec 32 := 1#32
  let arg12 : BitVec 32 := Scf.iv c0_i32_35 c1_i32_37 k0_t5
  let c8_i32 : BitVec 32 := 8#32
  let v43 : BitVec 32 := Scalar.muli arg12 c8_i32
  let c0_i32_48 : BitVec 32 := 0#32
  let v77 : BitVec 32 := Scalar.addi v43 c0_i32_48
  let v78 : Index := Scalar.indexCast v77
  let c48 : Index := 48#32
  ![v78.toNat, 48]
def k0_off254 (v83 : BitVec 32) (c0_i32_49 : BitVec 32) : Fin 1 → Nat :=
  let v84 : BitVec 32 := Scalar.addi v83 c0_i32_49
  let v85 : Index := Scalar.indexCast v84
  ![v85.toNat]

def k0_chk50 (v83 : BitVec 32) : Prop :=
  (∀ (r : Fin 4), ∀ a, (k0_off254 v83 (BitVec.ofNat 32 (16 * r.val))) a + S16.size a ≤ S448.size a)
theorem k0_off254_inb : ∀ (v83 : BitVec 32) (k0_hw50 : k0_chk50 v83), ∀ (r : Fin 4), ∀ a, (k0_off254 v83 (BitVec.ofNat 32 (16 * r.val))) a + S16.size a ≤ S448.size a := fun v83 k0_hw50 r => k0_hw50 r

def k0_off255 (k0_t5 : Fin k0_t5_loop.trips) : Fin 2 → Nat :=
  let c0_i32_35 : BitVec 32 := 0#32
  let c1_i32_37 : BitVec 32 := 1#32
  let arg12 : BitVec 32 := Scf.iv c0_i32_35 c1_i32_37 k0_t5
  let c8_i32 : BitVec 32 := 8#32
  let v43 : BitVec 32 := Scalar.muli arg12 c8_i32
  let c0_i32_50 : BitVec 32 := 0#32
  let v88 : BitVec 32 := Scalar.addi v43 c0_i32_50
  let v89 : Index := Scalar.indexCast v88
  let c64 : Index := 64#32
  ![v89.toNat, 64]
def k0_off256 (k0_t5 : Fin k0_t5_loop.trips) : Fin 2 → Nat :=
  let c0_i32_35 : BitVec 32 := 0#32
  let c1_i32_37 : BitVec 32 := 1#32
  let arg12 : BitVec 32 := Scf.iv c0_i32_35 c1_i32_37 k0_t5
  let c8_i32 : BitVec 32 := 8#32
  let v43 : BitVec 32 := Scalar.muli arg12 c8_i32
  let c0_i32_52 : BitVec 32 := 0#32
  let v97 : BitVec 32 := Scalar.addi v43 c0_i32_52
  let v98 : Index := Scalar.indexCast v97
  let c80 : Index := 80#32
  ![v98.toNat, 80]
def k0_off257 (k0_t5 : Fin k0_t5_loop.trips) : Fin 2 → Nat :=
  let c0_i32_35 : BitVec 32 := 0#32
  let c1_i32_37 : BitVec 32 := 1#32
  let arg12 : BitVec 32 := Scf.iv c0_i32_35 c1_i32_37 k0_t5
  let c8_i32 : BitVec 32 := 8#32
  let v43 : BitVec 32 := Scalar.muli arg12 c8_i32
  let c0_i32_54 : BitVec 32 := 0#32
  let v106 : BitVec 32 := Scalar.addi v43 c0_i32_54
  let v107 : Index := Scalar.indexCast v106
  let c96 : Index := 96#32
  ![v107.toNat, 96]
def k0_off258 (k0_t5 : Fin k0_t5_loop.trips) : Fin 2 → Nat :=
  let c0_i32_35 : BitVec 32 := 0#32
  let c1_i32_37 : BitVec 32 := 1#32
  let arg12 : BitVec 32 := Scf.iv c0_i32_35 c1_i32_37 k0_t5
  let c8_i32 : BitVec 32 := 8#32
  let v43 : BitVec 32 := Scalar.muli arg12 c8_i32
  let c0_i32_56 : BitVec 32 := 0#32
  let v115 : BitVec 32 := Scalar.addi v43 c0_i32_56
  let v116 : Index := Scalar.indexCast v115
  let c112 : Index := 112#32
  ![v116.toNat, 112]
def k0_off259 (v121 : BitVec 32) (c0_i32_57 : BitVec 32) : Fin 1 → Nat :=
  let v122 : BitVec 32 := Scalar.addi v121 c0_i32_57
  let v123 : Index := Scalar.indexCast v122
  ![v123.toNat]

def k0_chk51 (v121 : BitVec 32) : Prop :=
  (∀ (r : Fin 4), ∀ a, (k0_off259 v121 (BitVec.ofNat 32 (16 * r.val))) a + S16.size a ≤ S448.size a)
theorem k0_off259_inb : ∀ (v121 : BitVec 32) (k0_hw51 : k0_chk51 v121), ∀ (r : Fin 4), ∀ a, (k0_off259 v121 (BitVec.ofNat 32 (16 * r.val))) a + S16.size a ≤ S448.size a := fun v121 k0_hw51 r => k0_hw51 r

def k0_off260 (k0_t5 : Fin k0_t5_loop.trips) : Fin 2 → Nat :=
  let c0_i32_35 : BitVec 32 := 0#32
  let c1_i32_37 : BitVec 32 := 1#32
  let arg12 : BitVec 32 := Scf.iv c0_i32_35 c1_i32_37 k0_t5
  let c8_i32 : BitVec 32 := 8#32
  let v43 : BitVec 32 := Scalar.muli arg12 c8_i32
  let c1_i32_58 : BitVec 32 := 1#32
  let v126 : BitVec 32 := Scalar.addi v43 c1_i32_58
  let v127 : Index := Scalar.indexCast v126
  let c0_59 : Index := 0#32
  ![v127.toNat, 0]
def k0_off261 (k0_t5 : Fin k0_t5_loop.trips) : Fin 2 → Nat :=
  let c0_i32_35 : BitVec 32 := 0#32
  let c1_i32_37 : BitVec 32 := 1#32
  let arg12 : BitVec 32 := Scf.iv c0_i32_35 c1_i32_37 k0_t5
  let c8_i32 : BitVec 32 := 8#32
  let v43 : BitVec 32 := Scalar.muli arg12 c8_i32
  let c1_i32_61 : BitVec 32 := 1#32
  let v135 : BitVec 32 := Scalar.addi v43 c1_i32_61
  let v136 : Index := Scalar.indexCast v135
  let c16_62 : Index := 16#32
  ![v136.toNat, 16]
def k0_off262 (k0_t5 : Fin k0_t5_loop.trips) : Fin 2 → Nat :=
  let c0_i32_35 : BitVec 32 := 0#32
  let c1_i32_37 : BitVec 32 := 1#32
  let arg12 : BitVec 32 := Scf.iv c0_i32_35 c1_i32_37 k0_t5
  let c8_i32 : BitVec 32 := 8#32
  let v43 : BitVec 32 := Scalar.muli arg12 c8_i32
  let c1_i32_64 : BitVec 32 := 1#32
  let v144 : BitVec 32 := Scalar.addi v43 c1_i32_64
  let v145 : Index := Scalar.indexCast v144
  let c32_65 : Index := 32#32
  ![v145.toNat, 32]
def k0_off263 (k0_t5 : Fin k0_t5_loop.trips) : Fin 2 → Nat :=
  let c0_i32_35 : BitVec 32 := 0#32
  let c1_i32_37 : BitVec 32 := 1#32
  let arg12 : BitVec 32 := Scf.iv c0_i32_35 c1_i32_37 k0_t5
  let c8_i32 : BitVec 32 := 8#32
  let v43 : BitVec 32 := Scalar.muli arg12 c8_i32
  let c1_i32_67 : BitVec 32 := 1#32
  let v153 : BitVec 32 := Scalar.addi v43 c1_i32_67
  let v154 : Index := Scalar.indexCast v153
  let c48_68 : Index := 48#32
  ![v154.toNat, 48]
def k0_off264 (v159 : BitVec 32) (c0_i32_69 : BitVec 32) : Fin 1 → Nat :=
  let v160 : BitVec 32 := Scalar.addi v159 c0_i32_69
  let v161 : Index := Scalar.indexCast v160
  ![v161.toNat]

def k0_chk52 (v159 : BitVec 32) : Prop :=
  (∀ (r : Fin 4), ∀ a, (k0_off264 v159 (BitVec.ofNat 32 (16 * r.val))) a + S16.size a ≤ S448.size a)
theorem k0_off264_inb : ∀ (v159 : BitVec 32) (k0_hw52 : k0_chk52 v159), ∀ (r : Fin 4), ∀ a, (k0_off264 v159 (BitVec.ofNat 32 (16 * r.val))) a + S16.size a ≤ S448.size a := fun v159 k0_hw52 r => k0_hw52 r

def k0_off265 (k0_t5 : Fin k0_t5_loop.trips) : Fin 2 → Nat :=
  let c0_i32_35 : BitVec 32 := 0#32
  let c1_i32_37 : BitVec 32 := 1#32
  let arg12 : BitVec 32 := Scf.iv c0_i32_35 c1_i32_37 k0_t5
  let c8_i32 : BitVec 32 := 8#32
  let v43 : BitVec 32 := Scalar.muli arg12 c8_i32
  let c1_i32_70 : BitVec 32 := 1#32
  let v164 : BitVec 32 := Scalar.addi v43 c1_i32_70
  let v165 : Index := Scalar.indexCast v164
  let c64_71 : Index := 64#32
  ![v165.toNat, 64]
def k0_off266 (k0_t5 : Fin k0_t5_loop.trips) : Fin 2 → Nat :=
  let c0_i32_35 : BitVec 32 := 0#32
  let c1_i32_37 : BitVec 32 := 1#32
  let arg12 : BitVec 32 := Scf.iv c0_i32_35 c1_i32_37 k0_t5
  let c8_i32 : BitVec 32 := 8#32
  let v43 : BitVec 32 := Scalar.muli arg12 c8_i32
  let c1_i32_73 : BitVec 32 := 1#32
  let v173 : BitVec 32 := Scalar.addi v43 c1_i32_73
  let v174 : Index := Scalar.indexCast v173
  let c80_74 : Index := 80#32
  ![v174.toNat, 80]
def k0_off267 (k0_t5 : Fin k0_t5_loop.trips) : Fin 2 → Nat :=
  let c0_i32_35 : BitVec 32 := 0#32
  let c1_i32_37 : BitVec 32 := 1#32
  let arg12 : BitVec 32 := Scf.iv c0_i32_35 c1_i32_37 k0_t5
  let c8_i32 : BitVec 32 := 8#32
  let v43 : BitVec 32 := Scalar.muli arg12 c8_i32
  let c1_i32_76 : BitVec 32 := 1#32
  let v182 : BitVec 32 := Scalar.addi v43 c1_i32_76
  let v183 : Index := Scalar.indexCast v182
  let c96_77 : Index := 96#32
  ![v183.toNat, 96]
def k0_off268 (k0_t5 : Fin k0_t5_loop.trips) : Fin 2 → Nat :=
  let c0_i32_35 : BitVec 32 := 0#32
  let c1_i32_37 : BitVec 32 := 1#32
  let arg12 : BitVec 32 := Scf.iv c0_i32_35 c1_i32_37 k0_t5
  let c8_i32 : BitVec 32 := 8#32
  let v43 : BitVec 32 := Scalar.muli arg12 c8_i32
  let c1_i32_79 : BitVec 32 := 1#32
  let v191 : BitVec 32 := Scalar.addi v43 c1_i32_79
  let v192 : Index := Scalar.indexCast v191
  let c112_80 : Index := 112#32
  ![v192.toNat, 112]
def k0_off269 (v197 : BitVec 32) (c0_i32_81 : BitVec 32) : Fin 1 → Nat :=
  let v198 : BitVec 32 := Scalar.addi v197 c0_i32_81
  let v199 : Index := Scalar.indexCast v198
  ![v199.toNat]

def k0_chk53 (v197 : BitVec 32) : Prop :=
  (∀ (r : Fin 4), ∀ a, (k0_off269 v197 (BitVec.ofNat 32 (16 * r.val))) a + S16.size a ≤ S448.size a)
theorem k0_off269_inb : ∀ (v197 : BitVec 32) (k0_hw53 : k0_chk53 v197), ∀ (r : Fin 4), ∀ a, (k0_off269 v197 (BitVec.ofNat 32 (16 * r.val))) a + S16.size a ≤ S448.size a := fun v197 k0_hw53 r => k0_hw53 r

def k0_off270 (k0_t5 : Fin k0_t5_loop.trips) : Fin 2 → Nat :=
  let c0_i32_35 : BitVec 32 := 0#32
  let c1_i32_37 : BitVec 32 := 1#32
  let arg12 : BitVec 32 := Scf.iv c0_i32_35 c1_i32_37 k0_t5
  let c8_i32 : BitVec 32 := 8#32
  let v43 : BitVec 32 := Scalar.muli arg12 c8_i32
  let c2_i32_82 : BitVec 32 := 2#32
  let v202 : BitVec 32 := Scalar.addi v43 c2_i32_82
  let v203 : Index := Scalar.indexCast v202
  let c0_83 : Index := 0#32
  ![v203.toNat, 0]
def k0_off271 (k0_t5 : Fin k0_t5_loop.trips) : Fin 2 → Nat :=
  let c0_i32_35 : BitVec 32 := 0#32
  let c1_i32_37 : BitVec 32 := 1#32
  let arg12 : BitVec 32 := Scf.iv c0_i32_35 c1_i32_37 k0_t5
  let c8_i32 : BitVec 32 := 8#32
  let v43 : BitVec 32 := Scalar.muli arg12 c8_i32
  let c2_i32_85 : BitVec 32 := 2#32
  let v211 : BitVec 32 := Scalar.addi v43 c2_i32_85
  let v212 : Index := Scalar.indexCast v211
  let c16_86 : Index := 16#32
  ![v212.toNat, 16]
def k0_off272 (k0_t5 : Fin k0_t5_loop.trips) : Fin 2 → Nat :=
  let c0_i32_35 : BitVec 32 := 0#32
  let c1_i32_37 : BitVec 32 := 1#32
  let arg12 : BitVec 32 := Scf.iv c0_i32_35 c1_i32_37 k0_t5
  let c8_i32 : BitVec 32 := 8#32
  let v43 : BitVec 32 := Scalar.muli arg12 c8_i32
  let c2_i32_88 : BitVec 32 := 2#32
  let v220 : BitVec 32 := Scalar.addi v43 c2_i32_88
  let v221 : Index := Scalar.indexCast v220
  let c32_89 : Index := 32#32
  ![v221.toNat, 32]
def k0_off273 (k0_t5 : Fin k0_t5_loop.trips) : Fin 2 → Nat :=
  let c0_i32_35 : BitVec 32 := 0#32
  let c1_i32_37 : BitVec 32 := 1#32
  let arg12 : BitVec 32 := Scf.iv c0_i32_35 c1_i32_37 k0_t5
  let c8_i32 : BitVec 32 := 8#32
  let v43 : BitVec 32 := Scalar.muli arg12 c8_i32
  let c2_i32_91 : BitVec 32 := 2#32
  let v229 : BitVec 32 := Scalar.addi v43 c2_i32_91
  let v230 : Index := Scalar.indexCast v229
  let c48_92 : Index := 48#32
  ![v230.toNat, 48]
def k0_off274 (v235 : BitVec 32) (c0_i32_93 : BitVec 32) : Fin 1 → Nat :=
  let v236 : BitVec 32 := Scalar.addi v235 c0_i32_93
  let v237 : Index := Scalar.indexCast v236
  ![v237.toNat]

def k0_chk54 (v235 : BitVec 32) : Prop :=
  (∀ (r : Fin 4), ∀ a, (k0_off274 v235 (BitVec.ofNat 32 (16 * r.val))) a + S16.size a ≤ S448.size a)
theorem k0_off274_inb : ∀ (v235 : BitVec 32) (k0_hw54 : k0_chk54 v235), ∀ (r : Fin 4), ∀ a, (k0_off274 v235 (BitVec.ofNat 32 (16 * r.val))) a + S16.size a ≤ S448.size a := fun v235 k0_hw54 r => k0_hw54 r

def k0_off275 (k0_t5 : Fin k0_t5_loop.trips) : Fin 2 → Nat :=
  let c0_i32_35 : BitVec 32 := 0#32
  let c1_i32_37 : BitVec 32 := 1#32
  let arg12 : BitVec 32 := Scf.iv c0_i32_35 c1_i32_37 k0_t5
  let c8_i32 : BitVec 32 := 8#32
  let v43 : BitVec 32 := Scalar.muli arg12 c8_i32
  let c2_i32_94 : BitVec 32 := 2#32
  let v240 : BitVec 32 := Scalar.addi v43 c2_i32_94
  let v241 : Index := Scalar.indexCast v240
  let c64_95 : Index := 64#32
  ![v241.toNat, 64]
def k0_off276 (k0_t5 : Fin k0_t5_loop.trips) : Fin 2 → Nat :=
  let c0_i32_35 : BitVec 32 := 0#32
  let c1_i32_37 : BitVec 32 := 1#32
  let arg12 : BitVec 32 := Scf.iv c0_i32_35 c1_i32_37 k0_t5
  let c8_i32 : BitVec 32 := 8#32
  let v43 : BitVec 32 := Scalar.muli arg12 c8_i32
  let c2_i32_97 : BitVec 32 := 2#32
  let v249 : BitVec 32 := Scalar.addi v43 c2_i32_97
  let v250 : Index := Scalar.indexCast v249
  let c80_98 : Index := 80#32
  ![v250.toNat, 80]
def k0_off277 (k0_t5 : Fin k0_t5_loop.trips) : Fin 2 → Nat :=
  let c0_i32_35 : BitVec 32 := 0#32
  let c1_i32_37 : BitVec 32 := 1#32
  let arg12 : BitVec 32 := Scf.iv c0_i32_35 c1_i32_37 k0_t5
  let c8_i32 : BitVec 32 := 8#32
  let v43 : BitVec 32 := Scalar.muli arg12 c8_i32
  let c2_i32_100 : BitVec 32 := 2#32
  let v258 : BitVec 32 := Scalar.addi v43 c2_i32_100
  let v259 : Index := Scalar.indexCast v258
  let c96_101 : Index := 96#32
  ![v259.toNat, 96]
def k0_off278 (k0_t5 : Fin k0_t5_loop.trips) : Fin 2 → Nat :=
  let c0_i32_35 : BitVec 32 := 0#32
  let c1_i32_37 : BitVec 32 := 1#32
  let arg12 : BitVec 32 := Scf.iv c0_i32_35 c1_i32_37 k0_t5
  let c8_i32 : BitVec 32 := 8#32
  let v43 : BitVec 32 := Scalar.muli arg12 c8_i32
  let c2_i32_103 : BitVec 32 := 2#32
  let v267 : BitVec 32 := Scalar.addi v43 c2_i32_103
  let v268 : Index := Scalar.indexCast v267
  let c112_104 : Index := 112#32
  ![v268.toNat, 112]
def k0_off279 (v273 : BitVec 32) (c0_i32_105 : BitVec 32) : Fin 1 → Nat :=
  let v274 : BitVec 32 := Scalar.addi v273 c0_i32_105
  let v275 : Index := Scalar.indexCast v274
  ![v275.toNat]

def k0_chk55 (v273 : BitVec 32) : Prop :=
  (∀ (r : Fin 4), ∀ a, (k0_off279 v273 (BitVec.ofNat 32 (16 * r.val))) a + S16.size a ≤ S448.size a)
theorem k0_off279_inb : ∀ (v273 : BitVec 32) (k0_hw55 : k0_chk55 v273), ∀ (r : Fin 4), ∀ a, (k0_off279 v273 (BitVec.ofNat 32 (16 * r.val))) a + S16.size a ≤ S448.size a := fun v273 k0_hw55 r => k0_hw55 r

def k0_off280 (k0_t5 : Fin k0_t5_loop.trips) : Fin 2 → Nat :=
  let c0_i32_35 : BitVec 32 := 0#32
  let c1_i32_37 : BitVec 32 := 1#32
  let arg12 : BitVec 32 := Scf.iv c0_i32_35 c1_i32_37 k0_t5
  let c8_i32 : BitVec 32 := 8#32
  let v43 : BitVec 32 := Scalar.muli arg12 c8_i32
  let c3_i32_106 : BitVec 32 := 3#32
  let v278 : BitVec 32 := Scalar.addi v43 c3_i32_106
  let v279 : Index := Scalar.indexCast v278
  let c0_107 : Index := 0#32
  ![v279.toNat, 0]
def k0_off281 (k0_t5 : Fin k0_t5_loop.trips) : Fin 2 → Nat :=
  let c0_i32_35 : BitVec 32 := 0#32
  let c1_i32_37 : BitVec 32 := 1#32
  let arg12 : BitVec 32 := Scf.iv c0_i32_35 c1_i32_37 k0_t5
  let c8_i32 : BitVec 32 := 8#32
  let v43 : BitVec 32 := Scalar.muli arg12 c8_i32
  let c3_i32_109 : BitVec 32 := 3#32
  let v287 : BitVec 32 := Scalar.addi v43 c3_i32_109
  let v288 : Index := Scalar.indexCast v287
  let c16_110 : Index := 16#32
  ![v288.toNat, 16]
def k0_off282 (k0_t5 : Fin k0_t5_loop.trips) : Fin 2 → Nat :=
  let c0_i32_35 : BitVec 32 := 0#32
  let c1_i32_37 : BitVec 32 := 1#32
  let arg12 : BitVec 32 := Scf.iv c0_i32_35 c1_i32_37 k0_t5
  let c8_i32 : BitVec 32 := 8#32
  let v43 : BitVec 32 := Scalar.muli arg12 c8_i32
  let c3_i32_112 : BitVec 32 := 3#32
  let v296 : BitVec 32 := Scalar.addi v43 c3_i32_112
  let v297 : Index := Scalar.indexCast v296
  let c32_113 : Index := 32#32
  ![v297.toNat, 32]
def k0_off283 (k0_t5 : Fin k0_t5_loop.trips) : Fin 2 → Nat :=
  let c0_i32_35 : BitVec 32 := 0#32
  let c1_i32_37 : BitVec 32 := 1#32
  let arg12 : BitVec 32 := Scf.iv c0_i32_35 c1_i32_37 k0_t5
  let c8_i32 : BitVec 32 := 8#32
  let v43 : BitVec 32 := Scalar.muli arg12 c8_i32
  let c3_i32_115 : BitVec 32 := 3#32
  let v305 : BitVec 32 := Scalar.addi v43 c3_i32_115
  let v306 : Index := Scalar.indexCast v305
  let c48_116 : Index := 48#32
  ![v306.toNat, 48]
def k0_off284 (v311 : BitVec 32) (c0_i32_117 : BitVec 32) : Fin 1 → Nat :=
  let v312 : BitVec 32 := Scalar.addi v311 c0_i32_117
  let v313 : Index := Scalar.indexCast v312
  ![v313.toNat]

def k0_chk56 (v311 : BitVec 32) : Prop :=
  (∀ (r : Fin 4), ∀ a, (k0_off284 v311 (BitVec.ofNat 32 (16 * r.val))) a + S16.size a ≤ S448.size a)
theorem k0_off284_inb : ∀ (v311 : BitVec 32) (k0_hw56 : k0_chk56 v311), ∀ (r : Fin 4), ∀ a, (k0_off284 v311 (BitVec.ofNat 32 (16 * r.val))) a + S16.size a ≤ S448.size a := fun v311 k0_hw56 r => k0_hw56 r

def k0_off285 (k0_t5 : Fin k0_t5_loop.trips) : Fin 2 → Nat :=
  let c0_i32_35 : BitVec 32 := 0#32
  let c1_i32_37 : BitVec 32 := 1#32
  let arg12 : BitVec 32 := Scf.iv c0_i32_35 c1_i32_37 k0_t5
  let c8_i32 : BitVec 32 := 8#32
  let v43 : BitVec 32 := Scalar.muli arg12 c8_i32
  let c3_i32_118 : BitVec 32 := 3#32
  let v316 : BitVec 32 := Scalar.addi v43 c3_i32_118
  let v317 : Index := Scalar.indexCast v316
  let c64_119 : Index := 64#32
  ![v317.toNat, 64]
def k0_off286 (k0_t5 : Fin k0_t5_loop.trips) : Fin 2 → Nat :=
  let c0_i32_35 : BitVec 32 := 0#32
  let c1_i32_37 : BitVec 32 := 1#32
  let arg12 : BitVec 32 := Scf.iv c0_i32_35 c1_i32_37 k0_t5
  let c8_i32 : BitVec 32 := 8#32
  let v43 : BitVec 32 := Scalar.muli arg12 c8_i32
  let c3_i32_121 : BitVec 32 := 3#32
  let v325 : BitVec 32 := Scalar.addi v43 c3_i32_121
  let v326 : Index := Scalar.indexCast v325
  let c80_122 : Index := 80#32
  ![v326.toNat, 80]
def k0_off287 (k0_t5 : Fin k0_t5_loop.trips) : Fin 2 → Nat :=
  let c0_i32_35 : BitVec 32 := 0#32
  let c1_i32_37 : BitVec 32 := 1#32
  let arg12 : BitVec 32 := Scf.iv c0_i32_35 c1_i32_37 k0_t5
  let c8_i32 : BitVec 32 := 8#32
  let v43 : BitVec 32 := Scalar.muli arg12 c8_i32
  let c3_i32_124 : BitVec 32 := 3#32
  let v334 : BitVec 32 := Scalar.addi v43 c3_i32_124
  let v335 : Index := Scalar.indexCast v334
  let c96_125 : Index := 96#32
  ![v335.toNat, 96]
def k0_off288 (k0_t5 : Fin k0_t5_loop.trips) : Fin 2 → Nat :=
  let c0_i32_35 : BitVec 32 := 0#32
  let c1_i32_37 : BitVec 32 := 1#32
  let arg12 : BitVec 32 := Scf.iv c0_i32_35 c1_i32_37 k0_t5
  let c8_i32 : BitVec 32 := 8#32
  let v43 : BitVec 32 := Scalar.muli arg12 c8_i32
  let c3_i32_127 : BitVec 32 := 3#32
  let v343 : BitVec 32 := Scalar.addi v43 c3_i32_127
  let v344 : Index := Scalar.indexCast v343
  let c112_128 : Index := 112#32
  ![v344.toNat, 112]
def k0_off289 (v349 : BitVec 32) (c0_i32_129 : BitVec 32) : Fin 1 → Nat :=
  let v350 : BitVec 32 := Scalar.addi v349 c0_i32_129
  let v351 : Index := Scalar.indexCast v350
  ![v351.toNat]

def k0_chk57 (v349 : BitVec 32) : Prop :=
  (∀ (r : Fin 4), ∀ a, (k0_off289 v349 (BitVec.ofNat 32 (16 * r.val))) a + S16.size a ≤ S448.size a)
theorem k0_off289_inb : ∀ (v349 : BitVec 32) (k0_hw57 : k0_chk57 v349), ∀ (r : Fin 4), ∀ a, (k0_off289 v349 (BitVec.ofNat 32 (16 * r.val))) a + S16.size a ≤ S448.size a := fun v349 k0_hw57 r => k0_hw57 r

def k0_off290 (k0_t5 : Fin k0_t5_loop.trips) : Fin 2 → Nat :=
  let c0_i32_35 : BitVec 32 := 0#32
  let c1_i32_37 : BitVec 32 := 1#32
  let arg12 : BitVec 32 := Scf.iv c0_i32_35 c1_i32_37 k0_t5
  let c8_i32 : BitVec 32 := 8#32
  let v43 : BitVec 32 := Scalar.muli arg12 c8_i32
  let c4_i32_130 : BitVec 32 := 4#32
  let v354 : BitVec 32 := Scalar.addi v43 c4_i32_130
  let v355 : Index := Scalar.indexCast v354
  let c0_131 : Index := 0#32
  ![v355.toNat, 0]
def k0_off291 (k0_t5 : Fin k0_t5_loop.trips) : Fin 2 → Nat :=
  let c0_i32_35 : BitVec 32 := 0#32
  let c1_i32_37 : BitVec 32 := 1#32
  let arg12 : BitVec 32 := Scf.iv c0_i32_35 c1_i32_37 k0_t5
  let c8_i32 : BitVec 32 := 8#32
  let v43 : BitVec 32 := Scalar.muli arg12 c8_i32
  let c4_i32_133 : BitVec 32 := 4#32
  let v363 : BitVec 32 := Scalar.addi v43 c4_i32_133
  let v364 : Index := Scalar.indexCast v363
  let c16_134 : Index := 16#32
  ![v364.toNat, 16]
def k0_off292 (k0_t5 : Fin k0_t5_loop.trips) : Fin 2 → Nat :=
  let c0_i32_35 : BitVec 32 := 0#32
  let c1_i32_37 : BitVec 32 := 1#32
  let arg12 : BitVec 32 := Scf.iv c0_i32_35 c1_i32_37 k0_t5
  let c8_i32 : BitVec 32 := 8#32
  let v43 : BitVec 32 := Scalar.muli arg12 c8_i32
  let c4_i32_136 : BitVec 32 := 4#32
  let v372 : BitVec 32 := Scalar.addi v43 c4_i32_136
  let v373 : Index := Scalar.indexCast v372
  let c32_137 : Index := 32#32
  ![v373.toNat, 32]
def k0_off293 (k0_t5 : Fin k0_t5_loop.trips) : Fin 2 → Nat :=
  let c0_i32_35 : BitVec 32 := 0#32
  let c1_i32_37 : BitVec 32 := 1#32
  let arg12 : BitVec 32 := Scf.iv c0_i32_35 c1_i32_37 k0_t5
  let c8_i32 : BitVec 32 := 8#32
  let v43 : BitVec 32 := Scalar.muli arg12 c8_i32
  let c4_i32_139 : BitVec 32 := 4#32
  let v381 : BitVec 32 := Scalar.addi v43 c4_i32_139
  let v382 : Index := Scalar.indexCast v381
  let c48_140 : Index := 48#32
  ![v382.toNat, 48]
def k0_off294 (v387 : BitVec 32) (c0_i32_141 : BitVec 32) : Fin 1 → Nat :=
  let v388 : BitVec 32 := Scalar.addi v387 c0_i32_141
  let v389 : Index := Scalar.indexCast v388
  ![v389.toNat]

def k0_chk58 (v387 : BitVec 32) : Prop :=
  (∀ (r : Fin 4), ∀ a, (k0_off294 v387 (BitVec.ofNat 32 (16 * r.val))) a + S16.size a ≤ S448.size a)
theorem k0_off294_inb : ∀ (v387 : BitVec 32) (k0_hw58 : k0_chk58 v387), ∀ (r : Fin 4), ∀ a, (k0_off294 v387 (BitVec.ofNat 32 (16 * r.val))) a + S16.size a ≤ S448.size a := fun v387 k0_hw58 r => k0_hw58 r

def k0_off295 (k0_t5 : Fin k0_t5_loop.trips) : Fin 2 → Nat :=
  let c0_i32_35 : BitVec 32 := 0#32
  let c1_i32_37 : BitVec 32 := 1#32
  let arg12 : BitVec 32 := Scf.iv c0_i32_35 c1_i32_37 k0_t5
  let c8_i32 : BitVec 32 := 8#32
  let v43 : BitVec 32 := Scalar.muli arg12 c8_i32
  let c4_i32_142 : BitVec 32 := 4#32
  let v392 : BitVec 32 := Scalar.addi v43 c4_i32_142
  let v393 : Index := Scalar.indexCast v392
  let c64_143 : Index := 64#32
  ![v393.toNat, 64]
def k0_off296 (k0_t5 : Fin k0_t5_loop.trips) : Fin 2 → Nat :=
  let c0_i32_35 : BitVec 32 := 0#32
  let c1_i32_37 : BitVec 32 := 1#32
  let arg12 : BitVec 32 := Scf.iv c0_i32_35 c1_i32_37 k0_t5
  let c8_i32 : BitVec 32 := 8#32
  let v43 : BitVec 32 := Scalar.muli arg12 c8_i32
  let c4_i32_145 : BitVec 32 := 4#32
  let v401 : BitVec 32 := Scalar.addi v43 c4_i32_145
  let v402 : Index := Scalar.indexCast v401
  let c80_146 : Index := 80#32
  ![v402.toNat, 80]
def k0_off297 (k0_t5 : Fin k0_t5_loop.trips) : Fin 2 → Nat :=
  let c0_i32_35 : BitVec 32 := 0#32
  let c1_i32_37 : BitVec 32 := 1#32
  let arg12 : BitVec 32 := Scf.iv c0_i32_35 c1_i32_37 k0_t5
  let c8_i32 : BitVec 32 := 8#32
  let v43 : BitVec 32 := Scalar.muli arg12 c8_i32
  let c4_i32_148 : BitVec 32 := 4#32
  let v410 : BitVec 32 := Scalar.addi v43 c4_i32_148
  let v411 : Index := Scalar.indexCast v410
  let c96_149 : Index := 96#32
  ![v411.toNat, 96]
def k0_off298 (k0_t5 : Fin k0_t5_loop.trips) : Fin 2 → Nat :=
  let c0_i32_35 : BitVec 32 := 0#32
  let c1_i32_37 : BitVec 32 := 1#32
  let arg12 : BitVec 32 := Scf.iv c0_i32_35 c1_i32_37 k0_t5
  let c8_i32 : BitVec 32 := 8#32
  let v43 : BitVec 32 := Scalar.muli arg12 c8_i32
  let c4_i32_151 : BitVec 32 := 4#32
  let v419 : BitVec 32 := Scalar.addi v43 c4_i32_151
  let v420 : Index := Scalar.indexCast v419
  let c112_152 : Index := 112#32
  ![v420.toNat, 112]
def k0_off299 (v425 : BitVec 32) (c0_i32_153 : BitVec 32) : Fin 1 → Nat :=
  let v426 : BitVec 32 := Scalar.addi v425 c0_i32_153
  let v427 : Index := Scalar.indexCast v426
  ![v427.toNat]

def k0_chk59 (v425 : BitVec 32) : Prop :=
  (∀ (r : Fin 4), ∀ a, (k0_off299 v425 (BitVec.ofNat 32 (16 * r.val))) a + S16.size a ≤ S448.size a)
theorem k0_off299_inb : ∀ (v425 : BitVec 32) (k0_hw59 : k0_chk59 v425), ∀ (r : Fin 4), ∀ a, (k0_off299 v425 (BitVec.ofNat 32 (16 * r.val))) a + S16.size a ≤ S448.size a := fun v425 k0_hw59 r => k0_hw59 r

def k0_off300 (k0_t5 : Fin k0_t5_loop.trips) : Fin 2 → Nat :=
  let c0_i32_35 : BitVec 32 := 0#32
  let c1_i32_37 : BitVec 32 := 1#32
  let arg12 : BitVec 32 := Scf.iv c0_i32_35 c1_i32_37 k0_t5
  let c8_i32 : BitVec 32 := 8#32
  let v43 : BitVec 32 := Scalar.muli arg12 c8_i32
  let c5_i32 : BitVec 32 := 5#32
  let v430 : BitVec 32 := Scalar.addi v43 c5_i32
  let v431 : Index := Scalar.indexCast v430
  let c0_154 : Index := 0#32
  ![v431.toNat, 0]
def k0_off301 (k0_t5 : Fin k0_t5_loop.trips) : Fin 2 → Nat :=
  let c0_i32_35 : BitVec 32 := 0#32
  let c1_i32_37 : BitVec 32 := 1#32
  let arg12 : BitVec 32 := Scf.iv c0_i32_35 c1_i32_37 k0_t5
  let c8_i32 : BitVec 32 := 8#32
  let v43 : BitVec 32 := Scalar.muli arg12 c8_i32
  let c5_i32_156 : BitVec 32 := 5#32
  let v439 : BitVec 32 := Scalar.addi v43 c5_i32_156
  let v440 : Index := Scalar.indexCast v439
  let c16_157 : Index := 16#32
  ![v440.toNat, 16]
def k0_off302 (k0_t5 : Fin k0_t5_loop.trips) : Fin 2 → Nat :=
  let c0_i32_35 : BitVec 32 := 0#32
  let c1_i32_37 : BitVec 32 := 1#32
  let arg12 : BitVec 32 := Scf.iv c0_i32_35 c1_i32_37 k0_t5
  let c8_i32 : BitVec 32 := 8#32
  let v43 : BitVec 32 := Scalar.muli arg12 c8_i32
  let c5_i32_159 : BitVec 32 := 5#32
  let v448 : BitVec 32 := Scalar.addi v43 c5_i32_159
  let v449 : Index := Scalar.indexCast v448
  let c32_160 : Index := 32#32
  ![v449.toNat, 32]
def k0_off303 (k0_t5 : Fin k0_t5_loop.trips) : Fin 2 → Nat :=
  let c0_i32_35 : BitVec 32 := 0#32
  let c1_i32_37 : BitVec 32 := 1#32
  let arg12 : BitVec 32 := Scf.iv c0_i32_35 c1_i32_37 k0_t5
  let c8_i32 : BitVec 32 := 8#32
  let v43 : BitVec 32 := Scalar.muli arg12 c8_i32
  let c5_i32_162 : BitVec 32 := 5#32
  let v457 : BitVec 32 := Scalar.addi v43 c5_i32_162
  let v458 : Index := Scalar.indexCast v457
  let c48_163 : Index := 48#32
  ![v458.toNat, 48]
def k0_off304 (v463 : BitVec 32) (c0_i32_164 : BitVec 32) : Fin 1 → Nat :=
  let v464 : BitVec 32 := Scalar.addi v463 c0_i32_164
  let v465 : Index := Scalar.indexCast v464
  ![v465.toNat]

def k0_chk60 (v463 : BitVec 32) : Prop :=
  (∀ (r : Fin 4), ∀ a, (k0_off304 v463 (BitVec.ofNat 32 (16 * r.val))) a + S16.size a ≤ S448.size a)
theorem k0_off304_inb : ∀ (v463 : BitVec 32) (k0_hw60 : k0_chk60 v463), ∀ (r : Fin 4), ∀ a, (k0_off304 v463 (BitVec.ofNat 32 (16 * r.val))) a + S16.size a ≤ S448.size a := fun v463 k0_hw60 r => k0_hw60 r

def k0_off305 (k0_t5 : Fin k0_t5_loop.trips) : Fin 2 → Nat :=
  let c0_i32_35 : BitVec 32 := 0#32
  let c1_i32_37 : BitVec 32 := 1#32
  let arg12 : BitVec 32 := Scf.iv c0_i32_35 c1_i32_37 k0_t5
  let c8_i32 : BitVec 32 := 8#32
  let v43 : BitVec 32 := Scalar.muli arg12 c8_i32
  let c5_i32_165 : BitVec 32 := 5#32
  let v468 : BitVec 32 := Scalar.addi v43 c5_i32_165
  let v469 : Index := Scalar.indexCast v468
  let c64_166 : Index := 64#32
  ![v469.toNat, 64]
def k0_off306 (k0_t5 : Fin k0_t5_loop.trips) : Fin 2 → Nat :=
  let c0_i32_35 : BitVec 32 := 0#32
  let c1_i32_37 : BitVec 32 := 1#32
  let arg12 : BitVec 32 := Scf.iv c0_i32_35 c1_i32_37 k0_t5
  let c8_i32 : BitVec 32 := 8#32
  let v43 : BitVec 32 := Scalar.muli arg12 c8_i32
  let c5_i32_168 : BitVec 32 := 5#32
  let v477 : BitVec 32 := Scalar.addi v43 c5_i32_168
  let v478 : Index := Scalar.indexCast v477
  let c80_169 : Index := 80#32
  ![v478.toNat, 80]
def k0_off307 (k0_t5 : Fin k0_t5_loop.trips) : Fin 2 → Nat :=
  let c0_i32_35 : BitVec 32 := 0#32
  let c1_i32_37 : BitVec 32 := 1#32
  let arg12 : BitVec 32 := Scf.iv c0_i32_35 c1_i32_37 k0_t5
  let c8_i32 : BitVec 32 := 8#32
  let v43 : BitVec 32 := Scalar.muli arg12 c8_i32
  let c5_i32_171 : BitVec 32 := 5#32
  let v486 : BitVec 32 := Scalar.addi v43 c5_i32_171
  let v487 : Index := Scalar.indexCast v486
  let c96_172 : Index := 96#32
  ![v487.toNat, 96]
def k0_off308 (k0_t5 : Fin k0_t5_loop.trips) : Fin 2 → Nat :=
  let c0_i32_35 : BitVec 32 := 0#32
  let c1_i32_37 : BitVec 32 := 1#32
  let arg12 : BitVec 32 := Scf.iv c0_i32_35 c1_i32_37 k0_t5
  let c8_i32 : BitVec 32 := 8#32
  let v43 : BitVec 32 := Scalar.muli arg12 c8_i32
  let c5_i32_174 : BitVec 32 := 5#32
  let v495 : BitVec 32 := Scalar.addi v43 c5_i32_174
  let v496 : Index := Scalar.indexCast v495
  let c112_175 : Index := 112#32
  ![v496.toNat, 112]
def k0_off309 (v501 : BitVec 32) (c0_i32_176 : BitVec 32) : Fin 1 → Nat :=
  let v502 : BitVec 32 := Scalar.addi v501 c0_i32_176
  let v503 : Index := Scalar.indexCast v502
  ![v503.toNat]

def k0_chk61 (v501 : BitVec 32) : Prop :=
  (∀ (r : Fin 4), ∀ a, (k0_off309 v501 (BitVec.ofNat 32 (16 * r.val))) a + S16.size a ≤ S448.size a)
theorem k0_off309_inb : ∀ (v501 : BitVec 32) (k0_hw61 : k0_chk61 v501), ∀ (r : Fin 4), ∀ a, (k0_off309 v501 (BitVec.ofNat 32 (16 * r.val))) a + S16.size a ≤ S448.size a := fun v501 k0_hw61 r => k0_hw61 r

def k0_off310 (k0_t5 : Fin k0_t5_loop.trips) : Fin 2 → Nat :=
  let c0_i32_35 : BitVec 32 := 0#32
  let c1_i32_37 : BitVec 32 := 1#32
  let arg12 : BitVec 32 := Scf.iv c0_i32_35 c1_i32_37 k0_t5
  let c8_i32 : BitVec 32 := 8#32
  let v43 : BitVec 32 := Scalar.muli arg12 c8_i32
  let c6_i32_177 : BitVec 32 := 6#32
  let v506 : BitVec 32 := Scalar.addi v43 c6_i32_177
  let v507 : Index := Scalar.indexCast v506
  let c0_178 : Index := 0#32
  ![v507.toNat, 0]
def k0_off311 (k0_t5 : Fin k0_t5_loop.trips) : Fin 2 → Nat :=
  let c0_i32_35 : BitVec 32 := 0#32
  let c1_i32_37 : BitVec 32 := 1#32
  let arg12 : BitVec 32 := Scf.iv c0_i32_35 c1_i32_37 k0_t5
  let c8_i32 : BitVec 32 := 8#32
  let v43 : BitVec 32 := Scalar.muli arg12 c8_i32
  let c6_i32_180 : BitVec 32 := 6#32
  let v515 : BitVec 32 := Scalar.addi v43 c6_i32_180
  let v516 : Index := Scalar.indexCast v515
  let c16_181 : Index := 16#32
  ![v516.toNat, 16]
def k0_off312 (k0_t5 : Fin k0_t5_loop.trips) : Fin 2 → Nat :=
  let c0_i32_35 : BitVec 32 := 0#32
  let c1_i32_37 : BitVec 32 := 1#32
  let arg12 : BitVec 32 := Scf.iv c0_i32_35 c1_i32_37 k0_t5
  let c8_i32 : BitVec 32 := 8#32
  let v43 : BitVec 32 := Scalar.muli arg12 c8_i32
  let c6_i32_183 : BitVec 32 := 6#32
  let v524 : BitVec 32 := Scalar.addi v43 c6_i32_183
  let v525 : Index := Scalar.indexCast v524
  let c32_184 : Index := 32#32
  ![v525.toNat, 32]
def k0_off313 (k0_t5 : Fin k0_t5_loop.trips) : Fin 2 → Nat :=
  let c0_i32_35 : BitVec 32 := 0#32
  let c1_i32_37 : BitVec 32 := 1#32
  let arg12 : BitVec 32 := Scf.iv c0_i32_35 c1_i32_37 k0_t5
  let c8_i32 : BitVec 32 := 8#32
  let v43 : BitVec 32 := Scalar.muli arg12 c8_i32
  let c6_i32_186 : BitVec 32 := 6#32
  let v533 : BitVec 32 := Scalar.addi v43 c6_i32_186
  let v534 : Index := Scalar.indexCast v533
  let c48_187 : Index := 48#32
  ![v534.toNat, 48]
def k0_off314 (v539 : BitVec 32) (c0_i32_188 : BitVec 32) : Fin 1 → Nat :=
  let v540 : BitVec 32 := Scalar.addi v539 c0_i32_188
  let v541 : Index := Scalar.indexCast v540
  ![v541.toNat]

def k0_chk62 (v539 : BitVec 32) : Prop :=
  (∀ (r : Fin 4), ∀ a, (k0_off314 v539 (BitVec.ofNat 32 (16 * r.val))) a + S16.size a ≤ S448.size a)
theorem k0_off314_inb : ∀ (v539 : BitVec 32) (k0_hw62 : k0_chk62 v539), ∀ (r : Fin 4), ∀ a, (k0_off314 v539 (BitVec.ofNat 32 (16 * r.val))) a + S16.size a ≤ S448.size a := fun v539 k0_hw62 r => k0_hw62 r

def k0_off315 (k0_t5 : Fin k0_t5_loop.trips) : Fin 2 → Nat :=
  let c0_i32_35 : BitVec 32 := 0#32
  let c1_i32_37 : BitVec 32 := 1#32
  let arg12 : BitVec 32 := Scf.iv c0_i32_35 c1_i32_37 k0_t5
  let c8_i32 : BitVec 32 := 8#32
  let v43 : BitVec 32 := Scalar.muli arg12 c8_i32
  let c6_i32_189 : BitVec 32 := 6#32
  let v544 : BitVec 32 := Scalar.addi v43 c6_i32_189
  let v545 : Index := Scalar.indexCast v544
  let c64_190 : Index := 64#32
  ![v545.toNat, 64]
def k0_off316 (k0_t5 : Fin k0_t5_loop.trips) : Fin 2 → Nat :=
  let c0_i32_35 : BitVec 32 := 0#32
  let c1_i32_37 : BitVec 32 := 1#32
  let arg12 : BitVec 32 := Scf.iv c0_i32_35 c1_i32_37 k0_t5
  let c8_i32 : BitVec 32 := 8#32
  let v43 : BitVec 32 := Scalar.muli arg12 c8_i32
  let c6_i32_192 : BitVec 32 := 6#32
  let v553 : BitVec 32 := Scalar.addi v43 c6_i32_192
  let v554 : Index := Scalar.indexCast v553
  let c80_193 : Index := 80#32
  ![v554.toNat, 80]
def k0_off317 (k0_t5 : Fin k0_t5_loop.trips) : Fin 2 → Nat :=
  let c0_i32_35 : BitVec 32 := 0#32
  let c1_i32_37 : BitVec 32 := 1#32
  let arg12 : BitVec 32 := Scf.iv c0_i32_35 c1_i32_37 k0_t5
  let c8_i32 : BitVec 32 := 8#32
  let v43 : BitVec 32 := Scalar.muli arg12 c8_i32
  let c6_i32_195 : BitVec 32 := 6#32
  let v562 : BitVec 32 := Scalar.addi v43 c6_i32_195
  let v563 : Index := Scalar.indexCast v562
  let c96_196 : Index := 96#32
  ![v563.toNat, 96]
def k0_off318 (k0_t5 : Fin k0_t5_loop.trips) : Fin 2 → Nat :=
  let c0_i32_35 : BitVec 32 := 0#32
  let c1_i32_37 : BitVec 32 := 1#32
  let arg12 : BitVec 32 := Scf.iv c0_i32_35 c1_i32_37 k0_t5
  let c8_i32 : BitVec 32 := 8#32
  let v43 : BitVec 32 := Scalar.muli arg12 c8_i32
  let c6_i32_198 : BitVec 32 := 6#32
  let v571 : BitVec 32 := Scalar.addi v43 c6_i32_198
  let v572 : Index := Scalar.indexCast v571
  let c112_199 : Index := 112#32
  ![v572.toNat, 112]
def k0_off319 (v577 : BitVec 32) (c0_i32_200 : BitVec 32) : Fin 1 → Nat :=
  let v578 : BitVec 32 := Scalar.addi v577 c0_i32_200
  let v579 : Index := Scalar.indexCast v578
  ![v579.toNat]

def k0_chk63 (v577 : BitVec 32) : Prop :=
  (∀ (r : Fin 4), ∀ a, (k0_off319 v577 (BitVec.ofNat 32 (16 * r.val))) a + S16.size a ≤ S448.size a)
theorem k0_off319_inb : ∀ (v577 : BitVec 32) (k0_hw63 : k0_chk63 v577), ∀ (r : Fin 4), ∀ a, (k0_off319 v577 (BitVec.ofNat 32 (16 * r.val))) a + S16.size a ≤ S448.size a := fun v577 k0_hw63 r => k0_hw63 r

def k0_off320 (k0_t5 : Fin k0_t5_loop.trips) : Fin 2 → Nat :=
  let c0_i32_35 : BitVec 32 := 0#32
  let c1_i32_37 : BitVec 32 := 1#32
  let arg12 : BitVec 32 := Scf.iv c0_i32_35 c1_i32_37 k0_t5
  let c8_i32 : BitVec 32 := 8#32
  let v43 : BitVec 32 := Scalar.muli arg12 c8_i32
  let c7_i32_201 : BitVec 32 := 7#32
  let v582 : BitVec 32 := Scalar.addi v43 c7_i32_201
  let v583 : Index := Scalar.indexCast v582
  let c0_202 : Index := 0#32
  ![v583.toNat, 0]
def k0_off321 (k0_t5 : Fin k0_t5_loop.trips) : Fin 2 → Nat :=
  let c0_i32_35 : BitVec 32 := 0#32
  let c1_i32_37 : BitVec 32 := 1#32
  let arg12 : BitVec 32 := Scf.iv c0_i32_35 c1_i32_37 k0_t5
  let c8_i32 : BitVec 32 := 8#32
  let v43 : BitVec 32 := Scalar.muli arg12 c8_i32
  let c7_i32_204 : BitVec 32 := 7#32
  let v591 : BitVec 32 := Scalar.addi v43 c7_i32_204
  let v592 : Index := Scalar.indexCast v591
  let c16_205 : Index := 16#32
  ![v592.toNat, 16]
def k0_off322 (k0_t5 : Fin k0_t5_loop.trips) : Fin 2 → Nat :=
  let c0_i32_35 : BitVec 32 := 0#32
  let c1_i32_37 : BitVec 32 := 1#32
  let arg12 : BitVec 32 := Scf.iv c0_i32_35 c1_i32_37 k0_t5
  let c8_i32 : BitVec 32 := 8#32
  let v43 : BitVec 32 := Scalar.muli arg12 c8_i32
  let c7_i32_207 : BitVec 32 := 7#32
  let v600 : BitVec 32 := Scalar.addi v43 c7_i32_207
  let v601 : Index := Scalar.indexCast v600
  let c32_208 : Index := 32#32
  ![v601.toNat, 32]
def k0_off323 (k0_t5 : Fin k0_t5_loop.trips) : Fin 2 → Nat :=
  let c0_i32_35 : BitVec 32 := 0#32
  let c1_i32_37 : BitVec 32 := 1#32
  let arg12 : BitVec 32 := Scf.iv c0_i32_35 c1_i32_37 k0_t5
  let c8_i32 : BitVec 32 := 8#32
  let v43 : BitVec 32 := Scalar.muli arg12 c8_i32
  let c7_i32_210 : BitVec 32 := 7#32
  let v609 : BitVec 32 := Scalar.addi v43 c7_i32_210
  let v610 : Index := Scalar.indexCast v609
  let c48_211 : Index := 48#32
  ![v610.toNat, 48]
def k0_off324 (v615 : BitVec 32) (c0_i32_212 : BitVec 32) : Fin 1 → Nat :=
  let v616 : BitVec 32 := Scalar.addi v615 c0_i32_212
  let v617 : Index := Scalar.indexCast v616
  ![v617.toNat]

def k0_chk64 (v615 : BitVec 32) : Prop :=
  (∀ (r : Fin 4), ∀ a, (k0_off324 v615 (BitVec.ofNat 32 (16 * r.val))) a + S16.size a ≤ S448.size a)
theorem k0_off324_inb : ∀ (v615 : BitVec 32) (k0_hw64 : k0_chk64 v615), ∀ (r : Fin 4), ∀ a, (k0_off324 v615 (BitVec.ofNat 32 (16 * r.val))) a + S16.size a ≤ S448.size a := fun v615 k0_hw64 r => k0_hw64 r

def k0_off325 (k0_t5 : Fin k0_t5_loop.trips) : Fin 2 → Nat :=
  let c0_i32_35 : BitVec 32 := 0#32
  let c1_i32_37 : BitVec 32 := 1#32
  let arg12 : BitVec 32 := Scf.iv c0_i32_35 c1_i32_37 k0_t5
  let c8_i32 : BitVec 32 := 8#32
  let v43 : BitVec 32 := Scalar.muli arg12 c8_i32
  let c7_i32_213 : BitVec 32 := 7#32
  let v620 : BitVec 32 := Scalar.addi v43 c7_i32_213
  let v621 : Index := Scalar.indexCast v620
  let c64_214 : Index := 64#32
  ![v621.toNat, 64]
def k0_off326 (k0_t5 : Fin k0_t5_loop.trips) : Fin 2 → Nat :=
  let c0_i32_35 : BitVec 32 := 0#32
  let c1_i32_37 : BitVec 32 := 1#32
  let arg12 : BitVec 32 := Scf.iv c0_i32_35 c1_i32_37 k0_t5
  let c8_i32 : BitVec 32 := 8#32
  let v43 : BitVec 32 := Scalar.muli arg12 c8_i32
  let c7_i32_216 : BitVec 32 := 7#32
  let v629 : BitVec 32 := Scalar.addi v43 c7_i32_216
  let v630 : Index := Scalar.indexCast v629
  let c80_217 : Index := 80#32
  ![v630.toNat, 80]
def k0_off327 (k0_t5 : Fin k0_t5_loop.trips) : Fin 2 → Nat :=
  let c0_i32_35 : BitVec 32 := 0#32
  let c1_i32_37 : BitVec 32 := 1#32
  let arg12 : BitVec 32 := Scf.iv c0_i32_35 c1_i32_37 k0_t5
  let c8_i32 : BitVec 32 := 8#32
  let v43 : BitVec 32 := Scalar.muli arg12 c8_i32
  let c7_i32_219 : BitVec 32 := 7#32
  let v638 : BitVec 32 := Scalar.addi v43 c7_i32_219
  let v639 : Index := Scalar.indexCast v638
  let c96_220 : Index := 96#32
  ![v639.toNat, 96]
def k0_off328 (k0_t5 : Fin k0_t5_loop.trips) : Fin 2 → Nat :=
  let c0_i32_35 : BitVec 32 := 0#32
  let c1_i32_37 : BitVec 32 := 1#32
  let arg12 : BitVec 32 := Scf.iv c0_i32_35 c1_i32_37 k0_t5
  let c8_i32 : BitVec 32 := 8#32
  let v43 : BitVec 32 := Scalar.muli arg12 c8_i32
  let c7_i32_222 : BitVec 32 := 7#32
  let v647 : BitVec 32 := Scalar.addi v43 c7_i32_222
  let v648 : Index := Scalar.indexCast v647
  let c112_223 : Index := 112#32
  ![v648.toNat, 112]
def k0_off329 (i : grid0.Coords) (k0_t3 : Fin k0_t3_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12800_i32 : BitVec 32 := 12800#32
  let v2 : BitVec 32 := Scalar.muli v1 c12800_i32
  let c2_i32_20 : BitVec 32 := 2#32
  let c1_i32_13 : BitVec 32 := 1#32
  let c1_i32_14 : BitVec 32 := 1#32
  let arg11 : BitVec 32 := Scf.iv c1_i32_13 c1_i32_14 k0_t3
  let v16 : BitVec 32 := Scalar.muli c2_i32_20 arg11
  let c1_i32_33 : BitVec 32 := 1#32
  let v26 : BitVec 32 := Scalar.addi v16 c1_i32_33
  let c256_i32_39 : BitVec 32 := 256#32
  let v28 : BitVec 32 := Scalar.muli v26 c256_i32_39
  let v29 : BitVec 32 := Scalar.addi v2 v28
  let c0_i32_40 : BitVec 32 := 0#32
  ![v29.toNat, 0]
def k0_off330 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12800_i32 : BitVec 32 := 12800#32
  let v2 : BitVec 32 := Scalar.muli v1 c12800_i32
  let c0_i32_16 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x200 : Shape := ⟨2, ![4096, 200]⟩
abbrev S7x64 : Shape := ⟨2, ![7, 64]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x64 : Shape := ⟨3, ![4096, 200, 64]⟩
abbrev S4096x12800 : Shape := ⟨2, ![4096, 12800]⟩

abbrev nBuf : Space → Nat
  | .hbm => 26
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S7x64, .f32⟩
  | .hbm, ⟨2, _⟩ => ⟨S_, .i32⟩
  | .hbm, ⟨3, _⟩ => ⟨S4096x200, .i32⟩
  | .hbm, ⟨4, _⟩ => ⟨S4096x200, .i1⟩
  | .hbm, ⟨5, _⟩ => ⟨S_, .i32⟩
  | .hbm, ⟨6, _⟩ => ⟨S4096x200, .i32⟩
  | .hbm, ⟨7, _⟩ => ⟨S4096x200, .i32⟩
  | .hbm, ⟨8, _⟩ => ⟨S4096x200, .i32⟩
  | .hbm, ⟨9, _⟩ => ⟨S4096x200x1, .i32⟩
  | .hbm, ⟨10, _⟩ => ⟨S1, .i32⟩
  | .hbm, ⟨11, _⟩ => ⟨S_, .i32⟩
  | .hbm, ⟨12, _⟩ => ⟨S4096x200x1, .i32⟩
  | .hbm, ⟨13, _⟩ => ⟨S4096x200x1, .i1⟩
  | .hbm, ⟨14, _⟩ => ⟨S1x1x1, .i32⟩
  | .hbm, ⟨15, _⟩ => ⟨S4096x200x1, .i32⟩
  | .hbm, ⟨16, _⟩ => ⟨S4096x200x1, .i1⟩
  | .hbm, ⟨17, _⟩ => ⟨S4096x200x1, .i1⟩
  | .hbm, ⟨18, _⟩ => ⟨S_, .i1⟩
  | .hbm, ⟨19, _⟩ => ⟨S4096x200, .i1⟩
  | .hbm, ⟨20, _⟩ => ⟨S4096x200x64, .f32⟩
  | .hbm, ⟨21, _⟩ => ⟨S4096x200x64, .i1⟩
  | .hbm, ⟨22, _⟩ => ⟨S_, .f32⟩
  | .hbm, ⟨23, _⟩ => ⟨S4096x200x64, .f32⟩
  | .hbm, ⟨24, _⟩ => ⟨S4096x200x64, .f32⟩
  | .hbm, ⟨25, _⟩ => ⟨S4096x12800, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_v1 : Ref sig .tc := ⟨.hbm, 25, rfl⟩

abbrev nD : Nat := 1
abbrev τ : Topo := Topo.v7x

variable {F : FTy → Type} [FloatOps F]
-- ==== Proof.Same.lean ====
/-
  The two programs of the kernel are one text.
-/
module

public import proofs.«01_k».proof.Defs
public import proofs.«01_k».proof.Proof.Gen.KernelIdeal
public import proofs.«01_k».proof.Proof.Gen.Kernel

@[expose] public section

noncomputable section

namespace Cert.Proof.Same

open Idealize.ShloMosaic

set_option maxRecDepth 65536 in
set_option maxHeartbeats 4000000 in
theorem defs_same : Cert.Kernel.defs (F := Bits) = Cert.KernelIdeal.defs (F := Bits) := rfl

set_option maxRecDepth 65536 in
set_option maxHeartbeats 4000000 in
theorem threads_same : Cert.Kernel.threads (F := Bits) = Cert.KernelIdeal.threads (F := Bits) := rfl

end Cert.Proof.Same

end
-- ==== Proof.Trip.lean ====
/-
  One trip of the kernel's inner loops, written once: the four loops that fill a bank run the same sixty-four copies of
  sixteen lanes each, over a bank, a row of the words and a trip number. Here the trip is a program of its own over
  those, and each of the four printed bodies is shown to be it.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Expand

open Cert.KernelIdeal Cert.KernelIdeal.Gen

open Idealize.ShloMosaic
open Idealize.SL Idealize.SL.Sem

variable {F : FTy → Type} [FloatOps F]

/-- Where a trip reads its sixteen words: row `base + w / 8` of the words, from lane `16 (w % 8)`. -/
abbrev wordOff (base w : BitVec 32) : Fin 2 → Nat :=
  ![(Scalar.indexCast (Scalar.addi base (Scalar.shrui w 3#32))).toNat,
    (Scalar.indexCast (Scalar.shli (Scalar.andi w 7#32) 4#32)).toNat]

/-- Where chunk `k` of word `u` of trip `w` goes in the bank. -/
abbrev bankOff (w : BitVec 32) (u k : ℕ) : Fin 2 → Nat :=
  ![(Scalar.indexCast (Scalar.addi (Scalar.muli w 8#32) (BitVec.ofNat 32 (u / 2)))).toNat, (u % 2) * 64 + 16 * k]

/-- Sixteen lanes, laid as a row of one. -/
abbrev asRow (v : Vec F S16 .f32) : FVec F S1x16 .f32 :=
  shapeCast S1x16 (shapeCast S16 v shapeCasts_S16_S16 : FVec F S16 .f32) shapeCasts_S16_S1x16

/-- The sixteen words of a trip, each as the place in the table where its row starts. -/
abbrev starts (x : Vec F S1x16 .i32) : IVec S16 32 :=
  shli (shapeCast S16 x shapeCasts_S1x16_S16 : IVec S16 32) (broadcast S16 6#32)

theorem laneSlices (u : Fin 16) : S16.Slices ![u.val] S1 := by
  revert u; decide

/-- The start of word `u`. -/
abbrev startOf (v : IVec S16 32) (u : Fin 16) : BitVec 32 :=
  extractAt ![0] (extractStridedSlice S1 ![u.val] v (laneSlices u) : IVec S1 32) inpos_S1_p0

/-- Programs of the vector subcore at `i`. -/
abbrev TileProg (F : FTy → Type) (i : grid0.Coords) : Type → Type _ :=
  Prog (TpuEff nD τ sig (Elt F) Λ₀ (.scVector ((i 0).castLE hcore0) ((i 1).castLE hsub0)))

section

variable (i : grid0.Coords)
  (tab : Memref sig .scVector .vmem S448 .f32) (wds : Memref sig .scVector .vmem S200x128 .i32)
  (bank : Memref sig .scVector .vmem S256x128 .f32)

/-- The bank's chunks of trip `w` lie inside the bank. -/
abbrev BankOK (w : BitVec 32) : Prop :=
  ∀ (u : Fin 16) (k : Fin 4), ∀ a, bankOff w u.val k.val a + S1x16.size a ≤ S256x128.size a

/-- Chunk `k` of word `u`, whose row starts at `v` of the table. -/
def chunk (w : BitVec 32) (hb : BankOK w) (u : Fin 16) (v : BitVec 32) (hv : k0_chk1 v) (k : Fin 4) : TileProg F i Unit := do
  let t : Vec F S16 .f32 ← Prog.lift (.load tab (Rect.unit (s := S448) (k0_off3 v (BitVec.ofNat 32 (16 * k.val))) S16.size
    (k0_off3_inb v hv k)).toLoadRect (View.loadsAt_vmem h_S16))
  let _ : Vec F S1x16 .f32 ← Prog.lift (.load bank (Rect.unit (s := S256x128) (bankOff w u.val k.val) S1x16.size (hb u k)).toLoadRect
    (View.loadsAt_vmem h_S1x16))
  Prog.lift (.store bank (Rect.unit (s := S256x128) (bankOff w u.val k.val) S1x16.size (hb u k)) (asRow t) Finset.univ
    (View.stores_vmem_bits_univ h_S1x16 rfl) (.inl rfl))

/-- Word `u`: its four chunks. -/
def word (w : BitVec 32) (hb : BankOK w) (vs : IVec S16 32) (u : Fin 16) : TileProg F i Unit := do
  let hv ← Prog.lift (TpuEff.assume (k0_chk1 (startOf vs u)) (k0_chk1.dec (startOf vs u)))
  chunk i tab bank w hb u (startOf vs u) hv.down 0
  chunk i tab bank w hb u (startOf vs u) hv.down 1
  chunk i tab bank w hb u (startOf vs u) hv.down 2
  chunk i tab bank w hb u (startOf vs u) hv.down 3

/-- The first `n` words of a trip. -/
def words (w : BitVec 32) (hb : BankOK w) (vs : IVec S16 32) : (n : ℕ) → n ≤ 16 → TileProg F i Unit
  | 0, _ => pure ⟨⟩
  | n + 1, h => do
    words w hb vs n (Nat.le_of_succ_le h)
    word i tab bank w hb vs ⟨n, h⟩

/-- A trip: sixteen words read, and their rows of the table copied into the bank. -/
def trip (base w : BitVec 32) (hx : ∀ a, wordOff base w a + S1x16.size a ≤ S200x128.size a) (hb : BankOK w) : TileProg F i Unit := do
  let x : Vec F S1x16 .i32 ← Prog.lift (.load wds (Rect.unit (s := S200x128) (wordOff base w) S1x16.size hx).toLoadRect
    (View.loadsAt_vmem h_S1x16))
  words i tab bank w hb (starts x) 16 (le_refl _)

end

/-- Every chunk of a trip of a thirty-two trip loop lies inside the bank. -/
theorem bankOK (t : Fin 32) : BankOK (Scf.iv 0#32 1#32 t) := by
  revert t; decide +kernel

/-! ## The four printed bodies -/

section

variable (i : grid0.Coords)
  (arg2 : Memref sig .scVector .hbm S448 .f32) (harg2 : arg2.IsWhole)
  (arg3 : Memref sig .scVector .hbm S32x200x128 .i32) (harg3 : arg3.IsWhole)
  (arg4 : Memref sig .scVector .hbm S409600x128 .f32) (harg4 : arg4.IsWhole)
  (arg5 : Memref sig .scVector .vmem S448 .f32) (harg5 : arg5.IsWhole)
  (arg6 : Memref sig .scVector .vmem S200x128 .i32) (harg6 : arg6.IsWhole)
  (arg7 : Memref sig .scVector .vmem S256x128 .f32) (harg7 : arg7.IsWhole)
  (arg8 : Memref sig .scVector .vmem S256x128 .f32) (harg8 : arg8.IsWhole)
  (arg9 arg10 v16_r0 v16_r1 : DmaSems sig S_)

set_option maxRecDepth 65536 in
set_option maxHeartbeats 4000000 in
/-- The first loop fills the first bank with group 0. -/
theorem t1_trip (t : Fin k0_t1_loop.trips) :
    k0_t1_body (F := F) i arg2 harg2 arg3 harg3 arg4 harg4 arg5 harg5 arg6 harg6 arg7 harg7 arg8 harg8 arg9 arg10 v16_r0 v16_r1 t ()
      = trip (F := F) i arg5 arg6 arg7 0#32 (Scf.iv 0#32 1#32 t) (k0_off2_inb t) (bankOK t) := by
  simp only [trip, words, word, chunk, k0_t1_body,
    k0_part1_eq_skeleton, k0_part1_skel, k0_part2_eq_skeleton, k0_part2_skel, k0_part3_eq_skeleton, k0_part3_skel,
    k0_part4_eq_skeleton, k0_part4_skel, k0_part5_eq_skeleton, k0_part5_skel, k0_part6_eq_skeleton, k0_part6_skel,
    k0_part7_eq_skeleton, k0_part7_skel, k0_part8_eq_skeleton, k0_part8_skel, k0_part9_eq_skeleton, k0_part9_skel,
    k0_part10_eq_skeleton, k0_part10_skel, k0_part11_eq_skeleton, k0_part11_skel, k0_part12_eq_skeleton,
    k0_part12_skel, k0_part13_eq_skeleton, k0_part13_skel, k0_part14_eq_skeleton, k0_part14_skel,
    k0_part15_eq_skeleton, k0_part15_skel, Prog.lift, Prog.bind_op, Prog.bind_ret, Prog.pure_eq_ret]
  rfl

set_option maxRecDepth 65536 in
set_option maxHeartbeats 4000000 in
/-- The second loop fills the second bank with group 1. -/
theorem t2_trip (t : Fin k0_t2_loop.trips) :
    k0_t2_body (F := F) i arg2 harg2 arg3 harg3 arg4 harg4 arg5 harg5 arg6 harg6 arg7 harg7 arg8 harg8 arg9 arg10 v16_r0 v16_r1 t ()
      = trip (F := F) i arg5 arg6 arg8 4#32 (Scf.iv 0#32 1#32 t) (k0_off84_inb t) (bankOK t) := by
  simp only [trip, words, word, chunk, k0_t2_body,
    k0_part16_eq_skeleton, k0_part16_skel, k0_part17_eq_skeleton, k0_part17_skel, k0_part18_eq_skeleton,
    k0_part18_skel, k0_part19_eq_skeleton, k0_part19_skel, k0_part20_eq_skeleton, k0_part20_skel,
    k0_part21_eq_skeleton, k0_part21_skel, k0_part22_eq_skeleton, k0_part22_skel, k0_part23_eq_skeleton,
    k0_part23_skel, k0_part24_eq_skeleton, k0_part24_skel, k0_part25_eq_skeleton, k0_part25_skel,
    k0_part26_eq_skeleton, k0_part26_skel, k0_part27_eq_skeleton, k0_part27_skel, k0_part28_eq_skeleton,
    k0_part28_skel, k0_part29_eq_skeleton, k0_part29_skel, k0_part30_eq_skeleton, k0_part30_skel, Prog.lift,
    Prog.bind_op, Prog.bind_ret, Prog.pure_eq_ret]
  rfl

set_option maxRecDepth 65536 in
set_option maxHeartbeats 4000000 in
/-- The steady loop's first fill: the first bank, an even group. -/
theorem t4_trip (g : Fin k0_t3_loop.trips) (t : Fin k0_t4_loop.trips) :
    k0_t4_body (F := F) i arg2 harg2 arg3 harg3 arg4 harg4 arg5 harg5 arg6 harg6 arg7 harg7 arg8 harg8 arg9 arg10 v16_r0 v16_r1 g (Scalar.muli 2#32 (Scf.iv 1#32 1#32 g)) t ()
      = trip (F := F) i arg5 arg6 arg7 (Scalar.muli (Scalar.muli 2#32 (Scf.iv 1#32 1#32 g)) 4#32) (Scf.iv 0#32 1#32 t) (k0_off166_inb g t) (bankOK t) := by
  simp only [trip, words, word, chunk, k0_t4_body,
    k0_part31_eq_skeleton, k0_part31_skel, k0_part32_eq_skeleton, k0_part32_skel, k0_part33_eq_skeleton,
    k0_part33_skel, k0_part34_eq_skeleton, k0_part34_skel, k0_part35_eq_skeleton, k0_part35_skel,
    k0_part36_eq_skeleton, k0_part36_skel, k0_part37_eq_skeleton, k0_part37_skel, k0_part38_eq_skeleton,
    k0_part38_skel, k0_part39_eq_skeleton, k0_part39_skel, k0_part40_eq_skeleton, k0_part40_skel,
    k0_part41_eq_skeleton, k0_part41_skel, k0_part42_eq_skeleton, k0_part42_skel, k0_part43_eq_skeleton,
    k0_part43_skel, k0_part44_eq_skeleton, k0_part44_skel, k0_part45_eq_skeleton, k0_part45_skel, Prog.lift,
    Prog.bind_op, Prog.bind_ret, Prog.pure_eq_ret]
  rfl

set_option maxRecDepth 65536 in
set_option maxHeartbeats 4000000 in
/-- The steady loop's second fill: the second bank, an odd group. -/
theorem t5_trip (g : Fin k0_t3_loop.trips) (t : Fin k0_t5_loop.trips) :
    k0_t5_body (F := F) i arg2 harg2 arg3 harg3 arg4 harg4 arg5 harg5 arg6 harg6 arg7 harg7 arg8 harg8 arg9 arg10 v16_r0 v16_r1 g (Scalar.addi (Scalar.muli 2#32 (Scf.iv 1#32 1#32 g)) 1#32) t ()
      = trip (F := F) i arg5 arg6 arg8 (Scalar.muli (Scalar.addi (Scalar.muli 2#32 (Scf.iv 1#32 1#32 g)) 1#32) 4#32) (Scf.iv 0#32 1#32 t) (k0_off248_inb g t) (bankOK t) := by
  simp only [trip, words, word, chunk, k0_t5_body,
    k0_part46_eq_skeleton, k0_part46_skel, k0_part47_eq_skeleton, k0_part47_skel, k0_part48_eq_skeleton,
    k0_part48_skel, k0_part49_eq_skeleton, k0_part49_skel, k0_part50_eq_skeleton, k0_part50_skel,
    k0_part51_eq_skeleton, k0_part51_skel, k0_part52_eq_skeleton, k0_part52_skel, k0_part53_eq_skeleton,
    k0_part53_skel, k0_part54_eq_skeleton, k0_part54_skel, k0_part55_eq_skeleton, k0_part55_skel,
    k0_part56_eq_skeleton, k0_part56_skel, k0_part57_eq_skeleton, k0_part57_skel, k0_part58_eq_skeleton,
    k0_part58_skel, k0_part59_eq_skeleton, k0_part59_skel, k0_part60_eq_skeleton, k0_part60_skel, Prog.lift,
    Prog.bind_op, Prog.bind_ret, Prog.pure_eq_ret]
  rfl

end

end Cert.Proof.Expand

end
-- ==== Proof.Setup.lean ====
/-
  What the proof of the launch is stated over: the program as the launch theorem sees it, the resource algebra, and the
  arrays by location.
-/
module

public import proofs.«01_k».proof.Proof.Trip
public import Idealize.ShloMosaic.Lib.ValueIdxCore
public import Idealize.ShloMosaic.Lib.Pipeline.Value

@[expose] public section

noncomputable section

namespace Cert.Proof.Expand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the copies' counters -/

abbrev UH : Type := URounds (GSem nD τ sig) ℕ
abbrev UU : Type := UH × Counters

/-- The assertions of this proof range over this model. -/
abbrev MM (F : FTy → Type) : Type _ := MT nD τ sig (HIx 1) (Elt F) ℕ UU ℕ

abbrev EH : Emb UH (MM F) := embL

/-! ## The processor a tile runs on -/

abbrev cV (i : grid0.Coords) : Fin τ.nSC := (i 0).castLE hcore0
abbrev jV (i : grid0.Coords) : Fin τ.nSub := (i 1).castLE hsub0
abbrev tile (d : Dev nD) (i : grid0.Coords) : Thread nD τ := V d (cV i) (jV i)

end Cert.Proof.Expand

end
-- ==== Proof.Fill.lean ====
/-
  What filling a bank does: after a thirty-two trip loop the bank holds, row by row, the table's rows at the words of
  one group. Stated over a counter of chunks (sixteen lanes each), two thousand and forty-eight to a bank.
-/
module

public import proofs.«01_k».proof.Proof.Setup

@[expose] public section

noncomputable section

namespace Cert.Proof.Expand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3 eq_ix1 eq_ix2 eq_ix3)

variable {F : FTy → Type}

/-! ## The values -/

section Values

variable (T : S448.Idx → Elt F .f32) (X : S200x128.Idx → BitVec 32)

/-- Element `n` of the table. -/
def tabAt (n : ℕ) : Elt F .f32 := T (ix1 ⟨n % 448, Nat.mod_lt _ (by decide)⟩)

/-- The word at row `r`, lane `c`. -/
def wordAt (r c : ℕ) : BitVec 32 := X (ix2 ⟨r % 200, Nat.mod_lt _ (by decide)⟩ ⟨c % 128, Nat.mod_lt _ (by decide)⟩)

/-- What the bank of the group whose words start at row `b` holds at `(r, l)`: lane `l % 64` of the table's row at
    the group's word `2 r + l / 64`. -/
def bankVal (b r l : ℕ) : Elt F .f32 :=
  tabAt T ((wordAt X (b + (2 * r + l / 64) / 128) ((2 * r + l / 64) % 128)).toNat * 64 + l % 64)

/-- The first `n` chunks of the bank are in place. -/
def Filled (b n : ℕ) (B : S256x128.Idx → Elt F .f32) : Prop :=
  ∀ y : S256x128.Idx, (y 0).val * 8 + (y 1).val / 16 < n → B y = bankVal T X b (y 0).val (y 1).val

theorem Filled.zero (b : ℕ) (B : S256x128.Idx → Elt F .f32) : Filled T X b 0 B := fun _ h => absurd h (Nat.not_lt_zero _)

theorem Filled.full {b : ℕ} {B : S256x128.Idx → Elt F .f32} (h : Filled T X b 2048 B) (y : S256x128.Idx) :
    B y = bankVal T X b (y 0).val (y 1).val :=
  h y (by have h0 : (y 0).val < 256 := (y 0).isLt; have h1 : (y 1).val < 128 := (y 1).isLt; omega)

end Values

/-! ## One chunk -/

variable [FloatOps F]

theorem asRow_apply (t : Vec F S16 .f32) (j : S1x16.Idx) : asRow t j = t (ix1 (j 1)) := by
  unfold asRow
  rw [shapeCast_self]
  exact shapeCast_apply _ _ _ _ (by
    have h0 : (j 0).val < 1 := (j 0).isLt
    rw [Shape.rowMajor_val_one, Shape.rowMajor_val_two]
    show (j 1).val = (j 0).val * 16 + (j 1).val
    omega)

/-! ## Where a chunk comes from and goes -/

theorem off3_zero (v : BitVec 32) (k : Fin 4) (hlt : v.toNat + 64 ≤ 448) :
    k0_off3 v (BitVec.ofNat 32 (16 * k.val)) 0 = v.toNat + 16 * k.val := by
  show (v + BitVec.ofNat 32 (16 * k.val)).toNat = _
  have hk := k.isLt
  rw [BitVec.toNat_add, BitVec.toNat_ofNat]
  omega

theorem chk_of_lt {v : BitVec 32} (hlt : v.toNat + 64 ≤ 448) : k0_chk1 v := by
  intro k a
  obtain rfl : a = 0 := Subsingleton.elim _ _
  rw [off3_zero v k hlt]
  have hk := k.isLt
  show v.toNat + 16 * k.val + 16 ≤ 448
  omega

theorem bankOff_row (t : Fin 32) (u : Fin 16) (k : Fin 4) :
    bankOff (Scf.iv 0#32 1#32 t) u.val k.val 0 = 8 * t.val + u.val / 2 := by
  show (Scf.iv 0#32 1#32 t * 8#32 + BitVec.ofNat 32 (u.val / 2)).toNat = _
  revert t u; decide +kernel

theorem startOf_apply (vs : IVec S16 32) (u : Fin 16) : startOf vs u = vs (ix1 u) := by
  unfold startOf
  exact extractStridedSlice_apply _ _ _ _ _ fun a => by
    obtain rfl : a = 0 := Subsingleton.elim _ _
    rfl

/-- The vector holds, lane by lane, where the rows of the trip's sixteen words start in the table. -/
def StartsOf (X : S200x128.Idx → BitVec 32) (b : ℕ) (t : Fin 32) (vs : IVec S16 32) : Prop :=
  ∀ u : Fin 16, (vs (ix1 u)).toNat = (wordAt X (b + t.val / 8) (t.val % 8 * 16 + u.val)).toNat * 64

theorem shift_six (x : BitVec 32) (h : x.toNat < 7) : (IntOp.shli .vector x 6#32).toNat = x.toNat * 64 := by
  unfold IntOp.shli
  rw [if_pos (by decide), BitVec.shiftLeft_eq', BitVec.toNat_shiftLeft, Nat.shiftLeft_eq]
  show x.toNat * 2 ^ 6 % 2 ^ 32 = _
  omega

theorem rowOf_trip (t : Fin 32) : (Scalar.shrui (Scf.iv 0#32 1#32 t) 3#32).toNat = t.val / 8 := by
  revert t; decide +kernel

theorem laneOf_trip (t : Fin 32) : (Scalar.shli (Scalar.andi (Scf.iv 0#32 1#32 t) 7#32) 4#32).toNat = t.val % 8 * 16 := by
  revert t; decide +kernel

section Chunk

variable (d : Dev nD) (i : grid0.Coords)
  (tab : Memref sig .scVector .vmem S448 .f32) (wds : Memref sig .scVector .vmem S200x128 .i32)
  (bank : Memref sig .scVector .vmem S256x128 .f32)

/-- The bank with its first `n` chunks in place. -/
def bankPts (T : S448.Idx → Elt F .f32) (X : S200x128.Idx → BitVec 32) (b n : ℕ) : sProp (MM F) :=
  iprop(∃ f, ⌜Filled T X b n (bank.view.read (Elt F) f)⌝ ∗ (bank.view.loc (tile d i) ↦{fullShare} f))

variable {d i tab wds bank}

theorem filled_write {T : S448.Idx → Elt F .f32} {X : S200x128.Idx → BitVec 32} {b n : ℕ} {off : Fin 2 → ℕ}
    (hb : ∀ a, off a + S1x16.size a ≤ S256x128.size a) (h0 : off 0 = n / 8) (h1 : off 1 = n % 8 * 16)
    {f : bank.view.ty.Contents (Elt F)} (hf : Filled T X b n (bank.view.read (Elt F) f))
    (t : FVec F S1x16 .f32) (ht : ∀ j : S1x16.Idx, t j = bankVal T X b (n / 8) (n % 8 * 16 + (j 1).val)) :
    Filled T X b (n + 1) (bank.view.read (Elt F)
      ((bank.access (Rect.unit (s := S256x128) off S1x16.size hb)).write (Elt F) f t Finset.univ)) := by
  intro y hy
  have y1 : (y 1).val < 128 := (y 1).isLt
  by_cases hm : (y 0).val * 8 + (y 1).val / 16 = n
  · have e0 : (y 0).val = n / 8 := by omega
    have e1 : n % 8 * 16 ≤ (y 1).val ∧ (y 1).val - n % 8 * 16 < 16 := by omega
    have hx : (Rect.unit (s := S256x128) off S1x16.size hb).emb (ix2 ⟨0, Nat.one_pos⟩ ⟨(y 1).val - n % 8 * 16, e1.2⟩) = y := by
      funext a
      apply Fin.ext
      refine (LoadRect.idx_apply _ _ _).trans ?_
      fin_cases a
      · show off 0 + 1 * 0 = (y 0).val
        omega
      · show off 1 + 1 * ((y 1).val - n % 8 * 16) = (y 1).val
        omega
    rw [← hx]
    refine (View.read_slice_write_emb (Val := Elt F) (v := bank.view) (Rect.unit (s := S256x128) off S1x16.size hb) f t (Finset.mem_univ _)).trans ?_
    rw [ht, hx, e0]
    show bankVal T X b (n / 8) (n % 8 * 16 + ((y 1).val - n % 8 * 16)) = _
    congr 1; omega
  · refine (View.read_slice_write_of_not_mem (Val := Elt F) (v := bank.view) (Rect.unit (s := S256x128) off S1x16.size hb) f t Finset.univ ?_).trans (hf y (by omega))
    intro hmem
    obtain ⟨x, -, rfl⟩ := Finset.mem_map.mp hmem
    apply hm
    have x0 : (x 0).val < 1 := (x 0).isLt
    have x1 : (x 1).val < 16 := (x 1).isLt
    have a0 : ((Rect.unit (s := S256x128) off S1x16.size hb).emb x 0).val = off 0 + 1 * (x 0).val := LoadRect.idx_apply _ _ _
    have a1 : ((Rect.unit (s := S256x128) off S1x16.size hb).emb x 1).val = off 1 + 1 * (x 1).val := LoadRect.idx_apply _ _ _
    rw [a0, a1]; omega

variable {q : PosShare TreeShare} {ft : Buf (Elt F) (tab.view.loc (tile d i))}
  {X : S200x128.Idx → BitVec 32} {b n : ℕ}

/-- A chunk puts one more in place. -/
theorem wp_chunk {w : BitVec 32} (hb : BankOK w) (u : Fin 16) (v : BitVec 32) (hv : k0_chk1 v) (k : Fin 4) (hlt : v.toNat + 64 ≤ 448)
    (h0 : bankOff w u.val k.val 0 = n / 8) (h1 : bankOff w u.val k.val 1 = n % 8 * 16)
    (ht : ∀ l : Fin 16, tabAt (tab.view.read (Elt F) ft) (v.toNat + 16 * k.val + l.val)
      = bankVal (tab.view.read (Elt F) ft) X b (n / 8) (n % 8 * 16 + l.val)) :
    iprop((tab.view.loc (tile d i) ↦{q} ft) ∗ bankPts d i bank (tab.view.read (Elt F) ft) X b n)
      ⊢ wp frame (wpE (defs₀ (F := F)) 𝒱₀ (tile d i) none) Set.univ (chunk i tab bank w hb u v hv k)
          fun _ => iprop((tab.view.loc (tile d i) ↦{q} ft) ∗ bankPts d i bank (tab.view.read (Elt F) ft) X b (n + 1)) := by
  unfold chunk
  simp only [Prog.lift, Prog.bind_op, Prog.bind_ret]
  unfold bankPts
  iintro ⟨Ht, %f, %hf, Hb⟩
  iapply (wp_load 𝒱₀ (tile d i) none Set.univ (m := tab) (S := Finset.univ) (Finset.subset_univ _)) $$ Ht
  iintro Ht
  iapply (wp_load 𝒱₀ (tile d i) none Set.univ (m := bank) (S := Finset.univ) (Finset.subset_univ _)) $$ Hb
  iintro Hb
  ihave Hb := (Entails.of_eq (show (bank.view.loc (tile d i) ↦{fullShare} f : sProp (MM F))
    = ((bank.access (Rect.unit (s := S256x128) (bankOff w u.val k.val) S1x16.size (hb u k))).loc (tile d i) ↦{fullShare} f) from rfl)) $$ Hb
  iapply (wp_store 𝒱₀ (tile d i) none Set.univ (m := bank) (r := Rect.unit (s := S256x128) (bankOff w u.val k.val) S1x16.size (hb u k)) (Mk := Finset.univ) (S := Finset.univ) (Finset.subset_univ _)) $$ Hb
  iintro Hb
  rw [wp_ret]
  imodintro
  isplitl [Ht]; · iexact Ht
  iexists _
  isplitr
  swap
  · iexact Hb
  ipureintro
  refine filled_write (hb u k) h0 h1 hf _ fun j => ?_
  rw [asRow_apply]
  refine Eq.trans ?_ (ht (j 1))
  rw [View.readAt_apply]
  unfold tabAt
  congr 1
  funext a
  fin_cases a
  apply Fin.ext
  refine (LoadRect.idx_apply _ _ _).trans ?_
  show k0_off3 v (BitVec.ofNat 32 (16 * k.val)) 0 + 1 * (j 1).val = (v.toNat + 16 * k.val + (j 1).val) % 448
  have hl : (j 1).val < 16 := (j 1).isLt
  have hk := k.isLt
  rw [off3_zero v k hlt]
  omega

/-- A word puts its four chunks in place. -/
theorem wp_word (t : Fin 32) {vs : IVec S16 32} (hvs : StartsOf X b t vs) (hX : ∀ r c, (wordAt X r c).toNat < 7) (u : Fin 16)
    (hn : n = 64 * t.val + 4 * u.val) :
    iprop((tab.view.loc (tile d i) ↦{q} ft) ∗ bankPts d i bank (tab.view.read (Elt F) ft) X b n)
      ⊢ wp frame (wpE (defs₀ (F := F)) 𝒱₀ (tile d i) none) Set.univ (word i tab bank (Scf.iv 0#32 1#32 t) (bankOK t) vs u)
          fun _ => iprop((tab.view.loc (tile d i) ↦{q} ft) ∗ bankPts d i bank (tab.view.read (Elt F) ft) X b (n + 4)) := by
  have hs : (startOf vs u).toNat = (wordAt X (b + t.val / 8) (t.val % 8 * 16 + u.val)).toNat * 64 := by
    rw [startOf_apply]; exact hvs u
  have h7 := hX (b + t.val / 8) (t.val % 8 * 16 + u.val)
  have hlt : (startOf vs u).toNat + 64 ≤ 448 := by omega
  have hv : k0_chk1 (startOf vs u) := chk_of_lt hlt
  have h0 : ∀ k : Fin 4, bankOff (Scf.iv 0#32 1#32 t) u.val k.val 0 = (n + k.val) / 8 := fun k => by
    rw [bankOff_row t u k]; have := k.isLt; omega
  have h1 : ∀ k : Fin 4, bankOff (Scf.iv 0#32 1#32 t) u.val k.val 1 = (n + k.val) % 8 * 16 := fun k => by
    show u.val % 2 * 64 + 16 * k.val = _; have := k.isLt; omega
  have ht : ∀ (k : Fin 4) (l : Fin 16), tabAt (tab.view.read (Elt F) ft) ((startOf vs u).toNat + 16 * k.val + l.val)
      = bankVal (tab.view.read (Elt F) ft) X b ((n + k.val) / 8) ((n + k.val) % 8 * 16 + l.val) := fun k l => by
    have hk := k.isLt; have hl := l.isLt; have hu := u.isLt; have ht := t.isLt
    unfold bankVal
    rw [hs, show b + (2 * ((n + k.val) / 8) + ((n + k.val) % 8 * 16 + l.val) / 64) / 128 = b + t.val / 8 by omega,
      show (2 * ((n + k.val) / 8) + ((n + k.val) % 8 * 16 + l.val) / 64) % 128 = t.val % 8 * 16 + u.val by omega,
      show ((n + k.val) % 8 * 16 + l.val) % 64 = 16 * k.val + l.val by omega, Nat.add_assoc]
  have step := fun k : Fin 4 => wp_chunk (d := d) (i := i) (tab := tab) (bank := bank) (q := q) (ft := ft) (X := X) (b := b)
    (bankOK t) u (startOf vs u) hv k hlt (h0 k) (h1 k) (ht k)
  unfold word
  simp only [Prog.lift, Prog.bind_op, Prog.bind_ret]
  rw [wp_assume_of 𝒱₀ _ none Set.univ hv, wp_bind, wp_bind, wp_bind]
  exact (step 0).trans (wp_mono frame _ _ fun _ => (step 1).trans (wp_mono frame _ _ fun _ => (step 2).trans
    (wp_mono frame _ _ fun _ => step 3)))

/-- The first `k` words of a trip put their chunks in place. -/
theorem wp_words (t : Fin 32) {vs : IVec S16 32} (hvs : StartsOf X b t vs) (hX : ∀ r c, (wordAt X r c).toNat < 7) (k : ℕ) (hk : k ≤ 16) :
    iprop((tab.view.loc (tile d i) ↦{q} ft) ∗ bankPts d i bank (tab.view.read (Elt F) ft) X b (64 * t.val))
      ⊢ wp frame (wpE (defs₀ (F := F)) 𝒱₀ (tile d i) none) Set.univ (words i tab bank (Scf.iv 0#32 1#32 t) (bankOK t) vs k hk)
          fun _ => iprop((tab.view.loc (tile d i) ↦{q} ft) ∗ bankPts d i bank (tab.view.read (Elt F) ft) X b (64 * t.val + 4 * k)) := by
  induction k with
  | zero =>
    unfold words
    rw [Prog.pure_eq_ret, wp_ret]
    iintro H; imodintro; iexact H
  | succ k ih =>
    unfold words
    rw [wp_bind]
    exact (ih (Nat.le_of_succ_le hk)).trans (wp_mono frame _ _ fun _ => wp_word t hvs hX ⟨k, hk⟩ rfl)

theorem startsOf_load {fx : Buf (Elt F) (wds.view.loc (tile d i))} (t : Fin 32) {base : BitVec 32}
    (hbase : base.toNat = b) (hb196 : b ≤ 196) (hx : ∀ a, wordOff base (Scf.iv 0#32 1#32 t) a + S1x16.size a ≤ S200x128.size a)
    (hX : ∀ r c, (wordAt (wds.view.read (Elt F) fx) r c).toNat < 7) :
    StartsOf (wds.view.read (Elt F) fx) b t (starts (F := F)
      (wds.view.readAt (Elt F) (Rect.unit (s := S200x128) (wordOff base (Scf.iv 0#32 1#32 t)) S1x16.size hx).toLoadRect fx)) := by
  intro u
  have hu := u.isLt; have ht := t.isLt
  have e : shapeCast S16 (wds.view.readAt (Elt F) (Rect.unit (s := S200x128) (wordOff base (Scf.iv 0#32 1#32 t)) S1x16.size hx).toLoadRect fx)
      shapeCasts_S1x16_S16 (ix1 u) = wordAt (wds.view.read (Elt F) fx) (b + t.val / 8) (t.val % 8 * 16 + u.val) := by
    rw [shapeCast_apply _ _ _ (ix2 ⟨0, Nat.one_pos⟩ u) (by
      rw [Shape.rowMajor_val_one, Shape.rowMajor_val_two]
      show 0 * 16 + u.val = u.val
      omega), View.readAt_apply]
    unfold wordAt
    congr 1
    funext a
    apply Fin.ext
    refine (LoadRect.idx_apply _ _ _).trans ?_
    fin_cases a
    · show (base + Scalar.shrui (Scf.iv 0#32 1#32 t) 3#32).toNat + 1 * 0 = (b + t.val / 8) % 200
      rw [BitVec.toNat_add, rowOf_trip, hbase]
      omega
    · show (Scalar.shli (Scalar.andi (Scf.iv 0#32 1#32 t) 7#32) 4#32).toNat + 1 * u.val = (t.val % 8 * 16 + u.val) % 128
      rw [laneOf_trip]
      omega
  show (IntOp.shli .vector (shapeCast S16 (wds.view.readAt (Elt F) (Rect.unit (s := S200x128) (wordOff base (Scf.iv 0#32 1#32 t)) S1x16.size hx).toLoadRect fx)
      shapeCasts_S1x16_S16 (ix1 u)) 6#32).toNat = _
  rw [e]
  exact shift_six _ (hX _ _)

-- a trip's words are run by `wp_words`, never one by one
attribute [local irreducible] words

/-- A trip puts its sixty-four chunks in place. -/
theorem wp_trip {q' : PosShare TreeShare} {fx : Buf (Elt F) (wds.view.loc (tile d i))} (t : Fin 32) {base : BitVec 32}
    (hbase : base.toNat = b) (hb196 : b ≤ 196) (hx : ∀ a, wordOff base (Scf.iv 0#32 1#32 t) a + S1x16.size a ≤ S200x128.size a)
    (hX : ∀ r c, (wordAt (wds.view.read (Elt F) fx) r c).toNat < 7) :
    iprop((tab.view.loc (tile d i) ↦{q} ft) ∗ (wds.view.loc (tile d i) ↦{q'} fx)
        ∗ bankPts d i bank (tab.view.read (Elt F) ft) (wds.view.read (Elt F) fx) b (64 * t.val))
      ⊢ wp frame (wpE (defs₀ (F := F)) 𝒱₀ (tile d i) none) Set.univ (trip i tab wds bank base (Scf.iv 0#32 1#32 t) hx (bankOK t))
          fun _ => iprop((tab.view.loc (tile d i) ↦{q} ft) ∗ (wds.view.loc (tile d i) ↦{q'} fx)
            ∗ bankPts d i bank (tab.view.read (Elt F) ft) (wds.view.read (Elt F) fx) b (64 * (t.val + 1))) := by
  unfold trip
  simp only [Prog.lift, Prog.bind_op, Prog.bind_ret]
  iintro ⟨Ht, Hx, Hb⟩
  iapply (wp_load 𝒱₀ (tile d i) none Set.univ (m := wds) (S := Finset.univ) (Finset.subset_univ _)) $$ Hx
  iintro Hx
  have hs := startsOf_load (wds := wds) t hbase hb196 hx hX
  have hw := wp_words (d := d) (i := i) (tab := tab) (bank := bank) (q := q) (ft := ft) (X := wds.view.read (Elt F) fx) (b := b)
    t hs hX 16 (le_refl _)
  rw [show 64 * t.val + 4 * 16 = 64 * (t.val + 1) by omega] at hw
  iapply (wp_wand_r frame (wpE (defs₀ (F := F)) 𝒱₀ (tile d i) none) Set.univ)
  isplitl [Ht Hb]
  · iapply hw
    isplitl [Ht] <;> iassumption
  · iintro %_ ⟨Ht, Hb⟩
    isplitl [Ht]; · iexact Ht
    isplitl [Hx]; · iexact Hx
    iexact Hb

end Chunk

end Cert.Proof.Expand

end
-- ==== Proof.Window.lean ====
/-
  What a tile writes: the rows of the output it owns, cut into windows of two hundred and fifty-six rows, one a group;
  the value every element of the output ends at; and the copy of a filled bank into its window.
-/
module

public import proofs.«01_k».proof.Proof.Fill

@[expose] public section

noncomputable section

namespace Cert.Proof.Expand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3 eq_ix1 eq_ix2 eq_ix3)

variable {F : FTy → Type}

/-! ## The arrays a tile names -/

abbrev tV : Memref sig .scVector .hbm S448 .f32 := Memref.whole main_v1_scv
abbrev xV : Memref sig .scVector .hbm S32x200x128 .i32 := Memref.whole main_v0_scv
abbrev oV : Memref sig .scVector .hbm S409600x128 .f32 := Memref.whole main_v2_scv
abbrev tabV : Memref sig .scVector .vmem S448 .f32 := Memref.whole cc0_scratch0
abbrev wdsV : Memref sig .scVector .vmem S200x128 .i32 := Memref.whole cc0_scratch1
abbrev bankA : Memref sig .scVector .vmem S256x128 .f32 := Memref.whole cc0_scratch2
abbrev bankB : Memref sig .scVector .vmem S256x128 .f32 := Memref.whole cc0_scratch3

abbrev tLoc (d : Dev nD) : Loc nD τ sig := (SparseCore.T d).loc main_v1
abbrev xLoc (d : Dev nD) : Loc nD τ sig := (SparseCore.T d).loc main_v0
abbrev oLoc (d : Dev nD) : Loc nD τ sig := (SparseCore.T d).loc main_v2

/-- A tile's number, its first row of the output, and its words. -/
def wid (i : grid0.Coords) : ℕ := (i 1).val * 2 + (i 0).val
theorem wid_lt (i : grid0.Coords) : wid i < 32 := by
  have h0 : (i 0).val < 2 := (i 0).isLt
  have h1 : (i 1).val < 16 := (i 1).isLt
  unfold wid; omega
abbrev lo (i : grid0.Coords) : ℕ := wid i * 12800

/-! ## Rows of the output -/

/-- The elements of the output's rows from `a` up to `b`. -/
def rows (a b : ℕ) : Finset S409600x128.Idx := Finset.univ.filter fun y => a ≤ (y 0).val ∧ (y 0).val < b

theorem mem_rows {a b : ℕ} {y : S409600x128.Idx} : y ∈ rows a b ↔ a ≤ (y 0).val ∧ (y 0).val < b := by simp [rows]

theorem rows_union {a b c : ℕ} (h : a ≤ b) (h' : b ≤ c) : rows a c = rows a b ∪ rows b c := by
  ext y; rw [Finset.mem_union, mem_rows, mem_rows, mem_rows]; omega

theorem rows_disjoint {a b a' b' : ℕ} (h : b ≤ a' ∨ b' ≤ a) : Disjoint (rows a b) (rows a' b') :=
  Finset.disjoint_left.mpr fun y hy hy' => by rw [mem_rows] at hy hy'; omega

theorem pts_rows_split (d : Dev nD) {a b c : ℕ} (h : a ≤ b) (h' : b ≤ c) (q : PosShare TreeShare) (f : Buf (Elt F) (oLoc d)) :
    (oLoc d ↦[rows a c]{q} f : sProp (MM F)) = iprop((oLoc d ↦[rows a b]{q} f) ∗ oLoc d ↦[rows b c]{q} f) := by
  rw [rows_union h h']
  exact Entails.antisymm (pointsTo_union (rows_disjoint (.inl (le_refl _)))).1 (pointsTo_union (rows_disjoint (.inl (le_refl _)))).2

/-- The same for three runs of rows, each named by whatever expressions its ends are. -/
theorem pts_rows_three (d : Dev nD) {a a' b b' c c' e e' : ℕ} (ha : a = a') (hb : b = b') (hc : c = c') (he : e = e') (hab : a ≤ b) (hbc : b ≤ c)
    (hce : c ≤ e) (q : PosShare TreeShare) (f : Buf (Elt F) (oLoc d)) :
    (oLoc d ↦[rows a e]{q} f : sProp (MM F))
      = iprop((oLoc d ↦[rows a' b]{q} f) ∗ (oLoc d ↦[rows b' c]{q} f) ∗ oLoc d ↦[rows c' e']{q} f) := by
  subst ha hb hc he
  rw [pts_rows_split d hab (hbc.trans hce), pts_rows_split d hbc hce]

/-- A run of rows that ends before it starts: nothing. -/
theorem pts_rows_none (d : Dev nD) {a b : ℕ} (h : b ≤ a) (q : PosShare TreeShare) (f : Buf (Elt F) (oLoc d)) :
    (oLoc d ↦[rows a b]{q} f : sProp (MM F)) = iprop(emp) := by
  rw [show rows a b = ∅ from Finset.eq_empty_of_forall_notMem fun y hy => by rw [mem_rows] at hy; omega]
  exact pointsTo_empty

/-! ## The value of the output -/

/-- The words of tile `w`. -/
def slab (Xs : S32x200x128.Idx → BitVec 32) (w : ℕ) : S200x128.Idx → BitVec 32 :=
  fun z => Xs (ix3 ⟨w % 32, Nat.mod_lt _ (by decide)⟩ (z 0) (z 1))

/-- The output: row by row, two words' rows of the table. -/
def gath (Tb : S448.Idx → Elt F .f32) (Xs : S32x200x128.Idx → BitVec 32) : S409600x128.Idx → Elt F .f32 :=
  fun y => bankVal Tb (slab Xs ((y 0).val / 12800)) 0 ((y 0).val % 12800) (y 1).val

/-- Row `r` of group `g` of tile `w` is what the bank of that group holds. -/
theorem gath_group (Tb : S448.Idx → Elt F .f32) (Xs : S32x200x128.Idx → BitVec 32) {w g r : ℕ} (hg : g < 50) (hr : r < 256)
    {y : S409600x128.Idx} (hy : (y 0).val = w * 12800 + 256 * g + r) :
    gath Tb Xs y = bankVal Tb (slab Xs w) (4 * g) r (y 1).val := by
  have hl : (y 1).val < 128 := (y 1).isLt
  unfold gath bankVal
  rw [hy, show (w * 12800 + 256 * g + r) / 12800 = w by omega, show (w * 12800 + 256 * g + r) % 12800 = 256 * g + r by omega,
    show 0 + (2 * (256 * g + r) + (y 1).val / 64) / 128 = 4 * g + (2 * r + (y 1).val / 64) / 128 by omega,
    show (2 * (256 * g + r) + (y 1).val / 64) % 128 = (2 * r + (y 1).val / 64) % 128 by omega]

/-! ## A window -/

section Window

variable {off : Fin 2 → ℕ} (hoff : ∀ a, off a + S256x128.size a ≤ S409600x128.size a)

abbrev winRect : Rect S409600x128 := Rect.unit (s := S409600x128) off S256x128.size hoff
abbrev win : Memref sig .scVector .hbm S256x128 .f32 := oV.slice (winRect hoff) (fun _ => rfl)

theorem win_set {n : ℕ} (h0 : off 0 = n) (h1 : off 1 = 0) : (win hoff).view.set = rows n (n + 256) := by
  have e : (win hoff).view.set = (winRect hoff).set := by
    show ((View.whole (main_v2_scv : Ref sig .scVector)).slice (winRect hoff)).set = _
    rw [View.set_slice]; exact Finset.map_refl
  rw [e]
  ext y
  have hl : (y 1).val < 128 := (y 1).isLt
  rw [Rect.mem_set_unit, mem_rows]
  constructor
  · intro h
    have := h 0
    change off 0 ≤ (y 0).val ∧ (y 0).val < off 0 + 256 at this
    omega
  · intro h a
    fin_cases a
    · show off 0 ≤ (y 0).val ∧ (y 0).val < off 0 + 256
      omega
    · show off 1 ≤ (y 1).val ∧ (y 1).val < off 1 + 128
      omega

theorem win_emb (z : S256x128.Idx) (a : Fin 2) : ((win hoff).view.emb z a).val = off a + (z a).val := by
  show (((View.whole (main_v2_scv : Ref sig .scVector)).slice (winRect hoff)).emb z a).val = _
  have : (((View.whole (main_v2_scv : Ref sig .scVector)).slice (winRect hoff)).emb z a).val = off a + 1 * (z a).val := LoadRect.idx_apply _ _ _
  omega

end Window

/-! ## The copy of a bank into its window -/

variable [FloatOps F]

/-- The credit of a window's copy. -/
abbrev NW : ℕ := sig.dmaCredit .scVector (Kind.scVector.table .hbm) (main_v2_scv : Ref sig .scVector).idx S256x128 .f32
theorem NW_pos : 0 < NW := sig.dmaCredit_pos _ _ _ _ _ (by decide)

/-- A window's copy under way: it brings the window at the output's value, and the bank back. -/
def outFlight (d : Dev nD) (i : grid0.Coords) (bank : Memref sig .scVector .vmem S256x128 .f32) (sem : DmaSem sig)
    (Tb : S448.Idx → Elt F .f32) (Xs : S32x200x128.Idx → BitVec 32) (n : ℕ) : sProp (MM F) :=
  Transfers.Flight countersEmb (tile d i) (.dma sem) (none : HIx 1) NW
    iprop((oLoc d ↦[rows n (n + 256)]{fullShare} gath Tb Xs) ∗ ∃ f, bank.view.loc (tile d i) ↦{fullShare} f)

theorem wp_send {d : Dev nD} {i : grid0.Coords} {bank : Memref sig .scVector .vmem S256x128 .f32} (hset : bank.view.set = Finset.univ)
    {sem : DmaSem sig} {Tb : S448.Idx → Elt F .f32} {Xs : S32x200x128.Idx → BitVec 32} {f₀ : Buf (Elt F) (oLoc d)}
    {off : Fin 2 → ℕ} (hoff : ∀ a, off a + S256x128.size a ≤ S409600x128.size a) {g : ℕ} (hg : g < 50)
    (h0 : off 0 = lo i + 256 * g) (h1 : off 1 = 0) {α : Type} {Q : α → sProp (MM F)}
    {hsrc : bank.view.WordExact} {hdst : (win hoff).view.WordExact}
    {hsem : DmaTarget.Typed (nD := nD) (τ := τ) (p := (tile d i).2) (Space.core .vmem) (SemLoc.dma sem) (DmaTarget.here (win hoff))}
    {k : PUnit → TileProg F i α} :
    iprop(bankPts d i bank Tb (slab Xs (wid i)) (4 * g) 2048 ∗ (oLoc d ↦[rows (lo i + 256 * g) (lo i + 256 * g + 256)]{fullShare} f₀)
        ∗ semVal (tile d i, SemLoc.dma sem) 0)
      ⊢ iprop((outFlight d i bank sem Tb Xs (lo i + 256 * g) -∗ wp frame (wpE (defs₀ (F := F)) 𝒱₀ (tile d i) none) Set.univ (k ⟨⟩) Q)
        -∗ wp frame (wpE (defs₀ (F := F)) 𝒱₀ (tile d i) none) Set.univ
          (.op (.enqueueDmaAs bank (.here (win hoff)) .same (.dma sem) hsrc hdst hsem) k) Q) := by
  unfold bankPts
  iintro ⟨⟨%f, %hf, Hb⟩, Ho, Hs⟩ Hk
  ihave Hb := (Entails.of_eq (show (bank.view.loc (tile d i) ↦{fullShare} f : sProp (MM F))
    = (bank.view.loc (tile d i) ↦[bank.view.set]{fullShare} f) by rw [hset])) $$ Hb
  ihave Ho := (Entails.of_eq (show (oLoc d ↦[rows (lo i + 256 * g) (lo i + 256 * g + 256)]{fullShare} f₀ : sProp (MM F))
    = ((win hoff).view.loc (tile d i) ↦[(win hoff).view.set]{fullShare} f₀) by rw [win_set hoff h0 h1])) $$ Ho
  iapply (Transfers.wp_dmaLocal countersEmb 𝒱₀ (tile d i) none (none : HIx 1) NW rfl NW_pos (Finset.Subset.refl _)) $$ [Hb Ho Hs]
  · isplitl [Hb]; · iexact Hb
    isplitl [Ho]; · iexact Ho
    iexact Hs
  iintro Hf
  iapply Hk
  unfold outFlight
  iapply (Transfers.Flight_mono countersEmb (tile d i) _) $$ Hf
  iintro ⟨Ho, Hb⟩
  isplitl [Ho]
  · iapply (Entails.of_eq ?_)
    rotate_left
    · iexact Ho
    rw [win_set hoff h0 h1]
    refine pointsTo_congr fun y hy => ?_
    rw [← win_set hoff h0 h1] at hy
    obtain ⟨z, -, rfl⟩ := Finset.mem_map.mp hy
    refine ((win hoff).view.write_emb_of_mem (Val := Elt F) _ _ (Finset.mem_univ z)).trans ?_
    have hz : (z 0).val < 256 := (z 0).isLt
    refine (Filled.full _ _ hf _).trans ?_
    rw [gath_group Tb Xs (w := wid i) (g := g) (r := (z 0).val) hg hz (by rw [win_emb, h0]), win_emb, h1, Nat.zero_add]
  · iexists f
    iapply (Entails.of_eq (show (bank.view.loc (tile d i) ↦[bank.view.set]{fullShare} f : sProp (MM F))
      = (bank.view.loc (tile d i) ↦{fullShare} f) by rw [hset]))
    iexact Hb

end Cert.Proof.Expand

end
-- ==== Proof.Group.lean ====
/-
  One group of a tile's output: the loop of thirty-two trips that fills a bank, and the turn that waits for a bank's last
  copy, fills the bank again and sends it to the next window.
-/
module

public import proofs.«01_k».proof.Proof.Window

@[expose] public section

noncomputable section

namespace Cert.Proof.Expand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3 eq_ix1 eq_ix2 eq_ix3)

variable {F : FTy → Type} [FloatOps F]

variable (d : Dev nD) (i : grid0.Coords) (Tb : S448.Idx → Elt F .f32) (Xs : S32x200x128.Idx → BitVec 32)

/-- What a tile keeps for the whole of its task: the table and its own words, in its scratch. -/
def kept : sProp (MM F) :=
  iprop((tabV.view.loc (tile d i) ↦{fullShare} (Tb : Buf (Elt F) (tabV.view.loc (tile d i))))
    ∗ wdsV.view.loc (tile d i) ↦{fullShare} (slab Xs (wid i) : Buf (Elt F) (wdsV.view.loc (tile d i))))

variable {d i Tb Xs}

theorem trips_fill : k0_t1_loop.trips = 32 := by decide

/-- The loop of a fill: from a bank at any contents to the bank of the group whose first row of words is `b`. -/
theorem wp_fill {bank : Memref sig .scVector .vmem S256x128 .f32} (hXs : ∀ z, (Xs z).toNat < 7) {b : ℕ} (hb196 : b ≤ 196)
    {base : BitVec 32} (hbase : base.toNat = b)
    {body : Fin k0_t1_loop.trips → Unit → TileProg F i Unit}
    (hx : ∀ t : Fin k0_t1_loop.trips, ∀ a, wordOff base (Scf.iv 0#32 1#32 t) a + S1x16.size a ≤ S200x128.size a)
    (hbody : ∀ t : Fin k0_t1_loop.trips, body t () = trip (F := F) i tabV wdsV bank base (Scf.iv 0#32 1#32 t) (hx t) (bankOK t)) :
    iprop(kept d i Tb Xs ∗ ∃ f, bank.view.loc (tile d i) ↦{fullShare} f)
      ⊢ wp frame (wpE (defs₀ (F := F)) 𝒱₀ (tile d i) none) Set.univ (Scf.Loop.for k0_t1_loop k0_t1_ok ⟨⟩ body)
          fun _ => iprop(kept d i Tb Xs ∗ bankPts d i bank Tb (slab Xs (wid i)) b 2048) := by
  have hstep : ∀ (t : Fin k0_t1_loop.trips) (acc : Unit),
      iprop(kept d i Tb Xs ∗ bankPts d i bank Tb (slab Xs (wid i)) b (64 * t.val))
        ⊢ wp frame (wpE (defs₀ (F := F)) 𝒱₀ (tile d i) none) Set.univ (body t acc)
            fun _ => iprop(kept d i Tb Xs ∗ bankPts d i bank Tb (slab Xs (wid i)) b (64 * (t.val + 1))) := by
    intro t acc
    rw [show acc = () from rfl, hbody]
    have h := wp_trip (F := F) (d := d) (i := i) (tab := tabV) (wds := wdsV) (bank := bank) (q := fullShare) (q' := fullShare)
      (ft := (Tb : Buf (Elt F) (tabV.view.loc (tile d i)))) (fx := (slab Xs (wid i) : Buf (Elt F) (wdsV.view.loc (tile d i)))) (b := b)
      t hbase hb196 (hx t) (fun r c => hXs _)
    unfold kept
    iintro ⟨⟨Ht, Hx⟩, Hb⟩
    iapply (wp_wand_r frame (wpE (defs₀ (F := F)) 𝒱₀ (tile d i) none) Set.univ)
    isplitl [Ht Hx Hb]
    · iapply h
      isplitl [Ht]; · iexact Ht
      isplitl [Hx]; · iexact Hx
      iexact Hb
    · iintro %u ⟨Ht, Hx, Hb⟩
      isplitl [Ht Hx]
      · isplitl [Ht]; · iexact Ht
        iexact Hx
      · iexact Hb
  iintro ⟨Hk, ⟨%f, Hb⟩⟩
  iapply (Scf.wp_for frame (wpE (defs₀ (F := F)) 𝒱₀ (tile d i) none) Set.univ _ _ _ k0_t1_ok () body
    (fun k _ => iprop(kept d i Tb Xs ∗ bankPts d i bank Tb (slab Xs (wid i)) b (64 * k))) hstep)
  isplitl [Hk Hb]
  · isplitl [Hk]; · iexact Hk
    unfold bankPts
    iexists f
    isplitr; · ipureintro; exact Filled.zero _ _ _ _
    iexact Hb
  · iintro %u H
    iexact H

/-- A fill and the copy of the bank to the window of group `g`. -/
theorem wp_first {bank : Memref sig .scVector .vmem S256x128 .f32} (hset : bank.view.set = Finset.univ) (hXs : ∀ z, (Xs z).toNat < 7)
    {sem : DmaSem sig} {f₀ : Buf (Elt F) (oLoc d)} {g : ℕ} (hg : g < 50)
    {base : BitVec 32} (hbase : base.toNat = 4 * g)
    {body : Fin k0_t1_loop.trips → Unit → TileProg F i Unit}
    (hx : ∀ t : Fin k0_t1_loop.trips, ∀ a, wordOff base (Scf.iv 0#32 1#32 t) a + S1x16.size a ≤ S200x128.size a)
    (hbody : ∀ t : Fin k0_t1_loop.trips, body t () = trip (F := F) i tabV wdsV bank base (Scf.iv 0#32 1#32 t) (hx t) (bankOK t))
    {off : Fin 2 → ℕ} (hoff : ∀ a, off a + S256x128.size a ≤ S409600x128.size a) (h0 : off 0 = lo i + 256 * g) (h1 : off 1 = 0)
    {α : Type} {Q : α → sProp (MM F)} {hsrc : bank.view.WordExact} {hdst : (win hoff).view.WordExact}
    {hsem : DmaTarget.Typed (nD := nD) (τ := τ) (p := (tile d i).2) (Space.core .vmem) (SemLoc.dma sem) (DmaTarget.here (win hoff))}
    {k : PUnit → TileProg F i α} :
    iprop(kept d i Tb Xs ∗ (∃ f, bank.view.loc (tile d i) ↦{fullShare} f)
        ∗ (oLoc d ↦[rows (lo i + 256 * g) (lo i + 256 * g + 256)]{fullShare} f₀) ∗ semVal (tile d i, SemLoc.dma sem) 0)
      ⊢ iprop((iprop(kept d i Tb Xs ∗ outFlight d i bank sem Tb Xs (lo i + 256 * g))
            -∗ wp frame (wpE (defs₀ (F := F)) 𝒱₀ (tile d i) none) Set.univ (k ⟨⟩) Q)
        -∗ wp frame (wpE (defs₀ (F := F)) 𝒱₀ (tile d i) none) Set.univ
          (Scf.Loop.for k0_t1_loop k0_t1_ok ⟨⟩ body >>= fun _ => .op (.enqueueDmaAs bank (.here (win hoff)) .same (.dma sem) hsrc hdst hsem) k) Q) := by
  rw [wp_bind]
  iintro ⟨Hk, Hb, Ho, Hs⟩ Hc
  iapply (wp_wand_r frame (wpE (defs₀ (F := F)) 𝒱₀ (tile d i) none) Set.univ)
  isplitl [Hk Hb]
  · iapply (wp_fill hXs (by omega) hbase hx hbody)
    isplitl [Hk]; · iexact Hk
    iexact Hb
  iintro %u ⟨Hk, Hb⟩
  iapply (wp_send hset hoff hg h0 h1) $$ [Hb Ho Hs]
  · isplitl [Hb]; · iexact Hb
    isplitl [Ho]; · iexact Ho
    iexact Hs
  iintro Hf
  iapply Hc
  isplitl [Hk]; · iexact Hk
  iexact Hf

/-- A wait for a bank's copy: the window it went to is done, the bank is the tile's again. -/
theorem wp_arrived {bank : Memref sig .scVector .vmem S256x128 .f32} {sem : DmaSem sig} {n : ℕ}
    {O : CellTallies nD τ sig (HIx 1)} {W : Waits sig (HIx 1)}
    {off : Fin 2 → ℕ} (hoff : ∀ a, off a + S256x128.size a ≤ S409600x128.size a)
    {α : Type} {Q : α → sProp (MM F)} {hsrc : bank.view.WordExact} {hdst : (win hoff).view.WordExact} {k : PUnit → TileProg F i α} :
    iprop(Transfers.MayWaits (tile d i) (none : HIx 1) O ∗ outFlight d i bank sem Tb Xs n ∗ owes (tile d i) O W)
      ⊢ iprop((iprop((oLoc d ↦[rows n (n + 256)]{fullShare} gath Tb Xs) ∗ (∃ f, bank.view.loc (tile d i) ↦{fullShare} f)
            ∗ semVal (tile d i, SemLoc.dma sem) 0 ∗ owes (tile d i) O (insert (SemLoc.dma sem, none) W))
            -∗ wp frame (wpE (defs₀ (F := F)) 𝒱₀ (tile d i) none) Set.univ (k ⟨⟩) Q)
        -∗ wp frame (wpE (defs₀ (F := F)) 𝒱₀ (tile d i) none) Set.univ (.op (.waitDma2 sem bank (win hoff) hsrc hdst) k) Q) := by
  iintro ⟨#Hmw, Hf, HO⟩ Hc
  unfold outFlight
  iapply (Transfers.wp_waitLocalO countersEmb 𝒱₀ (tile d i) none (none : HIx 1) (N := NW) rfl) $$ [Hf HO]
  · isplitl [Hf]; · iexact Hf
    isplitl [HO]; · iexact HO
    iapply (Transfers.MayWaits.elim (SemLoc.dma sem)); iexact Hmw
  iintro ⟨⟨Ho, Hb⟩, Hs, HO⟩
  iapply Hc
  isplitl [Ho]; · iexact Ho
  isplitl [Hb]; · iexact Hb
  isplitl [Hs]; · iexact Hs
  iexact HO

/-- A turn of the steady loop for one bank: its copy waited for, the bank filled with group `g` and sent. -/
theorem wp_turn {bank : Memref sig .scVector .vmem S256x128 .f32} (hset : bank.view.set = Finset.univ) (hXs : ∀ z, (Xs z).toNat < 7)
    {sem : DmaSem sig} {f₀ : Buf (Elt F) (oLoc d)} {n g : ℕ} (hg : g < 50)
    {O : CellTallies nD τ sig (HIx 1)} {W : Waits sig (HIx 1)}
    {base : BitVec 32} (hbase : base.toNat = 4 * g)
    {body : Fin k0_t1_loop.trips → Unit → TileProg F i Unit}
    (hx : ∀ t : Fin k0_t1_loop.trips, ∀ a, wordOff base (Scf.iv 0#32 1#32 t) a + S1x16.size a ≤ S200x128.size a)
    (hbody : ∀ t : Fin k0_t1_loop.trips, body t () = trip (F := F) i tabV wdsV bank base (Scf.iv 0#32 1#32 t) (hx t) (bankOK t))
    {off : Fin 2 → ℕ} (hoff : ∀ a, off a + S256x128.size a ≤ S409600x128.size a) (h0 : off 0 = lo i + 256 * g) (h1 : off 1 = 0)
    {off' : Fin 2 → ℕ} (hoff' : ∀ a, off' a + S256x128.size a ≤ S409600x128.size a)
    {α : Type} {Q : α → sProp (MM F)} {hsrc hsrc' : bank.view.WordExact} {hdst : (win hoff).view.WordExact} {hdst' : (win hoff').view.WordExact}
    {hsem : DmaTarget.Typed (nD := nD) (τ := τ) (p := (tile d i).2) (Space.core .vmem) (SemLoc.dma sem) (DmaTarget.here (win hoff))}
    {k : PUnit → TileProg F i α} :
    iprop(Transfers.MayWaits (tile d i) (none : HIx 1) O ∗ kept d i Tb Xs ∗ outFlight d i bank sem Tb Xs n
        ∗ (oLoc d ↦[rows (lo i + 256 * g) (lo i + 256 * g + 256)]{fullShare} f₀) ∗ owes (tile d i) O W)
      ⊢ iprop((iprop(kept d i Tb Xs ∗ (oLoc d ↦[rows n (n + 256)]{fullShare} gath Tb Xs) ∗ outFlight d i bank sem Tb Xs (lo i + 256 * g)
            ∗ owes (tile d i) O (insert (SemLoc.dma sem, none) W))
            -∗ wp frame (wpE (defs₀ (F := F)) 𝒱₀ (tile d i) none) Set.univ (k ⟨⟩) Q)
        -∗ wp frame (wpE (defs₀ (F := F)) 𝒱₀ (tile d i) none) Set.univ (.op (.waitDma2 sem bank (win hoff') hsrc' hdst') fun _ =>
          Scf.Loop.for k0_t1_loop k0_t1_ok ⟨⟩ body >>= fun _ => .op (.enqueueDmaAs bank (.here (win hoff)) .same (.dma sem) hsrc hdst hsem) k) Q) := by
  iintro ⟨#Hmw, Hk, Hf, Ho, HO⟩ Hc
  iapply (wp_arrived hoff') $$ [Hf HO]
  · isplitr; · iexact Hmw
    isplitl [Hf]; · iexact Hf
    iexact HO
  iintro ⟨Hd, Hb, Hs, HO⟩
  iapply (wp_first hset hXs hg hbase hx hbody hoff h0 h1) $$ [Hk Hb Ho Hs]
  · isplitl [Hk]; · iexact Hk
    isplitl [Hb]; · iexact Hb
    isplitl [Ho]; · iexact Ho
    iexact Hs
  iintro ⟨Hk, Hf⟩
  iapply Hc
  isplitl [Hk]; · iexact Hk
  isplitl [Hd]; · iexact Hd
  isplitl [Hf]; · iexact Hf
  iexact HO

end Cert.Proof.Expand

end
-- ==== Proof.Tile.lean ====
/-
  The task of one tile: the two fetches, the first two fills, the steady loop of twenty-four trips and the last two waits.
-/
module

public import proofs.«01_k».proof.Proof.Group

@[expose] public section

noncomputable section

namespace Cert.Proof.Expand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3 eq_ix1 eq_ix2 eq_ix3)

variable {F : FTy → Type}

/-! ## The windows' offsets -/

section Offsets

variable (i : grid0.Coords)

abbrev loWord : BitVec 32 :=
  Scalar.muli (Scalar.addi (Scalar.muli (BitVec.ofNat 32 (i 1).val) 2#32) (BitVec.ofNat 32 (i 0).val)) 12800#32

theorem widWord : (Scalar.addi (Scalar.muli (BitVec.ofNat 32 (i 1).val) 2#32) (BitVec.ofNat 32 (i 0).val)).toNat = wid i := by
  have h0 : (i 0).val < 2 := (i 0).isLt
  have h1 : (i 1).val < 16 := (i 1).isLt
  show (BitVec.ofNat 32 (i 1).val * 2#32 + BitVec.ofNat 32 (i 0).val).toNat = _
  rw [BitVec.toNat_add, BitVec.toNat_mul, BitVec.toNat_ofNat, BitVec.toNat_ofNat, BitVec.toNat_ofNat]
  unfold wid; omega

theorem loWord_toNat : (loWord i).toNat = lo i := by
  have h := wid_lt i
  show (Scalar.addi (Scalar.muli (BitVec.ofNat 32 (i 1).val) 2#32) (BitVec.ofNat 32 (i 0).val) * 12800#32).toNat = _
  rw [BitVec.toNat_mul, widWord, BitVec.toNat_ofNat]
  unfold lo; omega

/-- A window's offset: the tile's first row and rows of its own. -/
theorem loWord_add {x : BitVec 32} {n : ℕ} (hx : x.toNat = n) (hn : n < 12800) : (Scalar.addi (loWord i) x).toNat = lo i + n := by
  have h := wid_lt i
  show (loWord i + x).toNat = _
  rw [BitVec.toNat_add, loWord_toNat, hx]
  unfold lo; omega

theorem iv_steady (g : Fin 24) : (Scf.iv 1#32 1#32 g : BitVec 32).toNat = g.val + 1 := by
  have := g.isLt
  show (1#32 + BitVec.ofNat 32 g.val * 1#32).toNat = _
  rw [BitVec.toNat_add, BitVec.toNat_mul, BitVec.toNat_ofNat, BitVec.toNat_ofNat]
  omega

theorem evenGroup (g : Fin 24) : (Scalar.muli 2#32 (Scf.iv 1#32 1#32 g)).toNat = 2 * (g.val + 1) := by
  have := g.isLt
  show (2#32 * Scf.iv 1#32 1#32 g).toNat = _
  rw [BitVec.toNat_mul, iv_steady, BitVec.toNat_ofNat]; omega

theorem oddGroup (g : Fin 24) : (Scalar.addi (Scalar.muli 2#32 (Scf.iv 1#32 1#32 g)) 1#32).toNat = 2 * (g.val + 1) + 1 := by
  have := g.isLt
  show (Scalar.muli 2#32 (Scf.iv 1#32 1#32 g) + 1#32).toNat = _
  rw [BitVec.toNat_add, evenGroup, BitVec.toNat_ofNat]; omega

theorem mul_word {x : BitVec 32} {n : ℕ} (hx : x.toNat = n) (hn : n < 50) {k : ℕ} (hk : k ≤ 256) :
    (Scalar.muli x (BitVec.ofNat 32 k)).toNat = n * k := by
  have : n * k ≤ 50 * 256 := Nat.mul_le_mul (by omega) hk
  show (x * BitVec.ofNat 32 k).toNat = _
  rw [BitVec.toNat_mul, hx, BitVec.toNat_ofNat, Nat.mod_eq_of_lt (show k < 2 ^ 32 by omega), Nat.mod_eq_of_lt (by omega)]

end Offsets

theorem trips_steady : k0_t3_loop.trips = 24 := by decide

variable [FloatOps F]

variable (d : Dev nD) (i : grid0.Coords) (Tb : S448.Idx → Elt F .f32) (Xs : S32x200x128.Idx → BitVec 32) (f₀ : Buf (Elt F) (oLoc d))
  (O : CellTallies nD τ sig (HIx 1)) (W : Waits sig (HIx 1))

/-- Before trip `k` of the steady loop: the copies of groups `2k` and `2k + 1` under way, the windows before them at the
    output's value, the windows after them at the launch's contents. -/
def steady (k : ℕ) : sProp (MM F) :=
  iprop(Transfers.MayWaits (tile d i) (none : HIx 1) O ∗ kept d i Tb Xs
    ∗ outFlight d i bankA cc0_scratch4.sem Tb Xs (lo i + 256 * (2 * k)) ∗ outFlight d i bankB cc0_scratch5.sem Tb Xs (lo i + 256 * (2 * k + 1))
    ∗ (oLoc d ↦[rows (lo i) (lo i + 256 * (2 * k))]{fullShare} gath Tb Xs)
    ∗ (oLoc d ↦[rows (lo i + 256 * (2 * k + 2)) (lo i + 12800)]{fullShare} f₀)
    ∗ ∃ W', ⌜∀ p ∈ W', p ∈ W ∨ p.2 = none⌝ ∗ owes (tile d i) O W')

variable {d i Tb Xs f₀ O W}

theorem waits_insert {W' : Waits sig (HIx 1)} (h : ∀ p ∈ W', p ∈ W ∨ p.2 = none) (s : SemLoc sig) :
    ∀ p ∈ insert (s, (none : HIx 1)) W', p ∈ W ∨ p.2 = none := fun p hp => by
  rcases Finset.mem_insert.mp hp with rfl | hp
  · exact .inr rfl
  · exact h p hp

theorem wp_steady (hXs : ∀ z, (Xs z).toNat < 7) (k : Fin k0_t3_loop.trips) (acc : Unit) :
    steady d i Tb Xs f₀ O W k.val
      ⊢ wp frame (wpE (defs₀ (F := F)) 𝒱₀ (tile d i) none) Set.univ
          (k0_t3_body (F := F) i tV (Memref.isWhole_whole _) xV (Memref.isWhole_whole _) oV (Memref.isWhole_whole _)
            tabV (Memref.isWhole_whole _) wdsV (Memref.isWhole_whole _) bankA (Memref.isWhole_whole _) bankB (Memref.isWhole_whole _)
            cc0_scratch4 cc0_scratch5 cc0_scoped0 cc0_scoped1 1#32 1#32 k acc)
          fun _ => steady d i Tb Xs f₀ O W (k.val + 1) := by
  have hk : k.val < 24 := lt_of_lt_of_eq k.isLt trips_steady
  have hg : (Scalar.muli 2#32 (Scf.iv 1#32 1#32 k)).toNat = 2 * (k.val + 1) := evenGroup ⟨k.val, hk⟩
  have hg' : (Scalar.addi (Scalar.muli 2#32 (Scf.iv 1#32 1#32 k)) 1#32).toNat = 2 * (k.val + 1) + 1 := oddGroup ⟨k.val, hk⟩
  unfold k0_t3_body steady
  simp only [Prog.lift, Prog.bind_op, Prog.bind_ret, Prog.pure_eq_ret]
  iintro ⟨#Hmw, Hk, HA, HB, Hd, Hr, ⟨%W', %hW', HO⟩⟩
  ihave Hr := (Entails.of_eq (show (oLoc d ↦[rows (lo i + 256 * (2 * k.val + 2)) (lo i + 12800)]{fullShare} f₀ : sProp (MM F))
      = iprop((oLoc d ↦[rows (lo i + 256 * (2 * (k.val + 1))) (lo i + 256 * (2 * (k.val + 1)) + 256)]{fullShare} f₀)
        ∗ (oLoc d ↦[rows (lo i + 256 * (2 * (k.val + 1) + 1)) (lo i + 256 * (2 * (k.val + 1) + 1) + 256)]{fullShare} f₀)
        ∗ oLoc d ↦[rows (lo i + 256 * (2 * (k.val + 1) + 2)) (lo i + 12800)]{fullShare} f₀) from
      pts_rows_three d (by omega) (by omega) (by omega) rfl (by omega) (by omega) (by omega) _ _)) $$ Hr
  icases Hr with ⟨HrA, HrB, Hr⟩
  iapply (wp_turn (g := 2 * (k.val + 1)) (View.set_whole _) hXs (by omega) ((mul_word hg (by omega) (k := 4) (by omega)).trans (Nat.mul_comm _ _))
    (k0_off166_inb k) (fun t => t4_trip i _ _ _ _ _ _ _ _ _ _ _ _ _ _ _ _ _ _ k t)
    (k0_off247_inb i k) ((loWord_add i ((mul_word hg (by omega) (k := 256) (by omega)).trans (Nat.mul_comm _ _)) (by omega))) rfl
    (k0_off165_inb i)) $$ [Hk HA HrA HO]
  · isplitr; · iexact Hmw
    isplitl [Hk]; · iexact Hk
    isplitl [HA]; · iexact HA
    isplitl [HrA]; · iexact HrA
    iexact HO
  iintro ⟨Hk, HdA, HA, HO⟩
  iapply (wp_turn (g := 2 * (k.val + 1) + 1) (View.set_whole _) hXs (by omega) ((mul_word hg' (by omega) (k := 4) (by omega)).trans (Nat.mul_comm _ _))
    (k0_off248_inb k) (fun t => t5_trip i _ _ _ _ _ _ _ _ _ _ _ _ _ _ _ _ _ _ k t)
    (k0_off329_inb i k) ((loWord_add i ((mul_word hg' (by omega) (k := 256) (by omega)).trans (Nat.mul_comm _ _)) (by omega))) rfl
    (k0_off165_inb i)) $$ [Hk HB HrB HO]
  · isplitr; · iexact Hmw
    isplitl [Hk]; · iexact Hk
    isplitl [HB]; · iexact HB
    isplitl [HrB]; · iexact HrB
    iexact HO
  iintro ⟨Hk, HdB, HB, HO⟩
  rw [wp_ret]; imodintro
  isplitr; · iexact Hmw
  isplitl [Hk]; · iexact Hk
  isplitl [HA]; · iexact HA
  isplitl [HB]; · iexact HB
  isplitl [Hd HdA HdB]
  · iapply (Entails.of_eq (show (oLoc d ↦[rows (lo i) (lo i + 256 * (2 * (k.val + 1)))]{fullShare} gath Tb Xs : sProp (MM F))
        = iprop((oLoc d ↦[rows (lo i) (lo i + 256 * (2 * k.val))]{fullShare} gath Tb Xs)
          ∗ (oLoc d ↦[rows (lo i + 256 * (2 * k.val)) (lo i + 256 * (2 * k.val) + 256)]{fullShare} gath Tb Xs)
          ∗ oLoc d ↦[rows (lo i + 256 * (2 * k.val + 1)) (lo i + 256 * (2 * k.val + 1) + 256)]{fullShare} gath Tb Xs) from
        pts_rows_three d rfl rfl (by omega) (by omega) (by omega) (by omega) (by omega) _ _).symm)
    isplitl [Hd]; · iexact Hd
    isplitl [HdA]; · iexact HdA
    iexact HdB
  isplitl [Hr]; · iexact Hr
  iexists (insert (SemLoc.dma cc0_scratch5.sem, none) (insert (SemLoc.dma cc0_scratch4.sem, none) W'))
  isplitr
  · ipureintro; exact waits_insert (waits_insert hW' _) _
  iexact HO

end Cert.Proof.Expand

end
-- ==== Proof.Task.lean ====
/-
  A tile's whole task: the table and its words fetched, the first two groups filled and sent, the steady loop, the last two
  waits. What it is handed comes back with its rows of the output at their value.
-/
module

public import proofs.«01_k».proof.Proof.Tile

@[expose] public section

noncomputable section

namespace Cert.Proof.Expand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3 eq_ix1 eq_ix2 eq_ix3)

variable {F : FTy → Type}

/-! ## The fetches -/

/-- The tile's words, where they lie in HBM. -/
abbrev wordsAt (i : grid0.Coords) : Memref sig .scVector .hbm S200x128 .i32 :=
  (xV.slice (Rect.unit (s := S32x200x128) (k0_off1 i) S1x200x128.size (k0_off1_inb i)) (fun _ => rfl)).squeeze S200x128
    squeezes_S1x200x128_S200x128

theorem wordsAt_read (i : grid0.Coords) (Xs : S32x200x128.Idx → BitVec 32) :
    (wordsAt i).view.read (Elt F) (Xs : (wordsAt i).view.ty.Contents (Elt F)) = slab Xs (wid i) := by
  funext z
  have hw := wid_lt i
  have e : Shape.reshapeEquiv (show S200x128.numel = S1x200x128.numel from squeezes_S1x200x128_S200x128.numel_eq) z = (Fin.cons (⟨0, Nat.one_pos⟩ : Fin 1) z : S1x200x128.Idx) :=
    Shape.reshapeEquiv_cons_one (d := ![200, 128]) _ _
  show Xs ((Rect.unit (s := S32x200x128) (k0_off1 i) S1x200x128.size (k0_off1_inb i)).emb
    (Shape.reshapeEquiv (show S200x128.numel = S1x200x128.numel from squeezes_S1x200x128_S200x128.numel_eq) z)) = _
  rw [e]
  unfold slab
  refine congrArg Xs (funext fun a => Fin.ext ?_)
  refine (LoadRect.idx_apply (Rect.unit (s := S32x200x128) (k0_off1 i) S1x200x128.size (k0_off1_inb i)).toLoadRect _ a).trans ?_
  fin_cases a
  · show (Scalar.addi (Scalar.muli (BitVec.ofNat 32 (i 1).val) 2#32) (BitVec.ofNat 32 (i 0).val)).toNat + 1 * 0 = wid i % 32
    rw [widWord]; omega
  · show 0 + 1 * (z 0).val = (z 0).val
    omega
  · show 0 + 1 * (z 1).val = (z 1).val
    omega

variable [FloatOps F]

variable {d : Dev nD} {i : grid0.Coords} {Tb : S448.Idx → Elt F .f32} {Xs : S32x200x128.Idx → BitVec 32} {f₀ : Buf (Elt F) (oLoc d)}
  {O : CellTallies nD τ sig (HIx 1)} {W : Waits sig (HIx 1)}

/-- A fetch into a scratch buffer and its wait. -/
theorem wp_fetch {s : Shape} {e : EltTy} {src : Memref sig .scVector .hbm s e} {dst : Memref sig .scVector .vmem s e} {sem : DmaSem sig}
    (hset : dst.view.set = Finset.univ) {N : ℕ} (hN : dst.view.amount (.dma sem) = N) (hN' : dst.view.dmaCredit = N) (hN0 : 0 < N)
    {q : PosShare TreeShare} {fs : Buf (Elt F) (src.view.loc (tile d i))} {fd : Buf (Elt F) (dst.view.loc (tile d i))}
    {α : Type} {Q : α → sProp (MM F)} {hsrc hsrc' : src.view.WordExact} {hdst hdst' : dst.view.WordExact}
    {hsem : DmaTarget.Typed (nD := nD) (τ := τ) (p := (tile d i).2) Space.hbm (SemLoc.dma sem) (DmaTarget.here dst)}
    {k : PUnit → TileProg F i α} :
    iprop(Transfers.MayWaits (tile d i) (none : HIx 1) O ∗ (src.view.loc (tile d i) ↦{q} fs) ∗ (dst.view.loc (tile d i) ↦{fullShare} fd)
        ∗ semVal (tile d i, SemLoc.dma sem) 0 ∗ owes (tile d i) O W)
      ⊢ iprop((iprop((src.view.loc (tile d i) ↦{q} fs)
            ∗ (dst.view.loc (tile d i) ↦{fullShare} dst.view.write (Elt F) fd (src.view.read (Elt F) fs) Finset.univ)
            ∗ semVal (tile d i, SemLoc.dma sem) 0 ∗ owes (tile d i) O (insert (SemLoc.dma sem, none) W))
            -∗ wp frame (wpE (defs₀ (F := F)) 𝒱₀ (tile d i) none) Set.univ (k ⟨⟩) Q)
        -∗ wp frame (wpE (defs₀ (F := F)) 𝒱₀ (tile d i) none) Set.univ
          (.op (.enqueueDmaAs src (.here dst) .same (.dma sem) hsrc hdst hsem) fun _ => .op (.waitDma2 sem src dst hsrc' hdst') k) Q) := by
  iintro ⟨#Hmw, Hs, Hd, Hv, HO⟩ Hc
  have hsplit : (src.view.loc (tile d i) ↦{q} fs : sProp (MM F))
      ⊣⊢ iprop((src.view.loc (tile d i) ↦[src.view.set]{q} fs) ∗ src.view.loc (tile d i) ↦[Finset.univ \ src.view.set]{q} fs) :=
    pointsTo_split_subset (Finset.subset_univ _)
  ihave Hs := hsplit.1 $$ Hs
  icases Hs with ⟨Hs, Hrest⟩
  iapply (Transfers.wp_dmaLocal countersEmb 𝒱₀ (tile d i) none (none : HIx 1) N hN hN0 (Sd := Finset.univ) (Finset.subset_univ _)) $$ [Hs Hd Hv]
  · isplitl [Hs]; · iexact Hs
    isplitl [Hd]; · iexact Hd
    iexact Hv
  iintro Hf
  iapply (Transfers.wp_waitLocalO countersEmb 𝒱₀ (tile d i) none (none : HIx 1) (N := N) hN') $$ [Hf HO]
  · isplitl [Hf]; · iexact Hf
    isplitl [HO]; · iexact HO
    iapply (Transfers.MayWaits.elim (SemLoc.dma sem)); iexact Hmw
  iintro ⟨⟨Hd, Hs⟩, Hv, HO⟩
  iapply Hc
  isplitl [Hs Hrest]
  · iapply hsplit.2
    isplitl [Hs]; · iexact Hs
    iexact Hrest
  isplitl [Hd]; · iexact Hd
  isplitl [Hv]; · iexact Hv
  iexact HO

/-! ## A tile's own semaphores and buffers -/

section Own

variable (d i)

abbrev ownRest : Finset (GSem nD τ sig) :=
  ((((ownCells (tile d i)).erase (tile d i, .dma cc0_scratch4.sem)).erase (tile d i, .dma cc0_scratch5.sem)).erase
    (tile d i, .dma cc0_scoped0.sem)).erase (tile d i, .dma cc0_scoped1.sem)

theorem ownSems_tile :
    (ownSems0 (tile d i) : sProp (MM F))
      = iprop(semVal (tile d i, SemLoc.dma cc0_scratch4.sem) 0 ∗ semVal (tile d i, SemLoc.dma cc0_scratch5.sem) 0
          ∗ semVal (tile d i, SemLoc.dma cc0_scoped0.sem) 0 ∗ semVal (tile d i, SemLoc.dma cc0_scoped1.sem) 0
          ∗ bigSep (ownRest d i) fun g => semVal g 0) := by
  have own : ∀ x : DmaSem sig, (SemLoc.dma x : SemLoc sig).isScoped .scVector = true → ((tile d i, SemLoc.dma x) : GSem nD τ sig) ∈ ownCells (tile d i) :=
    fun x hx => mem_ownCells.mpr ⟨rfl, hx⟩
  have ne : ∀ {x y : DmaSem sig}, x ≠ y → ((tile d i, SemLoc.dma x) : GSem nD τ sig) ≠ (tile d i, SemLoc.dma y) :=
    fun hxy e => hxy (SemLoc.dma.inj (Prod.mk.inj e).2)
  unfold SparseCore.Cfg.ownSems0
  rw [SparseCore.bigSep_erase' (own cc0_scratch4.sem (by decide)),
    SparseCore.bigSep_erase' (Finset.mem_erase.mpr ⟨ne (by decide), own cc0_scratch5.sem (by decide)⟩),
    SparseCore.bigSep_erase' (Finset.mem_erase.mpr ⟨ne (by decide), Finset.mem_erase.mpr ⟨ne (by decide), own cc0_scoped0.sem (by decide)⟩⟩),
    SparseCore.bigSep_erase' (Finset.mem_erase.mpr ⟨ne (by decide), Finset.mem_erase.mpr ⟨ne (by decide),
      Finset.mem_erase.mpr ⟨ne (by decide), own cc0_scoped1.sem (by decide)⟩⟩⟩)]

abbrev refOf (x : Ref sig .scVector) : DevRef τ sig := (Proc.scVector (cV i) (jV i)).devRef x

abbrev ownBufRest : Finset (DevRef τ sig) :=
  ((((ownRefs (τ := τ) (.scVector (cV i) (jV i))).erase (refOf i cc0_scratch0)).erase (refOf i cc0_scratch1)).erase
    (refOf i cc0_scratch2)).erase (refOf i cc0_scratch3)

theorem ownBufs_tile :
    (ownBufs (tile d i) : sProp (MM F))
      = iprop((∃ f, tabV.view.loc (tile d i) ↦{fullShare} f) ∗ (∃ f, wdsV.view.loc (tile d i) ↦{fullShare} f)
          ∗ (∃ f, bankA.view.loc (tile d i) ↦{fullShare} f) ∗ (∃ f, bankB.view.loc (tile d i) ↦{fullShare} f)
          ∗ bigSep (ownBufRest i) fun b => iprop(∃ f, ((d, b) : Loc nD τ sig) ↦{fullShare} f)) := by
  have ne : ∀ {x y : Ref sig .scVector}, x ≠ y → refOf i x ≠ refOf i y := fun hxy e => hxy (Proc.devRef_injective _ e)
  have own : ∀ x : Ref sig .scVector, (refOf i x).owner = .proc (.scVector (cV i) (jV i)) → refOf i x ∈ ownRefs (τ := τ) (.scVector (cV i) (jV i)) :=
    fun x hx => SparseCore.Cfg.mem_ownRefs_of_owner hx
  unfold SparseCore.Cfg.ownBufs
  refine (SparseCore.bigSep_erase' (own cc0_scratch0 rfl)).trans ?_
  rw [SparseCore.bigSep_erase' (Finset.mem_erase.mpr ⟨ne (by decide), own cc0_scratch1 rfl⟩),
    SparseCore.bigSep_erase' (Finset.mem_erase.mpr ⟨ne (by decide), Finset.mem_erase.mpr ⟨ne (by decide), own cc0_scratch2 rfl⟩⟩),
    SparseCore.bigSep_erase' (Finset.mem_erase.mpr ⟨ne (by decide), Finset.mem_erase.mpr ⟨ne (by decide),
      Finset.mem_erase.mpr ⟨ne (by decide), own cc0_scratch3 rfl⟩⟩⟩)]

end Own

/-! ## The task -/

section Task

variable (d i Tb Xs f₀ O W)

/-- What a tile is handed of the arrays: the table and the words to read, its rows of the output to write. -/
def given (q q' : PosShare TreeShare) (f : Buf (Elt F) (oLoc d)) : sProp (MM F) :=
  iprop((tLoc d ↦{q} (Tb : Buf (Elt F) (tLoc d))) ∗ (xLoc d ↦{q'} (Xs : Buf (Elt F) (xLoc d)))
    ∗ oLoc d ↦[rows (lo i) (lo i + 12800)]{fullShare} f)

/-- The first part: both fetches and the first two groups sent, up to the steady loop. -/
theorem wp_prologue (hXs : ∀ z, (Xs z).toNat < 7) (q q' : PosShare TreeShare) :
    iprop(Transfers.MayWaits (tile d i) (none : HIx 1) O ∗ given d i Tb Xs q q' f₀
        ∗ (∃ f, tabV.view.loc (tile d i) ↦{fullShare} f) ∗ (∃ f, wdsV.view.loc (tile d i) ↦{fullShare} f)
        ∗ (∃ f, bankA.view.loc (tile d i) ↦{fullShare} f) ∗ (∃ f, bankB.view.loc (tile d i) ↦{fullShare} f)
        ∗ semVal (tile d i, SemLoc.dma cc0_scratch4.sem) 0 ∗ semVal (tile d i, SemLoc.dma cc0_scratch5.sem) 0
        ∗ semVal (tile d i, SemLoc.dma cc0_scoped0.sem) 0 ∗ semVal (tile d i, SemLoc.dma cc0_scoped1.sem) 0
        ∗ owes (tile d i) O W)
      ⊢ wp frame (wpE (defs₀ (F := F)) 𝒱₀ (tile d i) none) Set.univ
          (k0_part61 (F := F) i tV (Memref.isWhole_whole _) xV (Memref.isWhole_whole _) oV (Memref.isWhole_whole _)
            tabV (Memref.isWhole_whole _) wdsV (Memref.isWhole_whole _) bankA (Memref.isWhole_whole _) bankB (Memref.isWhole_whole _)
            cc0_scratch4 cc0_scratch5 cc0_scoped0 cc0_scoped1)
          fun r => iprop(⌜r = ⟨loWord i, 1#32, 1#32⟩⌝ ∗ steady d i Tb Xs f₀ O W 0
            ∗ (tLoc d ↦{q} (Tb : Buf (Elt F) (tLoc d))) ∗ (xLoc d ↦{q'} (Xs : Buf (Elt F) (xLoc d)))
            ∗ semVal (tile d i, SemLoc.dma cc0_scoped0.sem) 0 ∗ semVal (tile d i, SemLoc.dma cc0_scoped1.sem) 0) := by
  rw [k0_part61_eq_skeleton]
  unfold k0_part61_skel given steady
  simp only [Prog.lift, Prog.bind_op, Prog.bind_ret, Prog.pure_eq_ret]
  iintro ⟨#Hmw, ⟨Ht, Hx, Ho⟩, ⟨%ft, Htab⟩, ⟨%fx, Hwds⟩, HA, HB, HsA, HsB, Hs0, Hs1, HO⟩
  iapply (wp_fetch (src := tV) (dst := tabV) (N := tabV.view.amount (.dma cc0_scoped0.sem)) (View.set_whole _) rfl rfl
    (View.amount_pos _ _ (show 0 < S448.numel by decide))) $$ [Ht Htab Hs0 HO]
  · isplitr; · iexact Hmw
    isplitl [Ht]; · iexact Ht
    isplitl [Htab]; · iexact Htab
    isplitl [Hs0]; · iexact Hs0
    iexact HO
  iintro ⟨Ht, Htab, Hs0, HO⟩
  iapply (wp_fetch (src := wordsAt i) (dst := wdsV) (N := wdsV.view.amount (.dma cc0_scoped1.sem)) (View.set_whole _) rfl rfl
    (View.amount_pos _ _ (show 0 < S200x128.numel by decide))) $$ [Hx Hwds Hs1 HO]
  · isplitr; · iexact Hmw
    isplitl [Hx]; · iexact Hx
    isplitl [Hwds]; · iexact Hwds
    isplitl [Hs1]; · iexact Hs1
    iexact HO
  iintro ⟨Hx, Hwds, Hs1, HO⟩
  ihave Htab := (Entails.of_eq (show (tabV.view.loc (tile d i) ↦{fullShare} tabV.view.write (Elt F) ft (tV.view.read (Elt F) Tb) Finset.univ : sProp (MM F))
    = (tabV.view.loc (tile d i) ↦{fullShare} (Tb : Buf (Elt F) (tabV.view.loc (tile d i)))) from
      congrArg (fun g => (tabV.view.loc (tile d i) ↦{fullShare} g : sProp (MM F))) (View.write_whole_univ _ _ _))) $$ Htab
  ihave Hwds := (Entails.of_eq (show (wdsV.view.loc (tile d i) ↦{fullShare} wdsV.view.write (Elt F) fx ((wordsAt i).view.read (Elt F) Xs) Finset.univ : sProp (MM F))
    = (wdsV.view.loc (tile d i) ↦{fullShare} (slab Xs (wid i) : Buf (Elt F) (wdsV.view.loc (tile d i)))) from
      congrArg (fun g => (wdsV.view.loc (tile d i) ↦{fullShare} g : sProp (MM F))) ((View.write_whole_univ _ _ _).trans (wordsAt_read i Xs)))) $$ Hwds
  ihave Ho := (Entails.of_eq (show (oLoc d ↦[rows (lo i) (lo i + 12800)]{fullShare} f₀ : sProp (MM F))
      = iprop((oLoc d ↦[rows (lo i + 256 * 0) (lo i + 256 * 0 + 256)]{fullShare} f₀)
        ∗ (oLoc d ↦[rows (lo i + 256 * 1) (lo i + 256 * 1 + 256)]{fullShare} f₀)
        ∗ oLoc d ↦[rows (lo i + 256 * (2 * 0 + 2)) (lo i + 12800)]{fullShare} f₀) from
      pts_rows_three d (by omega) (by omega) (by omega) rfl (by omega) (by omega) (by omega) _ _)) $$ Ho
  icases Ho with ⟨HoA, HoB, Ho⟩
  iapply (wp_first (Tb := Tb) (Xs := Xs) (g := 0) (base := 0#32) (View.set_whole _) hXs (by omega) rfl k0_off2_inb
    (fun t => t1_trip i _ _ _ _ _ _ _ _ _ _ _ _ _ _ _ _ _ _ t)
    (k0_off83_inb i 0) (loWord_add i (x := 0#32) rfl (by omega)) rfl) $$ [Htab Hwds HA HoA HsA]
  · isplitl [Htab Hwds]
    · unfold kept
      isplitl [Htab]; · iexact Htab
      iexact Hwds
    isplitl [HA]; · iexact HA
    isplitl [HoA]; · iexact HoA
    iexact HsA
  iintro ⟨Hk, HA⟩
  iapply (wp_first (Tb := Tb) (Xs := Xs) (g := 1) (base := 4#32) (View.set_whole _) hXs (by omega) rfl k0_off84_inb
    (fun t => t2_trip i _ _ _ _ _ _ _ _ _ _ _ _ _ _ _ _ _ _ t)
    (k0_off83_inb i 1) (loWord_add i (x := 256#32) rfl (by omega)) rfl) $$ [Hk HB HoB HsB]
  · isplitl [Hk]; · iexact Hk
    isplitl [HB]; · iexact HB
    isplitl [HoB]; · iexact HoB
    iexact HsB
  iintro ⟨Hk, HB⟩
  rw [wp_ret]; imodintro
  isplitr; · ipureintro; rfl
  isplitl [Hk HA HB Ho HO]
  · isplitr; · iexact Hmw
    isplitl [Hk]; · iexact Hk
    isplitl [HA]; · iexact HA
    isplitl [HB]; · iexact HB
    isplitr
    · iapply (Entails.of_eq (pts_rows_none d (a := lo i) (b := lo i + 256 * (2 * 0)) (by omega) fullShare (gath Tb Xs)).symm)
      itrivial
    isplitl [Ho]; · iexact Ho
    iexists (insert (SemLoc.dma cc0_scoped1.sem, none) (insert (SemLoc.dma cc0_scoped0.sem, none) W))
    isplitr
    · ipureintro; exact waits_insert (waits_insert (fun _ h => .inl h) _) _
    iexact HO
  isplitl [Ht]; · iexact Ht
  isplitl [Hx]; · iexact Hx
  isplitl [Hs0]; · iexact Hs0
  iexact Hs1

/-- The whole task. -/
theorem tile_body (hXs : ∀ z, (Xs z).toNat < 7) (q q' : PosShare TreeShare) (hO : ∀ g, O g none = 0) :
    iprop(levAts (K (F := F)).L (K (F := F)).lev ∗ emp ∗ given d i Tb Xs q q' f₀
        ∗ scopedBufs (tile d i) ∗ scopedSems0 (tile d i) ∗ owes (tile d i) O W)
      ⊢ wp frame (wpE (defs₀ (F := F)) 𝒱₀ (tile d i) none) Set.univ
          (cc0_expand_kernel (F := F) i tV (Memref.isWhole_whole _) xV (Memref.isWhole_whole _) oV (Memref.isWhole_whole _)
            tabV (Memref.isWhole_whole _) wdsV (Memref.isWhole_whole _) bankA (Memref.isWhole_whole _) bankB (Memref.isWhole_whole _)
            cc0_scratch4 cc0_scratch5 cc0_scoped0 cc0_scoped1)
          fun _ => iprop(given d i Tb Xs q q' (gath Tb Xs) ∗ scopedBufs (tile d i) ∗ scopedSems0 (tile d i)
            ∗ ∃ W', ⌜∀ p ∈ W', p ∈ W ∨ p.2 = none⌝ ∗ owes (tile d i) O W') := by
  rw [cc0_expand_kernel_eq_skeleton]
  unfold cc0_expand_kernel_skel
  rw [(K (F := F)).scopedBufs_V facts d (cV i) (jV i), SparseCore.Cfg.scopedSems0_V (Val := Elt F) d (cV i) (jV i), ownSems_tile, ownBufs_tile,
    wp_bind]
  iintro ⟨#Hlv, -, Hg, ⟨Htab, Hwds, HA, HB, Hbufs⟩, ⟨HsA, HsB, Hs0, Hs1, Hsems⟩, HO⟩
  iapply (wp_wand_r frame (wpE (defs₀ (F := F)) 𝒱₀ (tile d i) none) Set.univ)
  isplitl [Hg Htab Hwds HA HB HsA HsB Hs0 Hs1 HO]
  · iapply (wp_prologue d i Tb Xs f₀ O W hXs q q')
    isplitr; · iapply ((K (F := F)).mayWaits_none (thr := tile d i) hO); iexact Hlv
    isplitl [Hg]; · iexact Hg
    isplitl [Htab]; · iexact Htab
    isplitl [Hwds]; · iexact Hwds
    isplitl [HA]; · iexact HA
    isplitl [HB]; · iexact HB
    isplitl [HsA]; · iexact HsA
    isplitl [HsB]; · iexact HsB
    isplitl [Hs0]; · iexact Hs0
    isplitl [Hs1]; · iexact Hs1
    iexact HO
  iintro %r ⟨%hr, Hst, Ht, Hx, Hs0, Hs1⟩
  subst hr
  simp only [Prog.lift, Prog.bind_op, Prog.bind_ret, Prog.pure_eq_ret]
  rw [wp_bind]
  iapply (wp_wand_r frame (wpE (defs₀ (F := F)) 𝒱₀ (tile d i) none) Set.univ)
  isplitl [Hst]
  · iapply (Scf.wp_for frame (wpE (defs₀ (F := F)) 𝒱₀ (tile d i) none) Set.univ _ _ _ k0_t3_ok () _
      (fun k _ => steady d i Tb Xs f₀ O W k) (wp_steady hXs))
    isplitl [Hst]; · iexact Hst
    iintro %u H
    iexact H
  iintro %u Hst
  ihave Hst := (Entails.of_eq (show steady d i Tb Xs f₀ O W (Scf.trips k0_t3_loop.lb k0_t3_loop.ub k0_t3_loop.st) = steady d i Tb Xs f₀ O W 24 from
    congrArg (steady d i Tb Xs f₀ O W) trips_steady)) $$ Hst
  unfold steady
  icases Hst with ⟨#Hmw, Hk, HA, HB, Hd, -, ⟨%W', %hW', HO⟩⟩
  iapply (wp_arrived (k0_off330_inb i)) $$ [HA HO]
  · isplitr; · iexact Hmw
    isplitl [HA]; · iexact HA
    iexact HO
  iintro ⟨HdA, HA, HsA, HO⟩
  iapply (wp_arrived (k0_off330_inb i)) $$ [HB HO]
  · isplitr; · iexact Hmw
    isplitl [HB]; · iexact HB
    iexact HO
  iintro ⟨HdB, HB, HsB, HO⟩
  rw [wp_ret]; imodintro
  isplitl [Ht Hx Hd HdA HdB]
  · unfold given
    isplitl [Ht]; · iexact Ht
    isplitl [Hx]; · iexact Hx
    iapply (Entails.of_eq (show (oLoc d ↦[rows (lo i) (lo i + 12800)]{fullShare} gath Tb Xs : sProp (MM F))
        = iprop((oLoc d ↦[rows (lo i) (lo i + 256 * (2 * 24))]{fullShare} gath Tb Xs)
          ∗ (oLoc d ↦[rows (lo i + 256 * (2 * 24)) (lo i + 256 * (2 * 24) + 256)]{fullShare} gath Tb Xs)
          ∗ oLoc d ↦[rows (lo i + 256 * (2 * 24 + 1)) (lo i + 256 * (2 * 24 + 1) + 256)]{fullShare} gath Tb Xs) from
        pts_rows_three d rfl rfl (by omega) (by omega) (by omega) (by omega) (by omega) _ _).symm)
    isplitl [Hd]; · iexact Hd
    isplitl [HdA]; · iexact HdA
    iexact HdB
  unfold kept
  icases Hk with ⟨Htab, Hwds⟩
  isplitl [Htab Hwds HA HB Hbufs]
  · isplitl [Htab]; · iexists _; iexact Htab
    isplitl [Hwds]; · iexists _; iexact Hwds
    isplitl [HA]; · iexact HA
    isplitl [HB]; · iexact HB
    iexact Hbufs
  isplitl [HsA HsB Hs0 Hs1 Hsems]
  · isplitl [HsA]; · iexact HsA
    isplitl [HsB]; · iexact HsB
    isplitl [Hs0]; · iexact Hs0
    isplitl [Hs1]; · iexact Hs1
    iexact Hsems
  iexists (insert (SemLoc.dma cc0_scratch5.sem, none) (insert (SemLoc.dma cc0_scratch4.sem, none) W'))
  isplitr
  · ipureintro; exact waits_insert (waits_insert hW' _) _
  iexact HO

end Task

end Cert.Proof.Expand

end
-- ==== Proof.Launch.lean ====
/-
  The launch: what the call hands each tile and takes back, @main around it, and the run of the whole program. Every device
  ends with its arguments as they were and the result at the reshape of `gath`.
-/
module

public import proofs.«01_k».proof.Proof.Task
public import Idealize.ShloMosaic.Lib.ShareLeaves
public import Idealize.ShloMosaic.Lib.StableHlo.Run
public import Idealize.ShloMosaic.Lib.SparseCore.Quiescent

@[expose] public section

noncomputable section

namespace Cert.Proof.Expand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.ValueIdx (ix1 ix2 ix3 eq_ix1 eq_ix2 eq_ix3)

variable {F : FTy → Type} [FloatOps F]

/-! ## The arrays dealt to the tiles -/

/-- The grid point of SparseCore `c`, subcore `s`. -/
def pt (c : Fin 2) (s : Fin 16) : grid0.Coords :=
  fun | 0 => c | 1 => s | ⟨_ + 2, h⟩ => absurd h (Nat.not_lt.2 (Nat.le_add_left _ _))

theorem wid_pt (c : Fin 2) (s : Fin 16) : wid (pt c s) = s.val * 2 + c.val := rfl

/-- The share of the read arrays a tile holds: one of thirty-two. -/
def part (c : Fin 2) (s : Fin 16) : PosShare TreeShare := ShareLeaves.leaf 4 (ShareLeaves.leaf 1 fullShare c) s

def share (d : Dev nD) (Tb : S448.Idx → Elt F .f32) (Xs : S32x200x128.Idx → BitVec 32) (f : Buf (Elt F) (oLoc d)) (c : Fin 2) (s : Fin 16) :
    sProp (MM F) := given d (pt c s) Tb Xs (part c s) (part c s) f

theorem pts_parts (ℓ : Loc nD τ sig) (f : Buf (Elt F) ℓ) :
    (ℓ ↦{fullShare} f : sProp (MM F)) = bigSep Finset.univ fun c : Fin 2 => bigSep Finset.univ fun s : Fin 16 => ℓ ↦{part c s} f := by
  refine (ShareLeaves.pointsTo_leaves Finset.univ f 1 fullShare).trans (bigSep_congr fun c _ => ?_)
  exact ShareLeaves.pointsTo_leaves Finset.univ f 4 (ShareLeaves.leaf 1 fullShare c)

abbrev tileRows (c : Fin 2) (s : Fin 16) : Finset S409600x128.Idx := rows (lo (pt c s)) (lo (pt c s) + 12800)

theorem mem_tileRows {c : Fin 2} {s : Fin 16} {y : S409600x128.Idx} : y ∈ tileRows c s ↔ (y 0).val / 12800 = s.val * 2 + c.val := by
  rw [mem_rows]
  show (s.val * 2 + c.val) * 12800 ≤ _ ∧ _ < (s.val * 2 + c.val) * 12800 + 12800 ↔ _
  omega

theorem tileRows_disjoint {c c' : Fin 2} {s s' : Fin 16} (h : ¬ (c = c' ∧ s = s')) : Disjoint (tileRows c s) (tileRows c' s') :=
  Finset.disjoint_left.mpr fun y hy hy' => by
    rw [mem_tileRows] at hy hy'
    have := c.isLt; have := c'.isLt
    exact h ⟨Fin.ext (by omega), Fin.ext (by omega)⟩

theorem pts_tiles (d : Dev nD) (f : Buf (Elt F) (oLoc d)) :
    (oLoc d ↦{fullShare} f : sProp (MM F))
      = bigSep Finset.univ fun c : Fin 2 => bigSep Finset.univ fun s : Fin 16 => oLoc d ↦[tileRows c s]{fullShare} f := by
  have hin : ∀ c : Fin 2, (bigSep Finset.univ fun s : Fin 16 => (oLoc d ↦[tileRows c s]{fullShare} f : sProp (MM F)))
      = (oLoc d ↦[Finset.univ.biUnion fun s : Fin 16 => tileRows c s]{fullShare} f) := fun c =>
    (pointsTo_biUnion Finset.univ (ℓ := oLoc d) (fun s : Fin 16 => tileRows c s)
      (fun s _ s' _ h => tileRows_disjoint fun e => h e.2)).symm
  rw [bigSep_congr fun c _ => hin c, ← pointsTo_biUnion Finset.univ (ℓ := oLoc d) (fun c : Fin 2 => Finset.univ.biUnion fun s : Fin 16 => tileRows c s)]
  · refine congrArg (fun I => (oLoc d ↦[I]{fullShare} f : sProp (MM F))) (Finset.eq_univ_iff_forall.mpr fun y => ?_).symm
    have hy : (y 0).val < 409600 := (y 0).isLt
    refine Finset.mem_biUnion.mpr ⟨⟨(y 0).val / 12800 % 2, by omega⟩, Finset.mem_univ _, Finset.mem_biUnion.mpr
      ⟨⟨(y 0).val / 12800 / 2, by omega⟩, Finset.mem_univ _, mem_tileRows.mpr ?_⟩⟩
    show (y 0).val / 12800 = (y 0).val / 12800 / 2 * 2 + (y 0).val / 12800 % 2
    omega
  · intro c _ c' _ h
    refine Finset.disjoint_left.mpr fun y hy hy' => ?_
    obtain ⟨s, -, hs⟩ := Finset.mem_biUnion.mp hy
    obtain ⟨s', -, hs'⟩ := Finset.mem_biUnion.mp hy'
    exact Finset.disjoint_left.mp (tileRows_disjoint fun e => h e.1) hs hs'

/-- All the tiles' shares are the three arrays. -/
theorem shares_eq (d : Dev nD) (Tb : S448.Idx → Elt F .f32) (Xs : S32x200x128.Idx → BitVec 32) (f : Buf (Elt F) (oLoc d)) :
    (bigSep Finset.univ fun c : Fin 2 => bigSep Finset.univ fun s : Fin 16 => share d Tb Xs f c s)
      = iprop((tLoc d ↦{fullShare} (Tb : Buf (Elt F) (tLoc d))) ∗ (xLoc d ↦{fullShare} (Xs : Buf (Elt F) (xLoc d))) ∗ oLoc d ↦{fullShare} f) := by
  unfold share given
  rw [pts_parts (tLoc d), pts_parts (xLoc d), pts_tiles d, ← bigSep_sep', ← bigSep_sep']
  refine bigSep_congr fun c _ => ?_
  rw [bigSep_sep', bigSep_sep']

/-! ## What the launch hands the threads -/

variable (m : (ℓ : Loc nD τ sig) → Buf (Elt F) ℓ) (ρ : Dev nD → PrngReg)

abbrev aLoc (d : Dev nD) : Loc nD τ sig := (SparseCore.T d).loc main_arg0
abbrev wLoc (d : Dev nD) : Loc nD τ sig := (SparseCore.T d).loc main_arg1
abbrev rLoc (d : Dev nD) : Loc nD τ sig := (SparseCore.T d).loc main_v3

/-- The words and the table as the call reads them, and the result. -/
def Xs (d : Dev nD) : S32x200x128.Idx → BitVec 32 := shapeCast S32x200x128 (m (aLoc d)) shapeCasts_S4096x200_S32x200x128
def Tb (d : Dev nD) : S448.Idx → Elt F .f32 := shapeCast S448 (m (wLoc d)) shapeCasts_S7x64_S448
def Res (d : Dev nD) : S4096x12800.Idx → Elt F .f32 := shapeCast S4096x12800 (gath (Tb m d) (Xs m d)) shapeCasts_S409600x128_S4096x12800

/-- What the launch asks of the words: each names a row of the table. -/
def InVocab : Prop := ∀ d z, (Xs m d z).toNat < 7

def P : (K (F := F)).Pay (nD := nD) (Val := Elt F) (Name := ℕ) (U := UU) where
  st := fun q d c => match q with | 0 => bigSep Finset.univ fun s : Fin 16 => share d (Tb m d) (Xs m d) (m (oLoc d)) c s
  dn := fun q d c => match q with | 0 => bigSep Finset.univ fun s : Fin 16 => share d (Tb m d) (Xs m d) (gath (Tb m d) (Xs m d)) c s
  go := fun q d c s => match q with | 0 => share d (Tb m d) (Xs m d) (m (oLoc d)) c s
  td := fun q d c s => match q with | 0 => share d (Tb m d) (Xs m d) (gath (Tb m d) (Xs m d)) c s
  x := fun _ _ => iprop(emp)

instance share_storable (d : Dev nD) (Tb : S448.Idx → Elt F .f32) (Xs : S32x200x128.Idx → BitVec 32) (f : Buf (Elt F) (oLoc d)) (c : Fin 2) (s : Fin 16) :
    BI.Storable (upEmb : UEmb _ (MM F)) (share d Tb Xs f c s) := by unfold share given; infer_instance

instance P_storable : (P (F := F) m).IsStorable where
  st q d c := match q with
    | 0 => (inferInstance : BI.Storable (upEmb : UEmb _ (MM F)) (bigSep Finset.univ fun s : Fin 16 => share d (Tb m d) (Xs m d) (m (oLoc d)) c s))
  dn q d c := match q with
    | 0 => (inferInstance : BI.Storable (upEmb : UEmb _ (MM F)) (bigSep Finset.univ fun s : Fin 16 => share d (Tb m d) (Xs m d) (gath (Tb m d) (Xs m d)) c s))
  go q d c s := match q with | 0 => share_storable d (Tb m d) (Xs m d) (m (oLoc d)) c s
  td q d c s := match q with | 0 => share_storable d (Tb m d) (Xs m d) (gath (Tb m d) (Xs m d)) c s

/-! ## The launch theorem's obligations -/

theorem defs₀_vector (c : Fin τ.nSC) (s : Fin τ.nSub) :
    defs₀ (F := F) (.scVector c s) 0 ()
      = SparseCore.onTile hcore0 hsub0 (fun c s => cc0_expand_kernel (F := F) (pt c s) tV (Memref.isWhole_whole _) xV (Memref.isWhole_whole _)
          oV (Memref.isWhole_whole _) tabV (Memref.isWhole_whole _) wdsV (Memref.isWhole_whole _) bankA (Memref.isWhole_whole _)
          bankB (Memref.isWhole_whole _) cc0_scratch4 cc0_scratch5 cc0_scoped0 cc0_scoped1) ⟨⟩ c s := rfl

theorem obl_post {thr : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') :=
  sep_mono .rfl (sep_mono .rfl (sep_mono .rfl (by
    iintro ⟨%W', %hW', HO⟩
    iexists W'; isplitr
    · ipureintro; exact fun p hp => (hW' p hp).imp_right Or.inl
    · iexact HO)))

theorem tileObl (hX : InVocab m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (pt ⟨_, hc.1⟩ ⟨_, hc.2⟩) (Tb m d) (Xs m d) (m (oLoc d)) O W (hX d) _ _ hO).trans (wp_mono frame _ _ fun _ => obl_post)

theorem vecSplit : (K (F := F)).VecSplit' (P m) 0 := by
  intro d c
  show (bigSep Finset.univ fun s : Fin 16 => share d (Tb m d) (Xs m d) (m (oLoc d)) c s) ⊢ |={Set.univ}=> iprop(
      (bigSep Finset.univ fun s : Fin 16 => share d (Tb m d) (Xs m d) (m (oLoc d)) c s)
      ∗ ((bigSep Finset.univ fun s : Fin 16 => share d (Tb m d) (Xs m d) (gath (Tb m d) (Xs m d)) c s)
          -∗ bigSep Finset.univ fun s : Fin 16 => share d (Tb m d) (Xs m d) (gath (Tb m d) (Xs m d)) c s))
  iintro H; imodintro
  isplitl [H]; · iexact H
  iintro H
  iexact H

/-! ## The launch element: the handshakes' rounds; nothing of the kernel's own -/

def u₀ : UU := (initOf (K (F := F)).hsCells (K (F := F)).hsToks, 1)

theorem hu₀ : (ownU (u₀ (F := F)) : sProp (MM F))
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have hx : (bigSep Finset.univ fun thr : Thread nD τ => bigSep Finset.univ fun q : Fin 1 => (P m).x q thr) = (iprop(emp) : sProp (MM F)) :=
    (bigSep_congr fun _ _ => bigSep_emp_const _).trans (bigSep_emp_const _)
  have hd : (bigSep Finset.univ fun _ : Dev nD => (iprop(emp) : sProp (MM F))) = iprop(emp) := bigSep_emp_const _
  rw [hx, hd]
  unfold u₀
  iintro Hu
  ihave H := (ownU_pair _ _) $$ Hu
  icases H with ⟨HH, -⟩
  imodintro
  isplitl [HH]; · iexact HH
  isplitr <;> iempintro

/-! ## @main on the TensorCore -/

include m in
/-- A reshape of @main: the array read keeps its contents, the array written holds them at its own shape. -/
theorem wp_reshape {d : Dev nD} {x y : Ref sig .tc} (hxy : (Proc.devRef .tc x : DevRef τ sig) ≠ Proc.devRef .tc y) {he : x.ty.elt = y.ty.elt}
    {hn : x.ty.shape.ShapeCasts y.ty.shape} {hx : x.space ≠ .host ∧ (Proc.devRef .tc x : DevRef τ sig).isScoped = false}
    {hy : y.space ≠ .host ∧ (Proc.devRef .tc y : DevRef τ sig).isScoped = false}
    (fx : Buf (Elt F) ((SparseCore.T d).loc x)) (fy : Buf (Elt F) ((SparseCore.T d).loc y)) {Q : PUnit → sProp (MM F)} :
    iprop(boundary (SparseCore.T d) ∗ ((SparseCore.T d).loc x ↦{fullShare} fx) ∗ (SparseCore.T d).loc y ↦{fullShare} fy)
      ⊢ iprop((iprop(boundary (SparseCore.T d) ∗ ((SparseCore.T d).loc x ↦{fullShare} fx)
            ∗ (SparseCore.T d).loc y ↦{fullShare} (fun j => he ▸ shapeCast y.ty.shape fx hn j)) -∗ Q ⟨⟩)
        -∗ wp frame (wpE ((K (F := F)).defs (D (F := F))) 𝒱 (SparseCore.T d) none) Set.univ
          (hlo rfl (StableHlo.reshape x y he hn hx hy) (fun _ => .ret ⟨⟩)) Q) := by
  have hbufs : ∀ U : Valuation τ sig (Elt F), (held (SparseCore.T d) {Proc.devRef .tc x, Proc.devRef .tc y} U : sProp (MM F))
      = iprop(((SparseCore.T d).loc x ↦{fullShare} U (Proc.devRef .tc x)) ∗ (SparseCore.T d).loc y ↦{fullShare} U (Proc.devRef .tc y)) := fun U => by
    unfold held
    rw [SparseCore.bigSep_insert' (by rw [Finset.mem_singleton]; exact hxy), bigSep_singleton]
  iintro ⟨Hb, Hx, Hy⟩ Hk
  iapply (wp_hlo_within 𝒱 (SparseCore.T d) none Set.univ (op := StableHlo.reshape x y he hn hx hy)
    (S := {Proc.devRef .tc x, Proc.devRef .tc y}) (Finset.Subset.refl _)
    (V := Function.update (Function.update (fun b => m (d, b)) (Proc.devRef .tc x) fx) (Proc.devRef .tc y) fy)) $$ [Hb Hx Hy]
  · isplitl [Hb]; · iexact Hb
    rw [hbufs, Function.update_self, Function.update_of_ne hxy, Function.update_self]
    isplitl [Hx]; · iexact Hx
    iexact Hy
  rw [hbufs, StableHlo.reshape_result, HloOp.result_of_not_mem _ _ (b := Proc.devRef .tc x)
    (show Proc.devRef .tc x ∉ ({Proc.devRef .tc y} : Finset (DevRef τ sig)) by rw [Finset.mem_singleton]; exact hxy),
    Function.update_of_ne hxy, Function.update_self]
  iintro ⟨Hb, Hx, Hy⟩
  rw [wp_ret]; imodintro
  iapply Hk
  isplitl [Hb]; · iexact Hb
  isplitl [Hx]; · iexact Hx
  iexact Hy

theorem unscopedBufs_eq (d : Dev nD) (U : (b : Ref sig .tc) → Buf (Elt F) ((d.tc : Thread nD τ).loc b)) :
    (unscopedBufs d U : sProp (MM F)) = iprop((aLoc d ↦{fullShare} U main_arg0) ∗ (wLoc d ↦{fullShare} U main_arg1) ∗ (xLoc d ↦{fullShare} U main_v0)
      ∗ (tLoc d ↦{fullShare} U main_v1) ∗ (oLoc d ↦{fullShare} U main_v2) ∗ rLoc d ↦{fullShare} U main_v3) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

/-- What @main leaves for the claim. -/
abbrev FIN (d : Dev nD) : sProp (MM F) :=
  iprop((aLoc d ↦{fullShare} m (aLoc d)) ∗ (wLoc d ↦{fullShare} m (wLoc d)) ∗ rLoc d ↦{fullShare} (Res m d : Buf (Elt F) (rLoc d)))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ha, Hw, Hx, Ht, Ho, Hr⟩, Hts, -⟩, -⟩
  iapply (wp_reshape m (by decide) (m (aLoc d)) (m (xLoc d))) $$ [Hb Ha Hx]
  · isplitl [Hb]; · iexact Hb
    isplitl [Ha]; · iexact Ha
    iexact Hx
  iintro ⟨Hb, Ha, Hx⟩
  iapply (wp_reshape m (by decide) (m (wLoc d)) (m (tLoc d))) $$ [Hb Hw Ht]
  · isplitl [Hb]; · iexact Hb
    isplitl [Hw]; · iexact Hw
    iexact Ht
  iintro ⟨Hb, Hw, Ht⟩
  iapply ((K (F := F)).wp_run (D (F := F)) 𝒱 (EH := EH) (P := P m) κ d 0) $$ [Hst Ha Hw Hx Ht Ho Hr Hb Hts]
  isplitr; · iexact Hctx
  isplitl [Hst]; · iexact Hst
  isplitl [Hx Ht Ho]
  · iapply (Entails.of_eq (shares_eq d (Tb m d) (Xs m d) (m (oLoc d))).symm)
    isplitl [Ht]; · iexact Ht
    isplitl [Hx]; · iexact Hx
    iexact Ho
  iintro ⟨Hst, Hdn⟩
  ihave Hdn := (show (bigSep Finset.univ fun c : Fin ((K (F := F)).nCore 0) => (P m).dn 0 d c) ⊢ _ from
    Entails.of_eq (shares_eq d (Tb m d) (Xs m d) (gath (Tb m d) (Xs m d)))) $$ Hdn
  icases Hdn with ⟨-, -, Ho⟩
  iapply (wp_reshape m (by decide) (gath (Tb m d) (Xs m d)) (m (rLoc d))) $$ [Hb Ho Hr]
  · isplitl [Hb]; · iexact Hb
    isplitl [Ho]; · iexact Ho
    iexact Hr
  iintro ⟨Hb, -, Hr⟩
  imodintro
  isplitl [Hst]; · iexact Hst
  isplitr [Hb Hts]
  · isplitl [Ha]; · iexact Ha
    isplitl [Hw]; · iexact Hw
    iexact Hr
  isplitl [Hb] <;> iassumption

def fq (d : Dev nD) (s' : Phys nD τ sig (Elt F)) : Prop :=
  s'.mem.mem (aLoc d) = m (aLoc d) ∧ s'.mem.mem (wLoc d) = m (wLoc d) ∧ s'.mem.mem (rLoc d) = Res m d

/-- An array held in full is what the memory holds. -/
theorem held_agrees {s' : Phys nD τ sig (Elt F)} {ℓ : Loc nD τ sig} {f : Buf (Elt F) ℓ} :
    iprop(SI s' ∗ (ℓ ↦{fullShare} f)) ⊢ (iprop(⌜s'.mem.mem ℓ = f⌝ ∗ SI s' ∗ (ℓ ↦{fullShare} f)) : sProp (MM F)) := by
  iintro ⟨HSI, Hf⟩
  ihave H := (persistent_entails_right (SI_pointsTo_agree (st := s') (ℓ := ℓ) (I := Finset.univ) (q := fullShare) (f := f))) $$ [HSI Hf]
  · isplitl [HSI] <;> iassumption
  icases H with ⟨%h, HSI, Hf⟩
  isplitr; · ipureintro; exact funext fun j => h j (Finset.mem_univ j)
  isplitl [HSI]; · iexact HSI
  iexact Hf

theorem hfin (d : Dev nD) (s' : Phys nD τ sig (Elt F)) : iprop(FIN m d ∗ SI s') ⊢ (⌜fq m d s'⌝ : sProp (MM F)) := by
  iintro ⟨⟨Ha, Hw, Hr⟩, HSI⟩
  ihave H := held_agrees $$ [HSI Ha]
  · isplitl [HSI]; · iexact HSI
    iexact Ha
  icases H with ⟨%ha, HSI, -⟩
  ihave H := held_agrees $$ [HSI Hw]
  · isplitl [HSI]; · iexact HSI
    iexact Hw
  icases H with ⟨%hw, HSI, -⟩
  ihave H := held_agrees $$ [HSI Hr]
  · isplitl [HSI]; · iexact HSI
    iexact Hr
  icases H with ⟨%hr, -, -⟩
  ipureintro; exact ⟨ha, hw, hr⟩

/-! ## The program's run -/

def QC : PUnit × MemSt nD τ sig (Elt F) → Prop := fun r =>
  (∀ d : Dev nD, r.2.mem (aLoc d) = m (aLoc d) ∧ r.2.mem (wLoc d) = m (wLoc d) ∧ r.2.mem (rLoc d) = Res m d) ∧ r.2.sem = fun _ => 0

theorem run_main [∀ e, Nonempty (Elt F e)] (hX : InVocab m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hX)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Expand

end
-- ==== Proof.Taken.lean ====
/-
  The reference's result. It looks each word of `x` up in the table's rows; with every word below 7 neither its wrap of
  negative words nor its fill for words out of range is ever taken, and an element of the result is the table's.
-/
module

public import proofs.«01_k».proof.Proof.Gen.ReferenceIdeal
public import proofs.«01_k».proof.Proof.Gen.ReferenceIdeal.Run
public import Idealize.ShloMosaic.Lib.ValueIdxCore
public import Idealize.ShloMosaic.Lib.ReduceAll
public import Idealize.ShloMosaic.Lib.Pipeline.Value

@[expose] public section

noncomputable section

namespace Cert.Proof.Taken

open Cert.ReferenceIdeal Cert.ReferenceIdeal.Gen

open Idealize.ShloMosaic Idealize.ShloMosaic.TcCoe Idealize.SL.Sem
open Idealize.ShloMosaic.ValueIdx (ix0 ix1 ix2 ix3 eq_ix2 eq_ix3)

variable {F : FTy → Type} [FloatOps F]

/-! ## A word below 7 -/

theorem word_cases (v : BitVec 32) (h : v.toNat < 7) : ∃ k : Fin 7, v = BitVec.ofNat 32 k.val :=
  ⟨⟨v.toNat, h⟩, BitVec.eq_of_toNat_eq (by
    rw [BitVec.toNat_ofNat, Nat.mod_eq_of_lt (by omega)])⟩

theorem word_not_neg {v : BitVec 32} (h : v.toNat < 7) : IntOp.cmpi .slt v 0#32 = 0#1 := by
  obtain ⟨k, rfl⟩ := word_cases v h
  revert k; decide

theorem word_in_range {v : BitVec 32} (h : v.toNat < 7) : IntOp.andi (IntOp.cmpi .sge v 0#32) (IntOp.cmpi .sle v 6#32) = 1#1 := by
  obtain ⟨k, rfl⟩ := word_cases v h
  revert k; decide

theorem word_toInt {v : BitVec 32} (h : v.toNat < 7) : v.toInt.toNat = v.toNat := by
  obtain ⟨k, rfl⟩ := word_cases v h
  revert k; decide

/-! ## The lookup -/

/-- The element of the result at `j`: lane `j 1 % 64` of the row that word `j 1 / 64` of row `j 0` names. -/
def look (W : S7x64.Idx → Elt F .f32) (A : S4096x200.Idx → BitVec 32) : S4096x12800.Idx → Elt F .f32 := fun j =>
  W (ix2 ⟨(A (ix2 (j 0) ⟨(j 1).val / 64, Nat.div_lt_iff_lt_mul (by decide) |>.mpr (j 1).isLt⟩)).toNat % 7, Nat.mod_lt _ (by decide)⟩
    ⟨(j 1).val % 64, Nat.mod_lt _ (by decide)⟩)

/-- The words, negative ones counted from the end. -/
abbrev wrapped (A : IVec S4096x200 32) : IVec S4096x200 32 :=
  select (cmpi .slt A (broadcastInDim S4096x200 ![] bcast_S_S4096x200 (constantI S_ 32 0#32)))
    (addi A (broadcastInDim S4096x200 ![] bcast_S_S4096x200 (constantI S_ 32 7#32))) A

theorem wrapped_eq {A : IVec S4096x200 32} (hA : ∀ z, (A z).toNat < 7) : wrapped A = A :=
  funext fun z => by
    show Scalar.select (IntOp.cmpi .slt (A z) 0#32) _ _ = _
    rw [word_not_neg (hA z)]; rfl

/-- Each word on an axis of its own. -/
abbrev starts (A : IVec S4096x200 32) : IVec S4096x200x1 32 := broadcastInDim S4096x200x1 ![0, 1] bcast_S4096x200_S4096x200x1_0_1 A

theorem starts_apply (A : IVec S4096x200 32) (z : S4096x200x1.Idx) : starts A z = A (ix2 (z 0) (z 1)) :=
  broadcastInDim_apply _ _ _ _ (ix2 (z 0) (z 1)) fun a => match a with
    | ⟨0, _⟩ => rfl
    | ⟨1, _⟩ => rfl

/-- Which words are rows of the table. -/
abbrev known (A : IVec S4096x200 32) : IVec S4096x200 1 :=
  Host.reduce IntOp.andi (andi (cmpi .sge (starts A) (broadcastInDim S4096x200x1 ![] bcast_S_S4096x200x1 (constantI S_ 32 0#32)))
    (cmpi .sle (starts A) (broadcastInDim S4096x200x1 ![0, 1, 2] bcast_S1x1x1_S4096x200x1_0_1_2
      (broadcastInDim S1x1x1 ![2] bcast_S1_S1x1x1_2 (constantI S1 32 6#32)))))
    (constantI S_ 1 1#1) reducesTo_S4096x200x1_S4096x200_d2 h_S_

theorem known_eq {A : IVec S4096x200 32} (hA : ∀ z, (A z).toNat < 7) (z : S4096x200.Idx) : known A z = 1#1 :=
  Host.reduce_andi_one _ _ _ _ _ rfl fun y => by
    show IntOp.andi (IntOp.cmpi .sge (starts A y) 0#32) (IntOp.cmpi .sle (starts A y) 6#32) = 1#1
    rw [starts_apply]
    exact word_in_range (hA _)

abbrev dims : GatherDims S7x64 S4096x200x1 S4096x200x64 := gather_S7x64_S4096x200x1_S4096x200x64_2_0_n_n_0_2_164

/-- A word's flag on every lane of its row. -/
theorem spread_apply (b : IVec S4096x200 1) (y : S4096x200x64.Idx) :
    broadcastInDim S4096x200x64 ![0, 1] bcast_S4096x200_S4096x200x64_0_1 b y = b (ix2 (y 0) (y 1)) :=
  broadcastInDim_apply _ _ _ _ (ix2 (y 0) (y 1)) fun a => match a with
    | ⟨0, _⟩ => rfl
    | ⟨1, _⟩ => rfl

/-- The rows looked up, one per word. -/
abbrev rowsOf (W : FVec F S7x64 .f32) (I : IVec S4096x200x1 32) : FVec F S4096x200x64 .f32 :=
  Host.gather dims W I

theorem rowsOf_apply (W : FVec F S7x64 .f32) (I : IVec S4096x200x1 32) (y : S4096x200x64.Idx) :
    rowsOf W I y = W (ix2 ⟨min (I (ix3 (y 0) (y 1) 0)).toInt.toNat 6, by omega⟩ (y 2)) := by
  unfold rowsOf Host.gather
  refine congrArg W (funext fun a => Fin.ext ?_)
  have h01 : a = 0 ∨ a = 1 := match a with
    | ⟨0, _⟩ => Or.inl rfl
    | ⟨1, _⟩ => Or.inr rfl
  show dims.start y I a + dims.batchCoord y a + dims.offCoord y a = _
  rw [dims.batchCoord_eq_zero _ _ List.not_mem_nil, Nat.add_zero]
  rcases h01 with rfl | rfl
  · rw [dims.offCoord_eq_zero _ _ fun h => ((dims.mem_sKept _).mp h).1 (List.mem_singleton.mpr rfl), Nat.add_zero]
    unfold GatherDims.start
    rw [dif_pos (show (0 : Fin 2) ∈ dims.startIndexMap from List.mem_singleton.mpr rfl)]
    have hz : dims.siIdx y ⟨List.idxOf (0 : Fin 2) dims.startIndexMap, List.idxOf_lt_length_iff.2 (List.mem_singleton.mpr rfl)⟩
        = ix3 (y 0) (y 1) 0 := funext fun b => Fin.ext (match b with
          | ⟨0, _⟩ => rfl
          | ⟨1, _⟩ => rfl
          | ⟨2, _⟩ => rfl)
    rw [hz]; rfl
  · have h1 : (1 : Fin 2) ∉ ([0] : List (Fin 2)) := by decide
    unfold GatherDims.start
    rw [dif_neg (show (1 : Fin 2) ∉ dims.startIndexMap from h1), Nat.zero_add]
    unfold GatherDims.offCoord
    rw [dif_pos (show (1 : Fin 2) ∈ dims.sKept from (dims.mem_sKept _).mpr ⟨h1, List.not_mem_nil⟩)]
    rfl

/-- The reference's result. -/
abbrev taken (W : FVec F S7x64 .f32) (A : IVec S4096x200 32) : S4096x12800.Idx → Elt F .f32 :=
  shapeCast S4096x12800 (select (broadcastInDim S4096x200x64 ![0, 1] bcast_S4096x200_S4096x200x64_0_1 (known (wrapped A))) (rowsOf W (starts (wrapped A)))
    (broadcastInDim S4096x200x64 ![] bcast_S_S4096x200x64 (constant S_ .f32 0x7FC00000#32))) shapeCasts_S4096x200x64_S4096x12800

theorem taken_eq (W : FVec F S7x64 .f32) {A : IVec S4096x200 32} (hA : ∀ z, (A z).toNat < 7) : taken W A = look W A :=
  funext fun j => by
    have hj : (j 1).val < 12800 := (j 1).isLt
    let y : S4096x200x64.Idx := ix3 (j 0) ⟨(j 1).val / 64, by omega⟩ ⟨(j 1).val % 64, by omega⟩
    unfold taken
    rw [wrapped_eq hA, shapeCast_apply _ _ j y (by
      rw [Shape.rowMajor_val_three, Shape.rowMajor_val_two]
      show ((j 0).val * 200 + (j 1).val / 64) * 64 + (j 1).val % 64 = (j 0).val * 12800 + (j 1).val
      omega)]
    show Scalar.select (broadcastInDim S4096x200x64 ![0, 1] bcast_S4096x200_S4096x200x64_0_1 (known A) y) (rowsOf W (starts A) y) _ = _
    rw [spread_apply, known_eq hA, rowsOf_apply]
    show W _ = W _
    refine congrArg W (funext fun a => Fin.ext ?_)
    match a with
    | ⟨0, _⟩ =>
      have hv := hA (ix2 (y 0) (y 1))
      show min (starts A (ix3 (y 0) (y 1) 0)).toInt.toNat 6 = (A (ix2 (y 0) (y 1))).toNat % 7
      rw [show starts A (ix3 (y 0) (y 1) 0) = A (ix2 (y 0) (y 1)) from starts_apply A _, word_toInt hv]; omega
    | ⟨1, _⟩ => rfl

/-- The reference's run, from words below 7: the lookup, its arguments as they were. -/
theorem run_look (m : (ℓ : Loc nD τ sig) → Buf (Elt F) ℓ) (ρ : Dev nD → PrngReg)
    (hA : ∀ (c : Dev nD) z, ((m ((c.tc : Thread nD τ).loc main_arg0) : S4096x200.Idx → BitVec 32) z).toNat < 7) :
    θ_run defs (onTc (τ := τ) (main (F := F))) ⟨m, fun _ => 0, ρ⟩ fun r => ∀ c : Dev nD,
      r.2.mem ((c.tc : Thread nD τ).loc main_v1) = look (m ((c.tc : Thread nD τ).loc main_arg1)) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (taken_eq (m ((c.tc : Thread nD τ).loc main_arg1)) (hA c)), (h c).2⟩) (Value.run m ρ)

end Cert.Proof.Taken

end
-- ==== Proof.Value.lean ====
/-
  The precondition read as a bound on the words, and the kernel's result read at an element: the table's, where the
  reference looks.
-/
module

public import proofs.«01_k».proof.Proof.Launch
public import proofs.«01_k».proof.Proof.Taken
public import proofs.«01_k».proof.Proof.Gen.Pre_x_in_vocab

@[expose] public section

noncomputable section

namespace Cert.Proof.Expand

open Cert.KernelIdeal Cert.KernelIdeal.Gen

open Idealize.ShloMosaic
open Idealize.ShloMosaic.ValueIdx (ix1 ix2 ix3 eq_ix1 eq_ix2 eq_ix3)

variable {F : FTy → Type} [FloatOps F]

/-! ## The precondition -/

theorem ofBool_and (p q : Bool) : IntOp.andi (BitVec.ofBool p) (BitVec.ofBool q) = 1#1 → p = true ∧ q = true := by
  cases p <;> cases q <;> decide

/-- The precondition's test of one word, as a signed word: nonnegative and below 7 is below 7. -/
theorem below_of_test (v : BitVec 32) (h : IntOp.andi (IntOp.cmpi .sge v 0#32) (IntOp.cmpi .slt v 7#32) = 1#1) : v.toNat < 7 := by
  have hb := ofBool_and _ _ h
  have h0 := BitVec.sle_iff_toInt_le.mp hb.1
  have h7 := BitVec.slt_iff_toInt_lt.mp hb.2
  have e0 : (0#32 : BitVec 32).toInt = 0 := by decide
  have e7 : (7#32 : BitVec 32).toInt = 7 := by decide
  have hv := BitVec.toInt_eq_toNat_cond v
  have := v.isLt
  split at hv <;> omega

theorem words_below {A : IVec S4096x200 32} {W : FVec F S7x64 .f32} (h : Cert.Pre_x_in_vocab.fn (F := F) A W = fun _ => 1#1) (z : S4096x200.Idx) :
    (A z).toNat < 7 := below_of_test _ (congrFun h z)

theorem inVocab {m : (ℓ : Loc nD τ sig) → Buf (Elt F) ℓ} (h : ∀ d z, ((m (aLoc d) : S4096x200.Idx → BitVec 32) z).toNat < 7) : InVocab m :=
  fun d _ => h d _

/-! ## The result -/

/-- Word `n` of the kernel's list of words is word `n` of `x`, both in row-major order. -/
theorem slab_word (A : S4096x200.Idx → BitVec 32) (w k : ℕ) (hw : w < 32) (hk : k < 25600) {z : S4096x200.Idx}
    (hz : (z 0).val * 200 + (z 1).val = w * 25600 + k) :
    wordAt (slab (shapeCast S32x200x128 A shapeCasts_S4096x200_S32x200x128) w) (k / 128) (k % 128) = A z := by
  unfold wordAt slab
  refine shapeCast_apply _ _ _ z ?_
  rw [Shape.rowMajor_val_two, Shape.rowMajor_val_three]
  show (z 0).val * 200 + (z 1).val = (w % 32 * 200 + k / 128 % 200) * 128 + k % 128 % 128
  omega

/-- Element `64 r + l` of the kernel's flat table is lane `l` of row `r` of the table. -/
theorem table_word (W : S7x64.Idx → Elt F .f32) (r l : ℕ) (hr : r < 7) (hl : l < 64) :
    tabAt (shapeCast S448 W shapeCasts_S7x64_S448) (r * 64 + l) = W (ix2 ⟨r % 7, Nat.mod_lt _ (by decide)⟩ ⟨l, hl⟩) := by
  unfold tabAt
  refine shapeCast_apply _ _ _ _ ?_
  rw [Shape.rowMajor_val_two, Shape.rowMajor_val_one]
  show r % 7 * 64 + l = (r * 64 + l) % 448
  omega

/-- The kernel's result is the lookup. -/
theorem res_eq {W : S7x64.Idx → Elt F .f32} {A : S4096x200.Idx → BitVec 32} (hA : ∀ z, (A z).toNat < 7) :
    shapeCast S4096x12800 (gath (shapeCast S448 W shapeCasts_S7x64_S448) (shapeCast S32x200x128 A shapeCasts_S4096x200_S32x200x128))
      shapeCasts_S409600x128_S4096x12800 = Taken.look W A := funext fun j => by
  have h0 : (j 0).val < 4096 := (j 0).isLt
  have h1 : (j 1).val < 12800 := (j 1).isLt
  let z : S4096x200.Idx := ix2 (j 0) ⟨(j 1).val / 64, by omega⟩
  let y : S409600x128.Idx := ix2 ⟨(j 0).val * 100 + (j 1).val / 128, by omega⟩ ⟨(j 1).val % 128, by omega⟩
  rw [shapeCast_apply _ _ j y (by
    rw [Shape.rowMajor_val_two, Shape.rowMajor_val_two]
    show ((j 0).val * 100 + (j 1).val / 128) * 128 + (j 1).val % 128 = (j 0).val * 12800 + (j 1).val
    omega)]
  obtain ⟨R, hR⟩ : ∃ R, R = (j 0).val * 100 + (j 1).val / 128 := ⟨_, rfl⟩
  obtain ⟨c, hc⟩ : ∃ c, c = (j 1).val % 128 := ⟨_, rfl⟩
  show bankVal _ (slab _ (((j 0).val * 100 + (j 1).val / 128) / 12800)) 0 (((j 0).val * 100 + (j 1).val / 128) % 12800) ((j 1).val % 128) = _
  rw [← hR, ← hc]
  unfold bankVal
  rw [Nat.zero_add, slab_word A (R / 12800) (2 * (R % 12800) + c / 64) (by omega) (by omega) (z := z) (by
    show (j 0).val * 200 + (j 1).val / 64 = R / 12800 * 25600 + (2 * (R % 12800) + c / 64)
    omega), table_word W (A z).toNat (c % 64) (hA z) (Nat.mod_lt _ (by decide))]
  show W _ = W _
  refine congrArg W (funext fun a => Fin.ext ?_)
  match a with
  | ⟨0, _⟩ => rfl
  | ⟨1, _⟩ =>
    show c % 64 = (j 1).val % 64
    omega

end Cert.Proof.Expand

end
-- ==== Proof.lean ====
/-
  The certificate: the three programs' frames and the kernel's result, equal to the reference's.

  The kernel runs at any float values (Proof/Launch.lean), so its frame is the run at the bits and the value claim is the run
  at the ideal instance. Proof/Same.lean carries the run from the idealized program's text to the program's own.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_x_in_vocab
public import proofs.«01_k».proof.Proof.Same
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem

/-- The kernel's frame. -/
theorem frame_kernel : Cert.quiescent_Kernel := fun m ρ hpre => by
  rw [Same.defs_same, Same.threads_same]
  exact (θ_run Cert.KernelIdeal.defs _ _).mono (fun _ h => ⟨fun d => ⟨(h.1 d).1, (h.1 d).2.1⟩, h.2⟩)
    (Expand.run_main (F := Bits) m ρ (Expand.inVocab fun d => Expand.words_below (hpre d)))

theorem frame_ideal : Cert.quiescent_KernelIdeal := fun m ρ hpre =>
  (θ_run Cert.KernelIdeal.defs _ _).mono (fun _ h => ⟨fun d => ⟨(h.1 d).1, (h.1 d).2.1⟩, h.2⟩)
    (Expand.run_main (F := Ideal) m ρ (Expand.inVocab fun d => Expand.words_below (hpre d)))

/-- The reference's frame: it declares no semaphore. -/
theorem frame_reference : Cert.quiescent_ReferenceIdeal := fun m ρ _ =>
  (θ_run Cert.ReferenceIdeal.defs _ _).mono (fun r h => ⟨fun d => (h d).2, sem_eq_zero_of_no_sems (by decide) r.2⟩)
    (Cert.ReferenceIdeal.Value.run (F := Ideal) m ρ)

theorem frame_reference_pre : Cert.quiescent_ReferenceIdeal_pre_x_in_vocab := fun m ρ _ => frame_reference m ρ trivial

/-- The value claim: both results are the lookup of the words in the table. -/
theorem value : Cert.algebraic_KernelIdeal_ReferenceIdeal := by
  intro m ρ m' ρ' hpre hagree
  have hA : ∀ d z, ((m (Expand.aLoc d) : Cert.KernelIdeal.S4096x200.Idx → BitVec 32) z).toNat < 7 := fun d => Expand.words_below (hpre d)
  refine ⟨fun d => Expand.Res m d, (θ_run Cert.KernelIdeal.defs _ _).mono (fun _ h d => ⟨(h.1 d).2.2, (h.1 d).1, (h.1 d).2.1⟩)
    (Expand.run_main (F := Ideal) m ρ (Expand.inVocab hA)), ?_⟩
  refine (θ_run Cert.ReferenceIdeal.defs _ _).mono (fun _ h d => ⟨(h d).1.trans ?_, (h d).2⟩)
    (Taken.run_look (F := Ideal) m' ρ' fun d => by rw [(hagree d).1]; exact hA d)
  rw [(hagree d).1, (hagree d).2]
  exact (Expand.res_eq (hA d)).symm

theorem claim : Cert.Claim :=
  ⟨Cert.Kernel.Gen.facts, Cert.KernelIdeal.Gen.facts, Cert.ReferenceIdeal.Gen.facts, Cert.Pre_x_in_vocab.Gen.facts,
    frame_kernel, frame_ideal, frame_reference, frame_reference_pre, trivial, value⟩

end Cert.Proof

end
